-- ==== Defs.lean ====
def Pre_HiddenKernel (m : (ℓ : Loc Cert.HiddenKernel.nD Cert.HiddenKernel.τ Cert.HiddenKernel.sig) → Buf (Elt Bits) ℓ) : Prop :=
  True

def Pre_HiddenKernelIdeal (m : (ℓ : Loc Cert.HiddenKernelIdeal.nD Cert.HiddenKernelIdeal.τ Cert.HiddenKernelIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_InputKernel (m : (ℓ : Loc Cert.InputKernel.nD Cert.InputKernel.τ Cert.InputKernel.sig) → Buf (Elt Bits) ℓ) : Prop :=
  True

def Pre_InputKernelIdeal (m : (ℓ : Loc Cert.InputKernelIdeal.nD Cert.InputKernelIdeal.τ Cert.InputKernelIdeal.sig) → Buf (Elt Ideal) ℓ) : Prop :=
  True

def Pre_InputKernelIdeal_inputs_finite [hPre_inputs_finite : Cert.Pre_inputs_finite.Facts] (m : (ℓ : Loc Cert.InputKernelIdeal.nD Cert.InputKernelIdeal.τ Cert.InputKernelIdeal.sig) → Buf (Elt Ideal) ℓ) : Prop :=
  ∀ c : Dev Cert.InputKernelIdeal.nD,
    (Cert.Pre_inputs_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4))) = (fun _ => 1#1)

def Pre_InputReferenceIdeal (m : (ℓ : Loc Cert.InputReferenceIdeal.nD Cert.InputReferenceIdeal.τ Cert.InputReferenceIdeal.sig) → Buf (Elt Ideal) ℓ) : Prop :=
  True

def Pre_InputReferenceIdeal_inputs_finite [hPre_inputs_finite : Cert.Pre_inputs_finite.Facts] (m : (ℓ : Loc Cert.InputReferenceIdeal.nD Cert.InputReferenceIdeal.τ Cert.InputReferenceIdeal.sig) → Buf (Elt Ideal) ℓ) : Prop :=
  ∀ c : Dev Cert.InputReferenceIdeal.nD,
    (Cert.Pre_inputs_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4))) = (fun _ => 1#1)

def Pre_ForwardKernel (m : (ℓ : Loc Cert.ForwardKernel.nD Cert.ForwardKernel.τ Cert.ForwardKernel.sig) → Buf (Elt Bits) ℓ) : Prop :=
  True

def Pre_ForwardKernelIdeal (m : (ℓ : Loc Cert.ForwardKernelIdeal.nD Cert.ForwardKernelIdeal.τ Cert.ForwardKernelIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_EmbedKernel (m : (ℓ : Loc Cert.EmbedKernel.nD Cert.EmbedKernel.τ Cert.EmbedKernel.sig) → Buf (Elt Bits) ℓ) : Prop :=
  True

def Pre_EmbedKernelIdeal (m : (ℓ : Loc Cert.EmbedKernelIdeal.nD Cert.EmbedKernelIdeal.τ Cert.EmbedKernelIdeal.sig) → Buf (Elt Ideal) ℓ) : Prop :=
  True

def Pre_EmbedKernelIdeal_embed_finite [hPre_embed_finite : Cert.Pre_embed_finite.Facts] (m : (ℓ : Loc Cert.EmbedKernelIdeal.nD Cert.EmbedKernelIdeal.τ Cert.EmbedKernelIdeal.sig) → Buf (Elt Ideal) ℓ) : Prop :=
  ∀ c : Dev Cert.EmbedKernelIdeal.nD,
    (Cert.Pre_embed_finite.fn (F := Ideal) (m ((c.tc : Thread Cert.EmbedKernelIdeal.nD Cert.EmbedKernelIdeal.τ).loc Cert.EmbedKernelIdeal.main_arg0)) (m ((c.tc : Thread Cert.EmbedKernelIdeal.nD Cert.EmbedKernelIdeal.τ).loc Cert.EmbedKernelIdeal.main_arg1)) (m ((c.tc : Thread Cert.EmbedKernelIdeal.nD Cert.EmbedKernelIdeal.τ).loc Cert.EmbedKernelIdeal.main_arg2)) (m ((c.tc : Thread Cert.EmbedKernelIdeal.nD Cert.EmbedKernelIdeal.τ).loc Cert.EmbedKernelIdeal.main_arg3)) (m ((c.tc : Thread Cert.EmbedKernelIdeal.nD Cert.EmbedKernelIdeal.τ).loc Cert.EmbedKernelIdeal.main_arg4)) (m ((c.tc : Thread Cert.EmbedKernelIdeal.nD Cert.EmbedKernelIdeal.τ).loc Cert.EmbedKernelIdeal.main_arg5))) = (fun _ => 1#1)

def Pre_EmbedReferenceIdeal (m : (ℓ : Loc Cert.EmbedReferenceIdeal.nD Cert.EmbedReferenceIdeal.τ Cert.EmbedReferenceIdeal.sig) → Buf (Elt Ideal) ℓ) : Prop :=
  True

def Pre_EmbedReferenceIdeal_embed_finite [hPre_embed_finite : Cert.Pre_embed_finite.Facts] (m : (ℓ : Loc Cert.EmbedReferenceIdeal.nD Cert.EmbedReferenceIdeal.τ Cert.EmbedReferenceIdeal.sig) → Buf (Elt Ideal) ℓ) : Prop :=
  ∀ c : Dev Cert.EmbedReferenceIdeal.nD,
    (Cert.Pre_embed_finite.fn (F := Ideal) (m ((c.tc : Thread Cert.EmbedReferenceIdeal.nD Cert.EmbedReferenceIdeal.τ).loc Cert.EmbedReferenceIdeal.main_arg0)) (m ((c.tc : Thread Cert.EmbedReferenceIdeal.nD Cert.EmbedReferenceIdeal.τ).loc Cert.EmbedReferenceIdeal.main_arg1)) (m ((c.tc : Thread Cert.EmbedReferenceIdeal.nD Cert.EmbedReferenceIdeal.τ).loc Cert.EmbedReferenceIdeal.main_arg2)) (m ((c.tc : Thread Cert.EmbedReferenceIdeal.nD Cert.EmbedReferenceIdeal.τ).loc Cert.EmbedReferenceIdeal.main_arg3)) (m ((c.tc : Thread Cert.EmbedReferenceIdeal.nD Cert.EmbedReferenceIdeal.τ).loc Cert.EmbedReferenceIdeal.main_arg4)) (m ((c.tc : Thread Cert.EmbedReferenceIdeal.nD Cert.EmbedReferenceIdeal.τ).loc Cert.EmbedReferenceIdeal.main_arg5))) = (fun _ => 1#1)

def quiescent_HiddenKernel [hHiddenKernel : Cert.HiddenKernel.Facts] : Prop :=
  ∀ (m : (ℓ : Loc Cert.HiddenKernel.nD Cert.HiddenKernel.τ Cert.HiddenKernel.sig) → Buf (Elt Bits) ℓ) (g : Dev Cert.HiddenKernel.nD → PrngReg), Pre_HiddenKernel m →
    θ_run (Cert.HiddenKernel.defs (F := Bits)) (onTc (τ := Cert.HiddenKernel.τ) (Cert.HiddenKernel.main (F := Bits))) ⟨m, fun _ => 0, g⟩ (fun r => (∀ c : Dev Cert.HiddenKernel.nD,
      r.2.mem ((c.tc : Thread Cert.HiddenKernel.nD Cert.HiddenKernel.τ).loc Cert.HiddenKernel.main_arg0) = m ((c.tc : Thread Cert.HiddenKernel.nD Cert.HiddenKernel.τ).loc Cert.HiddenKernel.main_arg0)
      ∧ r.2.mem ((c.tc : Thread Cert.HiddenKernel.nD Cert.HiddenKernel.τ).loc Cert.HiddenKernel.main_arg1) = m ((c.tc : Thread Cert.HiddenKernel.nD Cert.HiddenKernel.τ).loc Cert.HiddenKernel.main_arg1)
      ∧ r.2.mem ((c.tc : Thread Cert.HiddenKernel.nD Cert.HiddenKernel.τ).loc Cert.HiddenKernel.main_arg2) = m ((c.tc : Thread Cert.HiddenKernel.nD Cert.HiddenKernel.τ).loc Cert.HiddenKernel.main_arg2))
      ∧ r.2.sem = fun _ => 0)

def quiescent_HiddenKernelIdeal [hHiddenKernelIdeal : Cert.HiddenKernelIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
      ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2))
      ∧ r.2.sem = fun _ => 0)

def quiescent_InputKernel [hInputKernel : Cert.InputKernel.Facts] : Prop :=
  ∀ (m : (ℓ : Loc Cert.InputKernel.nD Cert.InputKernel.τ Cert.InputKernel.sig) → Buf (Elt Bits) ℓ) (g : Dev Cert.InputKernel.nD → PrngReg), Pre_InputKernel m →
    θ_run (Cert.InputKernel.defs (F := Bits)) (onTc (τ := Cert.InputKernel.τ) (Cert.InputKernel.main (F := Bits))) ⟨m, fun _ => 0, g⟩ (fun r => (∀ c : Dev Cert.InputKernel.nD,
      r.2.mem ((c.tc : Thread Cert.InputKernel.nD Cert.InputKernel.τ).loc Cert.InputKernel.main_arg0) = m ((c.tc : Thread Cert.InputKernel.nD Cert.InputKernel.τ).loc Cert.InputKernel.main_arg0)
      ∧ r.2.mem ((c.tc : Thread Cert.InputKernel.nD Cert.InputKernel.τ).loc Cert.InputKernel.main_arg1) = m ((c.tc : Thread Cert.InputKernel.nD Cert.InputKernel.τ).loc Cert.InputKernel.main_arg1)
      ∧ r.2.mem ((c.tc : Thread Cert.InputKernel.nD Cert.InputKernel.τ).loc Cert.InputKernel.main_arg2) = m ((c.tc : Thread Cert.InputKernel.nD Cert.InputKernel.τ).loc Cert.InputKernel.main_arg2)
      ∧ r.2.mem ((c.tc : Thread Cert.InputKernel.nD Cert.InputKernel.τ).loc Cert.InputKernel.main_arg3) = m ((c.tc : Thread Cert.InputKernel.nD Cert.InputKernel.τ).loc Cert.InputKernel.main_arg3)
      ∧ r.2.mem ((c.tc : Thread Cert.InputKernel.nD Cert.InputKernel.τ).loc Cert.InputKernel.main_arg4) = m ((c.tc : Thread Cert.InputKernel.nD Cert.InputKernel.τ).loc Cert.InputKernel.main_arg4))
      ∧ r.2.sem = fun _ => 0)

def quiescent_InputKernelIdeal [hInputKernelIdeal : Cert.InputKernelIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4))
      ∧ r.2.sem = fun _ => 0)

def quiescent_InputKernelIdeal_pre_inputs_finite [hInputKernelIdeal : Cert.InputKernelIdeal.Facts] [hPre_inputs_finite : Cert.Pre_inputs_finite.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal_inputs_finite m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4))
      ∧ r.2.sem = fun _ => 0)

def quiescent_InputReferenceIdeal_pre_inputs_finite [hInputReferenceIdeal : Cert.InputReferenceIdeal.Facts] [hPre_inputs_finite : Cert.Pre_inputs_finite.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal_inputs_finite m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4))
      ∧ r.2.sem = fun _ => 0)

def quiescent_ForwardKernel [hForwardKernel : Cert.ForwardKernel.Facts] : Prop :=
  ∀ (m : (ℓ : Loc Cert.ForwardKernel.nD Cert.ForwardKernel.τ Cert.ForwardKernel.sig) → Buf (Elt Bits) ℓ) (g : Dev Cert.ForwardKernel.nD → PrngReg), Pre_ForwardKernel m →
    θ_run (Cert.ForwardKernel.defs (F := Bits)) (onTc (τ := Cert.ForwardKernel.τ) (Cert.ForwardKernel.main (F := Bits))) ⟨m, fun _ => 0, g⟩ (fun r => (∀ c : Dev Cert.ForwardKernel.nD,
      r.2.mem ((c.tc : Thread Cert.ForwardKernel.nD Cert.ForwardKernel.τ).loc Cert.ForwardKernel.main_arg0) = m ((c.tc : Thread Cert.ForwardKernel.nD Cert.ForwardKernel.τ).loc Cert.ForwardKernel.main_arg0)
      ∧ r.2.mem ((c.tc : Thread Cert.ForwardKernel.nD Cert.ForwardKernel.τ).loc Cert.ForwardKernel.main_arg1) = m ((c.tc : Thread Cert.ForwardKernel.nD Cert.ForwardKernel.τ).loc Cert.ForwardKernel.main_arg1)
      ∧ r.2.mem ((c.tc : Thread Cert.ForwardKernel.nD Cert.ForwardKernel.τ).loc Cert.ForwardKernel.main_arg2) = m ((c.tc : Thread Cert.ForwardKernel.nD Cert.ForwardKernel.τ).loc Cert.ForwardKernel.main_arg2)
      ∧ r.2.mem ((c.tc : Thread Cert.ForwardKernel.nD Cert.ForwardKernel.τ).loc Cert.ForwardKernel.main_arg3) = m ((c.tc : Thread Cert.ForwardKernel.nD Cert.ForwardKernel.τ).loc Cert.ForwardKernel.main_arg3)
      ∧ r.2.mem ((c.tc : Thread Cert.ForwardKernel.nD Cert.ForwardKernel.τ).loc Cert.ForwardKernel.main_arg4) = m ((c.tc : Thread Cert.ForwardKernel.nD Cert.ForwardKernel.τ).loc Cert.ForwardKernel.main_arg4)
      ∧ r.2.mem ((c.tc : Thread Cert.ForwardKernel.nD Cert.ForwardKernel.τ).loc Cert.ForwardKernel.main_arg5) = m ((c.tc : Thread Cert.ForwardKernel.nD Cert.ForwardKernel.τ).loc Cert.ForwardKernel.main_arg5)
      ∧ r.2.mem ((c.tc : Thread Cert.ForwardKernel.nD Cert.ForwardKernel.τ).loc Cert.ForwardKernel.main_arg6) = m ((c.tc : Thread Cert.ForwardKernel.nD Cert.ForwardKernel.τ).loc Cert.ForwardKernel.main_arg6)
      ∧ r.2.mem ((c.tc : Thread Cert.ForwardKernel.nD Cert.ForwardKernel.τ).loc Cert.ForwardKernel.main_arg7) = m ((c.tc : Thread Cert.ForwardKernel.nD Cert.ForwardKernel.τ).loc Cert.ForwardKernel.main_arg7))
      ∧ r.2.sem = fun _ => 0)

def quiescent_ForwardKernelIdeal [hForwardKernelIdeal : Cert.ForwardKernelIdeal.Facts] : Prop :=
  ∀ (m : (ℓ : Loc Cert.ForwardKernelIdeal.nD Cert.ForwardKernelIdeal.τ Cert.ForwardKernelIdeal.sig) → Buf (Elt Ideal) ℓ) (g : Dev Cert.ForwardKernelIdeal.nD → PrngReg), Pre_ForwardKernelIdeal m →
    θ_run (Cert.ForwardKernelIdeal.defs (F := Ideal)) (onTc (τ := Cert.ForwardKernelIdeal.τ) (Cert.ForwardKernelIdeal.main (F := Ideal))) ⟨m, fun _ => 0, g⟩ (fun r => (∀ c : Dev Cert.ForwardKernelIdeal.nD,
      r.2.mem ((c.tc : Thread Cert.ForwardKernelIdeal.nD Cert.ForwardKernelIdeal.τ).loc Cert.ForwardKernelIdeal.main_arg0) = m ((c.tc : Thread Cert.ForwardKernelIdeal.nD Cert.ForwardKernelIdeal.τ).loc Cert.ForwardKernelIdeal.main_arg0)
      ∧ r.2.mem ((c.tc : Thread Cert.ForwardKernelIdeal.nD Cert.ForwardKernelIdeal.τ).loc Cert.ForwardKernelIdeal.main_arg1) = m ((c.tc : Thread Cert.ForwardKernelIdeal.nD Cert.ForwardKernelIdeal.τ).loc Cert.ForwardKernelIdeal.main_arg1)
      ∧ r.2.mem ((c.tc : Thread Cert.ForwardKernelIdeal.nD Cert.ForwardKernelIdeal.τ).loc Cert.ForwardKernelIdeal.main_arg2) = m ((c.tc : Thread Cert.ForwardKernelIdeal.nD Cert.ForwardKernelIdeal.τ).loc Cert.ForwardKernelIdeal.main_arg2)
      ∧ r.2.mem ((c.tc : Thread Cert.ForwardKernelIdeal.nD Cert.ForwardKernelIdeal.τ).loc Cert.ForwardKernelIdeal.main_arg3) = m ((c.tc : Thread Cert.ForwardKernelIdeal.nD Cert.ForwardKernelIdeal.τ).loc Cert.ForwardKernelIdeal.main_arg3)
      ∧ r.2.mem ((c.tc : Thread Cert.ForwardKernelIdeal.nD Cert.ForwardKernelIdeal.τ).loc Cert.ForwardKernelIdeal.main_arg4) = m ((c.tc : Thread Cert.ForwardKernelIdeal.nD Cert.ForwardKernelIdeal.τ).loc Cert.ForwardKernelIdeal.main_arg4)
      ∧ r.2.mem ((c.tc : Thread Cert.ForwardKernelIdeal.nD Cert.ForwardKernelIdeal.τ).loc Cert.ForwardKernelIdeal.main_arg5) = m ((c.tc : Thread Cert.ForwardKernelIdeal.nD Cert.ForwardKernelIdeal.τ).loc Cert.ForwardKernelIdeal.main_arg5)
      ∧ r.2.mem ((c.tc : Thread Cert.ForwardKernelIdeal.nD Cert.ForwardKernelIdeal.τ).loc Cert.ForwardKernelIdeal.main_arg6) = m ((c.tc : Thread Cert.ForwardKernelIdeal.nD Cert.ForwardKernelIdeal.τ).loc Cert.ForwardKernelIdeal.main_arg6)
      ∧ r.2.mem ((c.tc : Thread Cert.ForwardKernelIdeal.nD Cert.ForwardKernelIdeal.τ).loc Cert.ForwardKernelIdeal.main_arg7) = m ((c.tc : Thread Cert.ForwardKernelIdeal.nD Cert.ForwardKernelIdeal.τ).loc Cert.ForwardKernelIdeal.main_arg7))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5)
      ∧ r.2.mem ((c.tc : Thread Cert.ForwardReferenceIdeal.nD Cert.ForwardReferenceIdeal.τ).loc Cert.ForwardReferenceIdeal.main_arg6) = m ((c.tc : Thread Cert.ForwardReferenceIdeal.nD Cert.ForwardReferenceIdeal.τ).loc Cert.ForwardReferenceIdeal.main_arg6)
      ∧ r.2.mem ((c.tc : Thread Cert.ForwardReferenceIdeal.nD Cert.ForwardReferenceIdeal.τ).loc Cert.ForwardReferenceIdeal.main_arg7) = m ((c.tc : Thread Cert.ForwardReferenceIdeal.nD Cert.ForwardReferenceIdeal.τ).loc Cert.ForwardReferenceIdeal.main_arg7))
      ∧ r.2.sem = fun _ => 0)

def quiescent_EmbedKernel [hEmbedKernel : Cert.EmbedKernel.Facts] : Prop :=
  ∀ (m : (ℓ : Loc Cert.EmbedKernel.nD Cert.EmbedKernel.τ Cert.EmbedKernel.sig) → Buf (Elt Bits) ℓ) (g : Dev Cert.EmbedKernel.nD → PrngReg), Pre_EmbedKernel m →
    θ_run (Cert.EmbedKernel.defs (F := Bits)) (onTc (τ := Cert.EmbedKernel.τ) (Cert.EmbedKernel.main (F := Bits))) ⟨m, fun _ => 0, g⟩ (fun r => (∀ c : Dev Cert.EmbedKernel.nD,
      r.2.mem ((c.tc : Thread Cert.EmbedKernel.nD Cert.EmbedKernel.τ).loc Cert.EmbedKernel.main_arg0) = m ((c.tc : Thread Cert.EmbedKernel.nD Cert.EmbedKernel.τ).loc Cert.EmbedKernel.main_arg0)
      ∧ r.2.mem ((c.tc : Thread Cert.EmbedKernel.nD Cert.EmbedKernel.τ).loc Cert.EmbedKernel.main_arg1) = m ((c.tc : Thread Cert.EmbedKernel.nD Cert.EmbedKernel.τ).loc Cert.EmbedKernel.main_arg1)
      ∧ r.2.mem ((c.tc : Thread Cert.EmbedKernel.nD Cert.EmbedKernel.τ).loc Cert.EmbedKernel.main_arg2) = m ((c.tc : Thread Cert.EmbedKernel.nD Cert.EmbedKernel.τ).loc Cert.EmbedKernel.main_arg2)
      ∧ r.2.mem ((c.tc : Thread Cert.EmbedKernel.nD Cert.EmbedKernel.τ).loc Cert.EmbedKernel.main_arg3) = m ((c.tc : Thread Cert.EmbedKernel.nD Cert.EmbedKernel.τ).loc Cert.EmbedKernel.main_arg3)
      ∧ r.2.mem ((c.tc : Thread Cert.EmbedKernel.nD Cert.EmbedKernel.τ).loc Cert.EmbedKernel.main_arg4) = m ((c.tc : Thread Cert.EmbedKernel.nD Cert.EmbedKernel.τ).loc Cert.EmbedKernel.main_arg4)
      ∧ r.2.mem ((c.tc : Thread Cert.EmbedKernel.nD Cert.EmbedKernel.τ).loc Cert.EmbedKernel.main_arg5) = m ((c.tc : Thread Cert.EmbedKernel.nD Cert.EmbedKernel.τ).loc Cert.EmbedKernel.main_arg5))
      ∧ r.2.sem = fun _ => 0)

def quiescent_EmbedKernelIdeal [hEmbedKernelIdeal : Cert.EmbedKernelIdeal.Facts] : Prop :=
  ∀ (m : (ℓ : Loc Cert.EmbedKernelIdeal.nD Cert.EmbedKernelIdeal.τ Cert.EmbedKernelIdeal.sig) → Buf (Elt Ideal) ℓ) (g : Dev Cert.EmbedKernelIdeal.nD → PrngReg), Pre_EmbedKernelIdeal m →
    θ_run (Cert.EmbedKernelIdeal.defs (F := Ideal)) (onTc (τ := Cert.EmbedKernelIdeal.τ) (Cert.EmbedKernelIdeal.main (F := Ideal))) ⟨m, fun _ => 0, g⟩ (fun r => (∀ c : Dev Cert.EmbedKernelIdeal.nD,
      r.2.mem ((c.tc : Thread Cert.EmbedKernelIdeal.nD Cert.EmbedKernelIdeal.τ).loc Cert.EmbedKernelIdeal.main_arg0) = m ((c.tc : Thread Cert.EmbedKernelIdeal.nD Cert.EmbedKernelIdeal.τ).loc Cert.EmbedKernelIdeal.main_arg0)
      ∧ r.2.mem ((c.tc : Thread Cert.EmbedKernelIdeal.nD Cert.EmbedKernelIdeal.τ).loc Cert.EmbedKernelIdeal.main_arg1) = m ((c.tc : Thread Cert.EmbedKernelIdeal.nD Cert.EmbedKernelIdeal.τ).loc Cert.EmbedKernelIdeal.main_arg1)
      ∧ r.2.mem ((c.tc : Thread Cert.EmbedKernelIdeal.nD Cert.EmbedKernelIdeal.τ).loc Cert.EmbedKernelIdeal.main_arg2) = m ((c.tc : Thread Cert.EmbedKernelIdeal.nD Cert.EmbedKernelIdeal.τ).loc Cert.EmbedKernelIdeal.main_arg2)
      ∧ r.2.mem ((c.tc : Thread Cert.EmbedKernelIdeal.nD Cert.EmbedKernelIdeal.τ).loc Cert.EmbedKernelIdeal.main_arg3) = m ((c.tc : Thread Cert.EmbedKernelIdeal.nD Cert.EmbedKernelIdeal.τ).loc Cert.EmbedKernelIdeal.main_arg3)
      ∧ r.2.mem ((c.tc : Thread Cert.EmbedKernelIdeal.nD Cert.EmbedKernelIdeal.τ).loc Cert.EmbedKernelIdeal.main_arg4) = m ((c.tc : Thread Cert.EmbedKernelIdeal.nD Cert.EmbedKernelIdeal.τ).loc Cert.EmbedKernelIdeal.main_arg4)
      ∧ r.2.mem ((c.tc : Thread Cert.EmbedKernelIdeal.nD Cert.EmbedKernelIdeal.τ).loc Cert.EmbedKernelIdeal.main_arg5) = m ((c.tc : Thread Cert.EmbedKernelIdeal.nD Cert.EmbedKernelIdeal.τ).loc Cert.EmbedKernelIdeal.main_arg5))
      ∧ r.2.sem = fun _ => 0)

def quiescent_EmbedKernelIdeal_pre_embed_finite [hEmbedKernelIdeal : Cert.EmbedKernelIdeal.Facts] [hPre_embed_finite : Cert.Pre_embed_finite.Facts] : Prop :=
  ∀ (m : (ℓ : Loc Cert.EmbedKernelIdeal.nD Cert.EmbedKernelIdeal.τ Cert.EmbedKernelIdeal.sig) → Buf (Elt Ideal) ℓ) (g : Dev Cert.EmbedKernelIdeal.nD → PrngReg), Pre_EmbedKernelIdeal_embed_finite m →
    θ_run (Cert.EmbedKernelIdeal.defs (F := Ideal)) (onTc (τ := Cert.EmbedKernelIdeal.τ) (Cert.EmbedKernelIdeal.main (F := Ideal))) ⟨m, fun _ => 0, g⟩ (fun r => (∀ c : Dev Cert.EmbedKernelIdeal.nD,
      r.2.mem ((c.tc : Thread Cert.EmbedKernelIdeal.nD Cert.EmbedKernelIdeal.τ).loc Cert.EmbedKernelIdeal.main_arg0) = m ((c.tc : Thread Cert.EmbedKernelIdeal.nD Cert.EmbedKernelIdeal.τ).loc Cert.EmbedKernelIdeal.main_arg0)
      ∧ r.2.mem ((c.tc : Thread Cert.EmbedKernelIdeal.nD Cert.EmbedKernelIdeal.τ).loc Cert.EmbedKernelIdeal.main_arg1) = m ((c.tc : Thread Cert.EmbedKernelIdeal.nD Cert.EmbedKernelIdeal.τ).loc Cert.EmbedKernelIdeal.main_arg1)
      ∧ r.2.mem ((c.tc : Thread Cert.EmbedKernelIdeal.nD Cert.EmbedKernelIdeal.τ).loc Cert.EmbedKernelIdeal.main_arg2) = m ((c.tc : Thread Cert.EmbedKernelIdeal.nD Cert.EmbedKernelIdeal.τ).loc Cert.EmbedKernelIdeal.main_arg2)
      ∧ r.2.mem ((c.tc : Thread Cert.EmbedKernelIdeal.nD Cert.EmbedKernelIdeal.τ).loc Cert.EmbedKernelIdeal.main_arg3) = m ((c.tc : Thread Cert.EmbedKernelIdeal.nD Cert.EmbedKernelIdeal.τ).loc Cert.EmbedKernelIdeal.main_arg3)
      ∧ r.2.mem ((c.tc : Thread Cert.EmbedKernelIdeal.nD Cert.EmbedKernelIdeal.τ).loc Cert.EmbedKernelIdeal.main_arg4) = m ((c.tc : Thread Cert.EmbedKernelIdeal.nD Cert.EmbedKernelIdeal.τ).loc Cert.EmbedKernelIdeal.main_arg4)
      ∧ r.2.mem ((c.tc : Thread Cert.EmbedKernelIdeal.nD Cert.EmbedKernelIdeal.τ).loc Cert.EmbedKernelIdeal.main_arg5) = m ((c.tc : Thread Cert.EmbedKernelIdeal.nD Cert.EmbedKernelIdeal.τ).loc Cert.EmbedKernelIdeal.main_arg5))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2)
      ∧ r.2.mem ((c.tc : Thread Cert.EmbedReferenceIdeal.nD Cert.EmbedReferenceIdeal.τ).loc Cert.EmbedReferenceIdeal.main_arg3) = m ((c.tc : Thread Cert.EmbedReferenceIdeal.nD Cert.EmbedReferenceIdeal.τ).loc Cert.EmbedReferenceIdeal.main_arg3)
      ∧ r.2.mem ((c.tc : Thread Cert.EmbedReferenceIdeal.nD Cert.EmbedReferenceIdeal.τ).loc Cert.EmbedReferenceIdeal.main_arg4) = m ((c.tc : Thread Cert.EmbedReferenceIdeal.nD Cert.EmbedReferenceIdeal.τ).loc Cert.EmbedReferenceIdeal.main_arg4)
      ∧ r.2.mem ((c.tc : Thread Cert.EmbedReferenceIdeal.nD Cert.EmbedReferenceIdeal.τ).loc Cert.EmbedReferenceIdeal.main_arg5) = m ((c.tc : Thread Cert.EmbedReferenceIdeal.nD Cert.EmbedReferenceIdeal.τ).loc Cert.EmbedReferenceIdeal.main_arg5))
      ∧ r.2.sem = fun _ => 0)

def quiescent_EmbedReferenceIdeal_pre_embed_finite [hEmbedReferenceIdeal : Cert.EmbedReferenceIdeal.Facts] [hPre_embed_finite : Cert.Pre_embed_finite.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal_embed_finite m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2)
      ∧ r.2.mem ((c.tc : Thread Cert.EmbedReferenceIdeal.nD Cert.EmbedReferenceIdeal.τ).loc Cert.EmbedReferenceIdeal.main_arg3) = m ((c.tc : Thread Cert.EmbedReferenceIdeal.nD Cert.EmbedReferenceIdeal.τ).loc Cert.EmbedReferenceIdeal.main_arg3)
      ∧ r.2.mem ((c.tc : Thread Cert.EmbedReferenceIdeal.nD Cert.EmbedReferenceIdeal.τ).loc Cert.EmbedReferenceIdeal.main_arg4) = m ((c.tc : Thread Cert.EmbedReferenceIdeal.nD Cert.EmbedReferenceIdeal.τ).loc Cert.EmbedReferenceIdeal.main_arg4)
      ∧ r.2.mem ((c.tc : Thread Cert.EmbedReferenceIdeal.nD Cert.EmbedReferenceIdeal.τ).loc Cert.EmbedReferenceIdeal.main_arg5) = m ((c.tc : Thread Cert.EmbedReferenceIdeal.nD Cert.EmbedReferenceIdeal.τ).loc Cert.EmbedReferenceIdeal.main_arg5))
      ∧ r.2.sem = fun _ => 0)

def preserves_HiddenKernel_HiddenKernelIdeal : Prop :=
  True

def algebraic_HiddenKernelIdeal_HiddenReferenceIdeal [hHiddenKernelIdeal : Cert.HiddenKernelIdeal.Facts] [hHiddenReferenceIdeal : Cert.HiddenReferenceIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenKernelIdeal m →
    (∀ c : Dev Cert.HiddenKernelIdeal.nD,
      m' ((c.tc : Thread Cert.HiddenReferenceIdeal.nD Cert.HiddenReferenceIdeal.τ).loc Cert.HiddenReferenceIdeal.main_arg0) = m ((c.tc : Thread Cert.HiddenKernelIdeal.nD Cert.HiddenKernelIdeal.τ).loc Cert.HiddenKernelIdeal.main_arg0)
      ∧ m' ((c.tc : Thread Cert.HiddenReferenceIdeal.nD Cert.HiddenReferenceIdeal.τ).loc Cert.HiddenReferenceIdeal.main_arg1) = m ((c.tc : Thread Cert.HiddenKernelIdeal.nD Cert.HiddenKernelIdeal.τ).loc Cert.HiddenKernelIdeal.main_arg1)
      ∧ m' ((c.tc : Thread Cert.HiddenReferenceIdeal.nD Cert.HiddenReferenceIdeal.τ).loc Cert.HiddenReferenceIdeal.main_arg2) = m ((c.tc : Thread Cert.HiddenKernelIdeal.nD Cert.HiddenKernelIdeal.τ).loc Cert.HiddenKernelIdeal.main_arg2)) →
    ∃ (v0 : (c : Dev Cert.HiddenKernelIdeal.nD) → Buf (Elt Ideal) ((c.tc : Thread Cert.HiddenKernelIdeal.nD Cert.HiddenKernelIdeal.τ).loc Cert.HiddenKernelIdeal.main_v3_0)) (v1 : (c : Dev Cert.HiddenKernelIdeal.nD) → Buf (Elt Ideal) ((c.tc : Thread Cert.HiddenKernelIdeal.nD Cert.HiddenKernelIdeal.τ).loc Cert.HiddenKernelIdeal.main_v3_1)),
      θ_run (Cert.HiddenKernelIdeal.defs (F := Ideal)) (onTc (τ := Cert.HiddenKernelIdeal.τ) (Cert.HiddenKernelIdeal.main (F := Ideal))) ⟨m, fun _ => 0, g⟩ (fun r => ∀ c : Dev Cert.HiddenKernelIdeal.nD,
          r.2.mem ((c.tc : Thread Cert.HiddenKernelIdeal.nD Cert.HiddenKernelIdeal.τ).loc Cert.HiddenKernelIdeal.main_v3_0) = v0 c
          ∧ r.2.mem ((c.tc : Thread Cert.HiddenKernelIdeal.nD Cert.HiddenKernelIdeal.τ).loc Cert.HiddenKernelIdeal.main_v3_1) = v1 c
          ∧ r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
          ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
          ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v14) = v0 c
          ∧ r.2.mem ((c.tc : Thread Cert.HiddenReferenceIdeal.nD Cert.HiddenReferenceIdeal.τ).loc Cert.HiddenReferenceIdeal.main_v15) = v1 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2))

def preserves_InputKernel_InputKernelIdeal : Prop :=
  True

def algebraic_InputKernelIdeal_InputReferenceIdeal_pre_inputs_finite [hInputKernelIdeal : Cert.InputKernelIdeal.Facts] [hInputReferenceIdeal : Cert.InputReferenceIdeal.Facts] [hPre_inputs_finite : Cert.Pre_inputs_finite.Facts] : Prop :=
  ∀ (m : (ℓ : Loc Cert.InputKernelIdeal.nD Cert.InputKernelIdeal.τ Cert.InputKernelIdeal.sig) → Buf (Elt Ideal) ℓ) (g : Dev Cert.InputKernelIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputKernelIdeal_inputs_finite m →
    (∀ c : Dev Cert.InputKernelIdeal.nD,
      m' ((c.tc : Thread Cert.InputReferenceIdeal.nD Cert.InputReferenceIdeal.τ).loc Cert.InputReferenceIdeal.main_arg0) = m ((c.tc : Thread Cert.InputKernelIdeal.nD Cert.InputKernelIdeal.τ).loc Cert.InputKernelIdeal.main_arg0)
      ∧ m' ((c.tc : Thread Cert.InputReferenceIdeal.nD Cert.InputReferenceIdeal.τ).loc Cert.InputReferenceIdeal.main_arg1) = m ((c.tc : Thread Cert.InputKernelIdeal.nD Cert.InputKernelIdeal.τ).loc Cert.InputKernelIdeal.main_arg1)
      ∧ m' ((c.tc : Thread Cert.InputReferenceIdeal.nD Cert.InputReferenceIdeal.τ).loc Cert.InputReferenceIdeal.main_arg2) = m ((c.tc : Thread Cert.InputKernelIdeal.nD Cert.InputKernelIdeal.τ).loc Cert.InputKernelIdeal.main_arg2)
      ∧ m' ((c.tc : Thread Cert.InputReferenceIdeal.nD Cert.InputReferenceIdeal.τ).loc Cert.InputReferenceIdeal.main_arg3) = m ((c.tc : Thread Cert.InputKernelIdeal.nD Cert.InputKernelIdeal.τ).loc Cert.InputKernelIdeal.main_arg3)
      ∧ m' ((c.tc : Thread Cert.InputReferenceIdeal.nD Cert.InputReferenceIdeal.τ).loc Cert.InputReferenceIdeal.main_arg4) = m ((c.tc : Thread Cert.InputKernelIdeal.nD Cert.InputKernelIdeal.τ).loc Cert.InputKernelIdeal.main_arg4)) →
    ∃ (v0 : (c : Dev Cert.InputKernelIdeal.nD) → Buf (Elt Ideal) ((c.tc : Thread Cert.InputKernelIdeal.nD Cert.InputKernelIdeal.τ).loc Cert.InputKernelIdeal.main_v15_0)) (v1 : (c : Dev Cert.InputKernelIdeal.nD) → Buf (Elt Ideal) ((c.tc : Thread Cert.InputKernelIdeal.nD Cert.InputKernelIdeal.τ).loc Cert.InputKernelIdeal.main_v15_1)) (v2 : (c : Dev Cert.InputKernelIdeal.nD) → Buf (Elt Ideal) ((c.tc : Thread Cert.InputKernelIdeal.nD Cert.InputKernelIdeal.τ).loc Cert.InputKernelIdeal.main_v15_2)),
      θ_run (Cert.InputKernelIdeal.defs (F := Ideal)) (onTc (τ := Cert.InputKernelIdeal.τ) (Cert.InputKernelIdeal.main (F := Ideal))) ⟨m, fun _ => 0, g⟩ (fun r => ∀ c : Dev Cert.InputKernelIdeal.nD,
          r.2.mem ((c.tc : Thread Cert.InputKernelIdeal.nD Cert.InputKernelIdeal.τ).loc Cert.InputKernelIdeal.main_v15_0) = v0 c
          ∧ r.2.mem ((c.tc : Thread Cert.InputKernelIdeal.nD Cert.InputKernelIdeal.τ).loc Cert.InputKernelIdeal.main_v15_1) = v1 c
          ∧ r.2.mem ((c.tc : Thread Cert.InputKernelIdeal.nD Cert.InputKernelIdeal.τ).loc Cert.InputKernelIdeal.main_v15_2) = v2 c
          ∧ r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
          ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
          ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
          ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
          ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v40) = v0 c
          ∧ r.2.mem ((c.tc : Thread Cert.InputReferenceIdeal.nD Cert.InputReferenceIdeal.τ).loc Cert.InputReferenceIdeal.main_v41) = v1 c
          ∧ r.2.mem ((c.tc : Thread Cert.InputReferenceIdeal.nD Cert.InputReferenceIdeal.τ).loc Cert.InputReferenceIdeal.main_v42) = v2 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4))

def preserves_ForwardKernel_ForwardKernelIdeal : Prop :=
  True

def algebraic_ForwardKernelIdeal_ForwardReferenceIdeal [hForwardKernelIdeal : Cert.ForwardKernelIdeal.Facts] [hForwardReferenceIdeal : Cert.ForwardReferenceIdeal.Facts] : Prop :=
  ∀ (m : (ℓ : Loc Cert.ForwardKernelIdeal.nD Cert.ForwardKernelIdeal.τ Cert.ForwardKernelIdeal.sig) → Buf (Elt Ideal) ℓ) (g : Dev Cert.ForwardKernelIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardKernelIdeal m →
    (∀ c : Dev Cert.ForwardKernelIdeal.nD,
      m' ((c.tc : Thread Cert.ForwardReferenceIdeal.nD Cert.ForwardReferenceIdeal.τ).loc Cert.ForwardReferenceIdeal.main_arg0) = m ((c.tc : Thread Cert.ForwardKernelIdeal.nD Cert.ForwardKernelIdeal.τ).loc Cert.ForwardKernelIdeal.main_arg0)
      ∧ m' ((c.tc : Thread Cert.ForwardReferenceIdeal.nD Cert.ForwardReferenceIdeal.τ).loc Cert.ForwardReferenceIdeal.main_arg1) = m ((c.tc : Thread Cert.ForwardKernelIdeal.nD Cert.ForwardKernelIdeal.τ).loc Cert.ForwardKernelIdeal.main_arg1)
      ∧ m' ((c.tc : Thread Cert.ForwardReferenceIdeal.nD Cert.ForwardReferenceIdeal.τ).loc Cert.ForwardReferenceIdeal.main_arg2) = m ((c.tc : Thread Cert.ForwardKernelIdeal.nD Cert.ForwardKernelIdeal.τ).loc Cert.ForwardKernelIdeal.main_arg2)
      ∧ m' ((c.tc : Thread Cert.ForwardReferenceIdeal.nD Cert.ForwardReferenceIdeal.τ).loc Cert.ForwardReferenceIdeal.main_arg3) = m ((c.tc : Thread Cert.ForwardKernelIdeal.nD Cert.ForwardKernelIdeal.τ).loc Cert.ForwardKernelIdeal.main_arg3)
      ∧ m' ((c.tc : Thread Cert.ForwardReferenceIdeal.nD Cert.ForwardReferenceIdeal.τ).loc Cert.ForwardReferenceIdeal.main_arg4) = m ((c.tc : Thread Cert.ForwardKernelIdeal.nD Cert.ForwardKernelIdeal.τ).loc Cert.ForwardKernelIdeal.main_arg4)
      ∧ m' ((c.tc : Thread Cert.ForwardReferenceIdeal.nD Cert.ForwardReferenceIdeal.τ).loc Cert.ForwardReferenceIdeal.main_arg5) = m ((c.tc : Thread Cert.ForwardKernelIdeal.nD Cert.ForwardKernelIdeal.τ).loc Cert.ForwardKernelIdeal.main_arg5)
      ∧ m' ((c.tc : Thread Cert.ForwardReferenceIdeal.nD Cert.ForwardReferenceIdeal.τ).loc Cert.ForwardReferenceIdeal.main_arg6) = m ((c.tc : Thread Cert.ForwardKernelIdeal.nD Cert.ForwardKernelIdeal.τ).loc Cert.ForwardKernelIdeal.main_arg6)
      ∧ m' ((c.tc : Thread Cert.ForwardReferenceIdeal.nD Cert.ForwardReferenceIdeal.τ).loc Cert.ForwardReferenceIdeal.main_arg7) = m ((c.tc : Thread Cert.ForwardKernelIdeal.nD Cert.ForwardKernelIdeal.τ).loc Cert.ForwardKernelIdeal.main_arg7)) →
    ∃ (v0 : (c : Dev Cert.ForwardKernelIdeal.nD) → Buf (Elt Ideal) ((c.tc : Thread Cert.ForwardKernelIdeal.nD Cert.ForwardKernelIdeal.τ).loc Cert.ForwardKernelIdeal.main_v6_0)) (v1 : (c : Dev Cert.ForwardKernelIdeal.nD) → Buf (Elt Ideal) ((c.tc : Thread Cert.ForwardKernelIdeal.nD Cert.ForwardKernelIdeal.τ).loc Cert.ForwardKernelIdeal.main_v6_1)) (v2 : (c : Dev Cert.ForwardKernelIdeal.nD) → Buf (Elt Ideal) ((c.tc : Thread Cert.ForwardKernelIdeal.nD Cert.ForwardKernelIdeal.τ).loc Cert.ForwardKernelIdeal.main_v6_2)) (v3 : (c : Dev Cert.ForwardKernelIdeal.nD) → Buf (Elt Ideal) ((c.tc : Thread Cert.ForwardKernelIdeal.nD Cert.ForwardKernelIdeal.τ).loc Cert.ForwardKernelIdeal.main_v6_3)) (v4 : (c : Dev Cert.ForwardKernelIdeal.nD) → Buf (Elt Ideal) ((c.tc : Thread Cert.ForwardKernelIdeal.nD Cert.ForwardKernelIdeal.τ).loc Cert.ForwardKernelIdeal.main_v6_4)) (v5 : (c : Dev Cert.ForwardKernelIdeal.nD) → Buf (Elt Ideal) ((c.tc : Thread Cert.ForwardKernelIdeal.nD Cert.ForwardKernelIdeal.τ).loc Cert.ForwardKernelIdeal.main_v6_5)) (v6 : (c : Dev Cert.ForwardKernelIdeal.nD) → Buf (Elt Ideal) ((c.tc : Thread Cert.ForwardKernelIdeal.nD Cert.ForwardKernelIdeal.τ).loc Cert.ForwardKernelIdeal.main_v6_6)) (v7 : (c : Dev Cert.ForwardKernelIdeal.nD) → Buf (Elt Ideal) ((c.tc : Thread Cert.ForwardKernelIdeal.nD Cert.ForwardKernelIdeal.τ).loc Cert.ForwardKernelIdeal.main_v6_7)),
      θ_run (Cert.ForwardKernelIdeal.defs (F := Ideal)) (onTc (τ := Cert.ForwardKernelIdeal.τ) (Cert.ForwardKernelIdeal.main (F := Ideal))) ⟨m, fun _ => 0, g⟩ (fun r => ∀ c : Dev Cert.ForwardKernelIdeal.nD,
          r.2.mem ((c.tc : Thread Cert.ForwardKernelIdeal.nD Cert.ForwardKernelIdeal.τ).loc Cert.ForwardKernelIdeal.main_v6_0) = v0 c
          ∧ r.2.mem ((c.tc : Thread Cert.ForwardKernelIdeal.nD Cert.ForwardKernelIdeal.τ).loc Cert.ForwardKernelIdeal.main_v6_1) = v1 c
          ∧ r.2.mem ((c.tc : Thread Cert.ForwardKernelIdeal.nD Cert.ForwardKernelIdeal.τ).loc Cert.ForwardKernelIdeal.main_v6_2) = v2 c
          ∧ r.2.mem ((c.tc : Thread Cert.ForwardKernelIdeal.nD Cert.ForwardKernelIdeal.τ).loc Cert.ForwardKernelIdeal.main_v6_3) = v3 c
          ∧ r.2.mem ((c.tc : Thread Cert.ForwardKernelIdeal.nD Cert.ForwardKernelIdeal.τ).loc Cert.ForwardKernelIdeal.main_v6_4) = v4 c
          ∧ r.2.mem ((c.tc : Thread Cert.ForwardKernelIdeal.nD Cert.ForwardKernelIdeal.τ).loc Cert.ForwardKernelIdeal.main_v6_5) = v5 c
          ∧ r.2.mem ((c.tc : Thread Cert.ForwardKernelIdeal.nD Cert.ForwardKernelIdeal.τ).loc Cert.ForwardKernelIdeal.main_v6_6) = v6 c
          ∧ r.2.mem ((c.tc : Thread Cert.ForwardKernelIdeal.nD Cert.ForwardKernelIdeal.τ).loc Cert.ForwardKernelIdeal.main_v6_7) = v7 c
          ∧ r.2.mem ((c.tc : Thread Cert.ForwardKernelIdeal.nD Cert.ForwardKernelIdeal.τ).loc Cert.ForwardKernelIdeal.main_arg0) = m ((c.tc : Thread Cert.ForwardKernelIdeal.nD Cert.ForwardKernelIdeal.τ).loc Cert.ForwardKernelIdeal.main_arg0)
          ∧ r.2.mem ((c.tc : Thread Cert.ForwardKernelIdeal.nD Cert.ForwardKernelIdeal.τ).loc Cert.ForwardKernelIdeal.main_arg1) = m ((c.tc : Thread Cert.ForwardKernelIdeal.nD Cert.ForwardKernelIdeal.τ).loc Cert.ForwardKernelIdeal.main_arg1)
          ∧ r.2.mem ((c.tc : Thread Cert.ForwardKernelIdeal.nD Cert.ForwardKernelIdeal.τ).loc Cert.ForwardKernelIdeal.main_arg2) = m ((c.tc : Thread Cert.ForwardKernelIdeal.nD Cert.ForwardKernelIdeal.τ).loc Cert.ForwardKernelIdeal.main_arg2)
          ∧ r.2.mem ((c.tc : Thread Cert.ForwardKernelIdeal.nD Cert.ForwardKernelIdeal.τ).loc Cert.ForwardKernelIdeal.main_arg3) = m ((c.tc : Thread Cert.ForwardKernelIdeal.nD Cert.ForwardKernelIdeal.τ).loc Cert.ForwardKernelIdeal.main_arg3)
          ∧ r.2.mem ((c.tc : Thread Cert.ForwardKernelIdeal.nD Cert.ForwardKernelIdeal.τ).loc Cert.ForwardKernelIdeal.main_arg4) = m ((c.tc : Thread Cert.ForwardKernelIdeal.nD Cert.ForwardKernelIdeal.τ).loc Cert.ForwardKernelIdeal.main_arg4)
          ∧ r.2.mem ((c.tc : Thread Cert.ForwardKernelIdeal.nD Cert.ForwardKernelIdeal.τ).loc Cert.ForwardKernelIdeal.main_arg5) = m ((c.tc : Thread Cert.ForwardKernelIdeal.nD Cert.ForwardKernelIdeal.τ).loc Cert.ForwardKernelIdeal.main_arg5)
          ∧ r.2.mem ((c.tc : Thread Cert.ForwardKernelIdeal.nD Cert.ForwardKernelIdeal.τ).loc Cert.ForwardKernelIdeal.main_arg6) = m ((c.tc : Thread Cert.ForwardKernelIdeal.nD Cert.ForwardKernelIdeal.τ).loc Cert.ForwardKernelIdeal.main_arg6)
          ∧ r.2.mem ((c.tc : Thread Cert.ForwardKernelIdeal.nD Cert.ForwardKernelIdeal.τ).loc Cert.ForwardKernelIdeal.main_arg7) = m ((c.tc : Thread Cert.ForwardKernelIdeal.nD Cert.ForwardKernelIdeal.τ).loc Cert.ForwardKernelIdeal.main_arg7))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v42) = v0 c
          ∧ r.2.mem ((c.tc : Thread Cert.ForwardReferenceIdeal.nD Cert.ForwardReferenceIdeal.τ).loc Cert.ForwardReferenceIdeal.main_v43) = v1 c
          ∧ r.2.mem ((c.tc : Thread Cert.ForwardReferenceIdeal.nD Cert.ForwardReferenceIdeal.τ).loc Cert.ForwardReferenceIdeal.main_v44) = v2 c
          ∧ r.2.mem ((c.tc : Thread Cert.ForwardReferenceIdeal.nD Cert.ForwardReferenceIdeal.τ).loc Cert.ForwardReferenceIdeal.main_v49) = v3 c
          ∧ r.2.mem ((c.tc : Thread Cert.ForwardReferenceIdeal.nD Cert.ForwardReferenceIdeal.τ).loc Cert.ForwardReferenceIdeal.main_v60) = v4 c
          ∧ r.2.mem ((c.tc : Thread Cert.ForwardReferenceIdeal.nD Cert.ForwardReferenceIdeal.τ).loc Cert.ForwardReferenceIdeal.main_v61) = v5 c
          ∧ r.2.mem ((c.tc : Thread Cert.ForwardReferenceIdeal.nD Cert.ForwardReferenceIdeal.τ).loc Cert.ForwardReferenceIdeal.main_v72) = v6 c
          ∧ r.2.mem ((c.tc : Thread Cert.ForwardReferenceIdeal.nD Cert.ForwardReferenceIdeal.τ).loc Cert.ForwardReferenceIdeal.main_v73) = v7 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4)
          ∧ r.2.mem ((c.tc : Thread Cert.ForwardReferenceIdeal.nD Cert.ForwardReferenceIdeal.τ).loc Cert.ForwardReferenceIdeal.main_arg5) = m' ((c.tc : Thread Cert.ForwardReferenceIdeal.nD Cert.ForwardReferenceIdeal.τ).loc Cert.ForwardReferenceIdeal.main_arg5)
          ∧ r.2.mem ((c.tc : Thread Cert.ForwardReferenceIdeal.nD Cert.ForwardReferenceIdeal.τ).loc Cert.ForwardReferenceIdeal.main_arg6) = m' ((c.tc : Thread Cert.ForwardReferenceIdeal.nD Cert.ForwardReferenceIdeal.τ).loc Cert.ForwardReferenceIdeal.main_arg6)
          ∧ r.2.mem ((c.tc : Thread Cert.ForwardReferenceIdeal.nD Cert.ForwardReferenceIdeal.τ).loc Cert.ForwardReferenceIdeal.main_arg7) = m' ((c.tc : Thread Cert.ForwardReferenceIdeal.nD Cert.ForwardReferenceIdeal.τ).loc Cert.ForwardReferenceIdeal.main_arg7))

def preserves_EmbedKernel_EmbedKernelIdeal : Prop :=
  True

def algebraic_EmbedKernelIdeal_EmbedReferenceIdeal_pre_embed_finite [hEmbedKernelIdeal : Cert.EmbedKernelIdeal.Facts] [hEmbedReferenceIdeal : Cert.EmbedReferenceIdeal.Facts] [hPre_embed_finite : Cert.Pre_embed_finite.Facts] : Prop :=
  ∀ (m : (ℓ : Loc Cert.EmbedKernelIdeal.nD Cert.EmbedKernelIdeal.τ Cert.EmbedKernelIdeal.sig) → Buf (Elt Ideal) ℓ) (g : Dev Cert.EmbedKernelIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedKernelIdeal_embed_finite m →
    (∀ c : Dev Cert.EmbedKernelIdeal.nD,
      m' ((c.tc : Thread Cert.EmbedReferenceIdeal.nD Cert.EmbedReferenceIdeal.τ).loc Cert.EmbedReferenceIdeal.main_arg0) = m ((c.tc : Thread Cert.EmbedKernelIdeal.nD Cert.EmbedKernelIdeal.τ).loc Cert.EmbedKernelIdeal.main_arg0)
      ∧ m' ((c.tc : Thread Cert.EmbedReferenceIdeal.nD Cert.EmbedReferenceIdeal.τ).loc Cert.EmbedReferenceIdeal.main_arg1) = m ((c.tc : Thread Cert.EmbedKernelIdeal.nD Cert.EmbedKernelIdeal.τ).loc Cert.EmbedKernelIdeal.main_arg1)
      ∧ m' ((c.tc : Thread Cert.EmbedReferenceIdeal.nD Cert.EmbedReferenceIdeal.τ).loc Cert.EmbedReferenceIdeal.main_arg2) = m ((c.tc : Thread Cert.EmbedKernelIdeal.nD Cert.EmbedKernelIdeal.τ).loc Cert.EmbedKernelIdeal.main_arg2)
      ∧ m' ((c.tc : Thread Cert.EmbedReferenceIdeal.nD Cert.EmbedReferenceIdeal.τ).loc Cert.EmbedReferenceIdeal.main_arg3) = m ((c.tc : Thread Cert.EmbedKernelIdeal.nD Cert.EmbedKernelIdeal.τ).loc Cert.EmbedKernelIdeal.main_arg3)
      ∧ m' ((c.tc : Thread Cert.EmbedReferenceIdeal.nD Cert.EmbedReferenceIdeal.τ).loc Cert.EmbedReferenceIdeal.main_arg4) = m ((c.tc : Thread Cert.EmbedKernelIdeal.nD Cert.EmbedKernelIdeal.τ).loc Cert.EmbedKernelIdeal.main_arg4)
      ∧ m' ((c.tc : Thread Cert.EmbedReferenceIdeal.nD Cert.EmbedReferenceIdeal.τ).loc Cert.EmbedReferenceIdeal.main_arg5) = m ((c.tc : Thread Cert.EmbedKernelIdeal.nD Cert.EmbedKernelIdeal.τ).loc Cert.EmbedKernelIdeal.main_arg5)) →
    ∃ (v0 : (c : Dev Cert.EmbedKernelIdeal.nD) → Buf (Elt Ideal) ((c.tc : Thread Cert.EmbedKernelIdeal.nD Cert.EmbedKernelIdeal.τ).loc Cert.EmbedKernelIdeal.main_v34_0)) (v1 : (c : Dev Cert.EmbedKernelIdeal.nD) → Buf (Elt Ideal) ((c.tc : Thread Cert.EmbedKernelIdeal.nD Cert.EmbedKernelIdeal.τ).loc Cert.EmbedKernelIdeal.main_v34_1)) (v2 : (c : Dev Cert.EmbedKernelIdeal.nD) → Buf (Elt Ideal) ((c.tc : Thread Cert.EmbedKernelIdeal.nD Cert.EmbedKernelIdeal.τ).loc Cert.EmbedKernelIdeal.main_v34_2)) (v3 : (c : Dev Cert.EmbedKernelIdeal.nD) → Buf (Elt Ideal) ((c.tc : Thread Cert.EmbedKernelIdeal.nD Cert.EmbedKernelIdeal.τ).loc Cert.EmbedKernelIdeal.main_v34_3)),
      θ_run (Cert.EmbedKernelIdeal.defs (F := Ideal)) (onTc (τ := Cert.EmbedKernelIdeal.τ) (Cert.EmbedKernelIdeal.main (F := Ideal))) ⟨m, fun _ => 0, g⟩ (fun r => ∀ c : Dev Cert.EmbedKernelIdeal.nD,
          r.2.mem ((c.tc : Thread Cert.EmbedKernelIdeal.nD Cert.EmbedKernelIdeal.τ).loc Cert.EmbedKernelIdeal.main_v34_0) = v0 c
          ∧ r.2.mem ((c.tc : Thread Cert.EmbedKernelIdeal.nD Cert.EmbedKernelIdeal.τ).loc Cert.EmbedKernelIdeal.main_v34_1) = v1 c
          ∧ r.2.mem ((c.tc : Thread Cert.EmbedKernelIdeal.nD Cert.EmbedKernelIdeal.τ).loc Cert.EmbedKernelIdeal.main_v34_2) = v2 c
          ∧ r.2.mem ((c.tc : Thread Cert.EmbedKernelIdeal.nD Cert.EmbedKernelIdeal.τ).loc Cert.EmbedKernelIdeal.main_v34_3) = v3 c
          ∧ r.2.mem ((c.tc : Thread Cert.EmbedKernelIdeal.nD Cert.EmbedKernelIdeal.τ).loc Cert.EmbedKernelIdeal.main_arg0) = m ((c.tc : Thread Cert.EmbedKernelIdeal.nD Cert.EmbedKernelIdeal.τ).loc Cert.EmbedKernelIdeal.main_arg0)
          ∧ r.2.mem ((c.tc : Thread Cert.EmbedKernelIdeal.nD Cert.EmbedKernelIdeal.τ).loc Cert.EmbedKernelIdeal.main_arg1) = m ((c.tc : Thread Cert.EmbedKernelIdeal.nD Cert.EmbedKernelIdeal.τ).loc Cert.EmbedKernelIdeal.main_arg1)
          ∧ r.2.mem ((c.tc : Thread Cert.EmbedKernelIdeal.nD Cert.EmbedKernelIdeal.τ).loc Cert.EmbedKernelIdeal.main_arg2) = m ((c.tc : Thread Cert.EmbedKernelIdeal.nD Cert.EmbedKernelIdeal.τ).loc Cert.EmbedKernelIdeal.main_arg2)
          ∧ r.2.mem ((c.tc : Thread Cert.EmbedKernelIdeal.nD Cert.EmbedKernelIdeal.τ).loc Cert.EmbedKernelIdeal.main_arg3) = m ((c.tc : Thread Cert.EmbedKernelIdeal.nD Cert.EmbedKernelIdeal.τ).loc Cert.EmbedKernelIdeal.main_arg3)
          ∧ r.2.mem ((c.tc : Thread Cert.EmbedKernelIdeal.nD Cert.EmbedKernelIdeal.τ).loc Cert.EmbedKernelIdeal.main_arg4) = m ((c.tc : Thread Cert.EmbedKernelIdeal.nD Cert.EmbedKernelIdeal.τ).loc Cert.EmbedKernelIdeal.main_arg4)
          ∧ r.2.mem ((c.tc : Thread Cert.EmbedKernelIdeal.nD Cert.EmbedKernelIdeal.τ).loc Cert.EmbedKernelIdeal.main_arg5) = m ((c.tc : Thread Cert.EmbedKernelIdeal.nD Cert.EmbedKernelIdeal.τ).loc Cert.EmbedKernelIdeal.main_arg5))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v58) = v0 c
          ∧ r.2.mem ((c.tc : Thread Cert.EmbedReferenceIdeal.nD Cert.EmbedReferenceIdeal.τ).loc Cert.EmbedReferenceIdeal.main_v61) = v1 c
          ∧ r.2.mem ((c.tc : Thread Cert.EmbedReferenceIdeal.nD Cert.EmbedReferenceIdeal.τ).loc Cert.EmbedReferenceIdeal.main_v62) = v2 c
          ∧ r.2.mem ((c.tc : Thread Cert.EmbedReferenceIdeal.nD Cert.EmbedReferenceIdeal.τ).loc Cert.EmbedReferenceIdeal.main_v63) = v3 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2)
          ∧ r.2.mem ((c.tc : Thread Cert.EmbedReferenceIdeal.nD Cert.EmbedReferenceIdeal.τ).loc Cert.EmbedReferenceIdeal.main_arg3) = m' ((c.tc : Thread Cert.EmbedReferenceIdeal.nD Cert.EmbedReferenceIdeal.τ).loc Cert.EmbedReferenceIdeal.main_arg3)
          ∧ r.2.mem ((c.tc : Thread Cert.EmbedReferenceIdeal.nD Cert.EmbedReferenceIdeal.τ).loc Cert.EmbedReferenceIdeal.main_arg4) = m' ((c.tc : Thread Cert.EmbedReferenceIdeal.nD Cert.EmbedReferenceIdeal.τ).loc Cert.EmbedReferenceIdeal.main_arg4)
          ∧ r.2.mem ((c.tc : Thread Cert.EmbedReferenceIdeal.nD Cert.EmbedReferenceIdeal.τ).loc Cert.EmbedReferenceIdeal.main_arg5) = m' ((c.tc : Thread Cert.EmbedReferenceIdeal.nD Cert.EmbedReferenceIdeal.τ).loc Cert.EmbedReferenceIdeal.main_arg5))

def Claim : Prop :=
  ∃ (hHiddenKernel : Cert.HiddenKernel.Facts) (hHiddenKernelIdeal : Cert.HiddenKernelIdeal.Facts) (hHiddenReferenceIdeal : Cert.HiddenReferenceIdeal.Facts) (hInputKernel : Cert.InputKernel.Facts) (hInputKernelIdeal : Cert.InputKernelIdeal.Facts) (hInputReferenceIdeal : Cert.InputReferenceIdeal.Facts) (hForwardKernel : Cert.ForwardKernel.Facts) (hForwardKernelIdeal : Cert.ForwardKernelIdeal.Facts) (hForwardReferenceIdeal : Cert.ForwardReferenceIdeal.Facts) (hEmbedKernel : Cert.EmbedKernel.Facts) (hEmbedKernelIdeal : Cert.EmbedKernelIdeal.Facts) (hEmbedReferenceIdeal : Cert.EmbedReferenceIdeal.Facts) (hPre_inputs_finite : Cert.Pre_inputs_finite.Facts) (hPre_embed_finite : Cert.Pre_embed_finite.Facts),
    quiescent_HiddenKernel (hHiddenKernel := hHiddenKernel)
    ∧ quiescent_HiddenKernelIdeal (hHiddenKernelIdeal := hHiddenKernelIdeal)
    ∧ quiescent_HiddenReferenceIdeal (hHiddenReferenceIdeal := hHiddenReferenceIdeal)
    ∧ quiescent_InputKernel (hInputKernel := hInputKernel)
    ∧ quiescent_InputKernelIdeal (hInputKernelIdeal := hInputKernelIdeal)
    ∧ quiescent_InputKernelIdeal_pre_inputs_finite (hInputKernelIdeal := hInputKernelIdeal) (hPre_inputs_finite := hPre_inputs_finite)
    ∧ quiescent_InputReferenceIdeal (hInputReferenceIdeal := hInputReferenceIdeal)
    ∧ quiescent_InputReferenceIdeal_pre_inputs_finite (hInputReferenceIdeal := hInputReferenceIdeal) (hPre_inputs_finite := hPre_inputs_finite)
    ∧ quiescent_ForwardKernel (hForwardKernel := hForwardKernel)
    ∧ quiescent_ForwardKernelIdeal (hForwardKernelIdeal := hForwardKernelIdeal)
    ∧ quiescent_ForwardReferenceIdeal (hForwardReferenceIdeal := hForwardReferenceIdeal)
    ∧ quiescent_EmbedKernel (hEmbedKernel := hEmbedKernel)
    ∧ quiescent_EmbedKernelIdeal (hEmbedKernelIdeal := hEmbedKernelIdeal)
    ∧ quiescent_EmbedKernelIdeal_pre_embed_finite (hEmbedKernelIdeal := hEmbedKernelIdeal) (hPre_embed_finite := hPre_embed_finite)
    ∧ quiescent_EmbedReferenceIdeal (hEmbedReferenceIdeal := hEmbedReferenceIdeal)
    ∧ quiescent_EmbedReferenceIdeal_pre_embed_finite (hEmbedReferenceIdeal := hEmbedReferenceIdeal) (hPre_embed_finite := hPre_embed_finite)
    ∧ preserves_HiddenKernel_HiddenKernelIdeal
    ∧ algebraic_HiddenKernelIdeal_HiddenReferenceIdeal (hHiddenKernelIdeal := hHiddenKernelIdeal) (hHiddenReferenceIdeal := hHiddenReferenceIdeal)
    ∧ preserves_InputKernel_InputKernelIdeal
    ∧ algebraic_InputKernelIdeal_InputReferenceIdeal_pre_inputs_finite (hInputKernelIdeal := hInputKernelIdeal) (hInputReferenceIdeal := hInputReferenceIdeal) (hPre_inputs_finite := hPre_inputs_finite)
    ∧ preserves_ForwardKernel_ForwardKernelIdeal
    ∧ algebraic_ForwardKernelIdeal_ForwardReferenceIdeal (hForwardKernelIdeal := hForwardKernelIdeal) (hForwardReferenceIdeal := hForwardReferenceIdeal)
    ∧ preserves_EmbedKernel_EmbedKernelIdeal
    ∧ algebraic_EmbedKernelIdeal_EmbedReferenceIdeal_pre_embed_finite (hEmbedKernelIdeal := hEmbedKernelIdeal) (hEmbedReferenceIdeal := hEmbedReferenceIdeal) (hPre_embed_finite := hPre_embed_finite)
-- ==== Pre_embed_finite.lean ====
abbrev S16384x1024 : Shape := ⟨2, ![16384, 1024]⟩
abbrev S4x16384x256 : Shape := ⟨3, ![4, 16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x16384x256 : S_.BroadcastsInDim S4x16384x256 (![] : Fin 0 → Fin S4x16384x256.rank)
  reducesTo_S4x16384x256_S_d0_1_2 : S4x16384x256.ReducesTo [0, 1, 2] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S16384x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S4x16384x256 .f32) (main_arg2 : FVec F S1024 .f32) (main_arg3 : FVec F S1024x1024 .f32) (main_arg4 : FVec F S256x1024 .f32) (main_arg5 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x16384x256 .f32 := Host.absf main_arg1
  let main_cst_0 : FVec F S_ .f32 := constant S_ .f32 0x7F800000#32
  let main_v5 : FVec F S4x16384x256 .f32 := broadcastInDim S4x16384x256 ![] bcast_S_S4x16384x256 main_cst_0
  let main_v6 : IVec S4x16384x256 1 := cmpf .olt main_v4 main_v5
  let main_c_1 : IVec S_ 1 := constantI S_ 1 1#1
  let main_v7 : IVec S_ 1 := (fun x v => Host.reduce IntOp.andi x v reducesTo_S4x16384x256_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Pre_inputs_finite.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S16384x4096 : S_.BroadcastsInDim S16384x4096 (![] : Fin 0 → Fin S16384x4096.rank)
  reducesTo_S16384x4096_S_d0_1 : S16384x4096.ReducesTo [0, 1] S_

variable [Facts]

def fn_part1 {F : FTy → Type} [FloatOps F] (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  main_v18

def fn {F : FTy → Type} [FloatOps F] (main_arg0 : FVec F S16384x1024 .f32) (main_arg1 : FVec F S1024 .f32) (main_arg2 : FVec F S1024x4096 .f32) (main_arg3 : FVec F S16384x4096 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_v13 main_v16
-- ==== HiddenKernel.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S512x1024 : Shape := ⟨2, ![512, 1024]⟩
abbrev S512x4096 : Shape := ⟨2, ![512, 4096]⟩
abbrev S2 : Shape := ⟨1, ![2]⟩
abbrev S1 : Shape := ⟨1, ![1]⟩
abbrev S1024x1024 : Shape := ⟨2, ![1024, 1024]⟩
abbrev S128x1024 : Shape := ⟨2, ![128, 1024]⟩
abbrev S2048x1024 : Shape := ⟨2, ![2048, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .bf16⟩
  | .hbm, ⟨7, _⟩ => ⟨S4096x1024, .bf16⟩
  | .hbm, ⟨8, _⟩ => ⟨S16384x4096, .bf16⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S4096x1024, .bf16⟩
  | .local _ .vmem, ⟨7, _⟩ => ⟨S4096x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v77 : BitVec 1 := Scalar.cmpi .eq arg0 c31_i32
  let v78 : BitVec 32 := Scalar.extui v77
  let c0_i32_51 : BitVec 32 := 0#32
  let v79 : BitVec 1 := Scalar.cmpi .ne v78 c0_i32_51
  v79

@[reducible] def k0_t1_loop : Scf.Loop 32 :=
  let c0_i32_52 : BitVec 32 := 0#32
  let c32_i32 : BitVec 32 := 32#32
  let v80 : BitVec 32 := Scalar.addi c0_i32_52 c32_i32
  let c1_i32 : BitVec 32 := 1#32
  ⟨c0_i32_52, v80, c1_i32⟩
def k0_mult1 (k0_t1 : Fin k0_t1_loop.trips) : BitVec 32 :=
  let c0_i32_74 : BitVec 32 := 0#32
  let c0_i32_52 : BitVec 32 := 0#32
  let c1_i32 : BitVec 32 := 1#32
  let arg9 : BitVec 32 := Scf.iv c0_i32_52 c1_i32 k0_t1
  let c1_i32_73 : BitVec 32 := 1#32
  let v97 : BitVec 32 := Scalar.muli arg9 c1_i32_73
  let v98 : BitVec 32 := Scalar.addi c0_i32_74 v97
  let c128_i32 : BitVec 32 := 128#32
  let v99 : BitVec 32 := Scalar.muli v98 c128_i32
  v99
def k0_off1 (k0_t1 : Fin k0_t1_loop.trips) : Fin 2 → Nat :=
  let c0_i32_74 : BitVec 32 := 0#32
  let c0_i32_52 : BitVec 32 := 0#32
  let c1_i32 : BitVec 32 := 1#32
  let arg9 : BitVec 32 := Scf.iv c0_i32_52 c1_i32 k0_t1
  let c1_i32_73 : BitVec 32 := 1#32
  let v97 : BitVec 32 := Scalar.muli arg9 c1_i32_73
  let v98 : BitVec 32 := Scalar.addi c0_i32_74 v97
  let c128_i32 : BitVec 32 := 128#32
  let v99 : BitVec 32 := Scalar.muli v98 c128_i32
  let v100 : BitVec 32 := v99
  let v101 : Index := Scalar.indexCast v100
  let c0_75 : Index := 0#32
  ![v101.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HiddenReferenceIdeal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x1024, .f32⟩
  | .hbm, ⟨16, _⟩ => ⟨S1024x4096, .f32⟩
  | .hbm, ⟨17, _⟩ => ⟨S4096x1024, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .bf16⟩
  | .hbm, ⟨24, _⟩ => ⟨S4096x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== InputKernel.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1x1024 : Shape := ⟨2, ![1, 1024]⟩
abbrev S512x4096 : Shape := ⟨2, ![512, 4096]⟩
abbrev S512x1024 : Shape := ⟨2, ![512, 1024]⟩
abbrev S512x128 : Shape := ⟨2, ![512, 128]⟩
abbrev S2 : Shape := ⟨1, ![2]⟩
abbrev S1 : Shape := ⟨1, ![1]⟩
abbrev S512x1 : Shape := ⟨2, ![512, 1]⟩
abbrev S1024x1024 : Shape := ⟨2, ![1024, 1024]⟩
abbrev S512 : Shape := ⟨1, ![512]⟩
abbrev S128x4096 : Shape := ⟨2, ![128, 4096]⟩

abbrev nBuf : Space → Nat
  | .hbm => 26
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x4096, .bf16⟩
  | .hbm, ⟨19, _⟩ => ⟨S16384x1024, .bf16⟩
  | .hbm, ⟨20, _⟩ => ⟨S16384x128, .f32⟩
  | .hbm, ⟨21, _⟩ => ⟨S1x1024, .f32⟩
  | .hbm, ⟨22, _⟩ => ⟨S1024x4096, .bf16⟩
  | .hbm, ⟨23, _⟩ => ⟨S16384x1024, .f32⟩
  | .hbm, ⟨24, _⟩ => ⟨S1x1024, .f32⟩
  | .hbm, ⟨25, _⟩ => ⟨S1024x4096, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1024x4096, .bf16⟩
  | .local _ .vmem, ⟨13, _⟩ => ⟨S1024x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v80 : BitVec 1 := Scalar.cmpi .eq arg0 c31_i32
  let v81 : BitVec 32 := Scalar.extui v80
  let c0_i32_55 : BitVec 32 := 0#32
  let v82 : BitVec 1 := Scalar.cmpi .ne v81 c0_i32_55
  v82

@[reducible] def k0_t1_loop : Scf.Loop 32 :=
  let c0_i32_56 : BitVec 32 := 0#32
  let c8_i32 : BitVec 32 := 8#32
  let v83 : BitVec 32 := Scalar.addi c0_i32_56 c8_i32
  let c1_i32 : BitVec 32 := 1#32
  ⟨c0_i32_56, v83, c1_i32⟩
def k0_mult1 (k0_t1 : Fin k0_t1_loop.trips) : BitVec 32 :=
  let c0_i32_78 : BitVec 32 := 0#32
  let c0_i32_56 : BitVec 32 := 0#32
  let c1_i32 : BitVec 32 := 1#32
  let arg13 : BitVec 32 := Scf.iv c0_i32_56 c1_i32 k0_t1
  let c1_i32_77 : BitVec 32 := 1#32
  let v100 : BitVec 32 := Scalar.muli arg13 c1_i32_77
  let v101 : BitVec 32 := Scalar.addi c0_i32_78 v100
  let c128_i32 : BitVec 32 := 128#32
  let v102 : BitVec 32 := Scalar.muli v101 c128_i32
  v102
def k0_off1 (k0_t1 : Fin k0_t1_loop.trips) : Fin 2 → Nat :=
  let c0_i32_78 : BitVec 32 := 0#32
  let c0_i32_56 : BitVec 32 := 0#32
  let c1_i32 : BitVec 32 := 1#32
  let arg13 : BitVec 32 := Scf.iv c0_i32_56 c1_i32 k0_t1
  let c1_i32_77 : BitVec 32 := 1#32
  let v100 : BitVec 32 := Scalar.muli arg13 c1_i32_77
  let v101 : BitVec 32 := Scalar.addi c0_i32_78 v100
  let c128_i32 : BitVec 32 := 128#32
  let v102 : BitVec 32 := Scalar.muli v101 c128_i32
  let v103 : BitVec 32 := v102
  let v104 : Index := Scalar.indexCast v103
  let c0_79 : Index := 0#32
  ![v104.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InputReferenceIdeal.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S4096x1024, .f32⟩
  | .hbm, ⟨27, _⟩ => ⟨S1024x4096, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S1024x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== ForwardKernel.lean ====
abbrev S16384x1024 : Shape := ⟨2, ![16384, 1024]⟩
abbrev S4x16384x256 : Shape := ⟨3, ![4, 16384, 256]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S1x1024 : Shape := ⟨2, ![1, 1024]⟩
abbrev S16384x4096 : Shape := ⟨2, ![16384, 4096]⟩
abbrev S16384x128 : Shape := ⟨2, ![16384, 128]⟩
abbrev S512x1024 : Shape := ⟨2, ![512, 1024]⟩
abbrev S1x512x256 : Shape := ⟨3, ![1, 512, 256]⟩
abbrev S512x4096 : Shape := ⟨2, ![512, 4096]⟩
abbrev S512x128 : Shape := ⟨2, ![512, 128]⟩
abbrev S4 : Shape := ⟨1, ![4]⟩
abbrev S1 : Shape := ⟨1, ![1]⟩
abbrev S_ : Shape := ⟨0, ![]⟩
abbrev S512 : Shape := ⟨1, ![512]⟩
abbrev S512x1 : Shape := ⟨2, ![512, 1]⟩
abbrev S512x256 : Shape := ⟨2, ![512, 256]⟩

abbrev nBuf : Space → Nat
  | .hbm => 22
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S4x16384x256, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1x1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S1024x1024, .bf16⟩
  | .hbm, ⟨13, _⟩ => ⟨S256x1024, .bf16⟩
  | .hbm, ⟨14, _⟩ => ⟨S16384x1024, .f32⟩
  | .hbm, ⟨15, _⟩ => ⟨S16384x4096, .bf16⟩
  | .hbm, ⟨16, _⟩ => ⟨S16384x1024, .bf16⟩
  | .hbm, ⟨17, _⟩ => ⟨S16384x1024, .bf16⟩
  | .hbm, ⟨18, _⟩ => ⟨S16384x1024, .bf16⟩
  | .hbm, ⟨19, _⟩ => ⟨S16384x128, .f32⟩
  | .hbm, ⟨20, _⟩ => ⟨S16384x1024, .bf16⟩
  | .hbm, ⟨21, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | .local _ .vmem, ⟨22, _⟩ => ⟨S1024x4096, .bf16⟩
  | .local _ .vmem, ⟨23, _⟩ => ⟨S4096x1024, .bf16⟩
  | .local _ .vmem, ⟨24, _⟩ => ⟨S1024x1024, .bf16⟩
  | .local _ .vmem, ⟨25, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ForwardReferenceIdeal.lean ====
abbrev S16384x1024 : Shape := ⟨2, ![16384, 1024]⟩
abbrev S4x16384x256 : Shape := ⟨3, ![4, 16384, 256]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1x16384x256 : Shape := ⟨3, ![1, 16384, 256]⟩
abbrev S16384x256 : Shape := ⟨2, ![16384, 256]⟩
abbrev S16384x128 : Shape := ⟨2, ![16384, 128]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x256, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S1x16384x256, .f32⟩
  | .hbm, ⟨57, _⟩ => ⟨S16384x256, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x4096, .bf16⟩
  | .hbm, ⟨62, _⟩ => ⟨S16384x1024, .bf16⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .bf16⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S16384x1024, .bf16⟩
  | .hbm, ⟨83, _⟩ => ⟨S16384x128, .f32⟩
  | .hbm, ⟨84, _⟩ => ⟨S16384x1024, .f32⟩
  | .hbm, ⟨85, _⟩ => ⟨S_, .f32⟩
  | .hbm, ⟨86, _⟩ => ⟨S16384, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S16384x1, .f32⟩
  | .hbm, ⟨95, _⟩ => ⟨S16384x1024, .f32⟩
  | .hbm, ⟨96, _⟩ => ⟨S16384x1024, .f32⟩
  | .hbm, ⟨97, _⟩ => ⟨S16384x1024, .bf16⟩
  | .hbm, ⟨98, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== EmbedKernel.lean ====
abbrev S16384x1024 : Shape := ⟨2, ![16384, 1024]⟩
abbrev S4x16384x256 : Shape := ⟨3, ![4, 16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x16384x256 : Shape := ⟨3, ![1, 16384, 256]⟩
abbrev S16384x256 : Shape := ⟨2, ![16384, 256]⟩
abbrev S16384x128 : Shape := ⟨2, ![16384, 128]⟩
abbrev S8x128 : Shape := ⟨2, ![8, 128]⟩
abbrev S1024x128 : Shape := ⟨2, ![1024, 128]⟩
abbrev S1x1024x256 : Shape := ⟨3, ![1, 1024, 256]⟩
abbrev S2 : Shape := ⟨1, ![2]⟩
abbrev S1 : Shape := ⟨1, ![1]⟩
abbrev S1024x256 : Shape := ⟨2, ![1024, 256]⟩
abbrev S1024x1 : Shape := ⟨2, ![1024, 1]⟩
abbrev S128x1024 : Shape := ⟨2, ![128, 1024]⟩

abbrev nBuf : Space → Nat
  | .hbm => 51
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S4x16384x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S1x16384x256, .f32⟩
  | .hbm, ⟨32, _⟩ => ⟨S16384x256, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S16384x128, .f32⟩
  | .hbm, ⟨41, _⟩ => ⟨S16384x1024, .bf16⟩
  | .hbm, ⟨42, _⟩ => ⟨S16384x1024, .bf16⟩
  | .hbm, ⟨43, _⟩ => ⟨S1x1024, .f32⟩
  | .hbm, ⟨44, _⟩ => ⟨S1024x1024, .bf16⟩
  | .hbm, ⟨45, _⟩ => ⟨S_, .f32⟩
  | .hbm, ⟨46, _⟩ => ⟨S8x128, .f32⟩
  | .hbm, ⟨47, _⟩ => ⟨S16384x1024, .f32⟩
  | .hbm, ⟨48, _⟩ => ⟨S1x1024, .f32⟩
  | .hbm, ⟨49, _⟩ => ⟨S1024x1024, .bf16⟩
  | .hbm, ⟨50, _⟩ => ⟨S256x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x256, .f32⟩
  | .local _ .vmem, ⟨11, _⟩ => ⟨S1x1024x256, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S1024x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v34_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_37 : BitVec 32 := 0#32
  let v64 : BitVec 1 := Scalar.cmpi .ne v63 c0_i32_37
  v64

@[reducible] def k0_t1_loop : Scf.Loop 32 :=
  let c0_i32_38 : BitVec 32 := 0#32
  let c8_i32 : BitVec 32 := 8#32
  let v65 : BitVec 32 := Scalar.addi c0_i32_38 c8_i32
  let c1_i32 : BitVec 32 := 1#32
  ⟨c0_i32_38, v65, c1_i32⟩
def k0_mult1 (k0_t1 : Fin k0_t1_loop.trips) : BitVec 32 :=
  let c0_i32_48 : BitVec 32 := 0#32
  let c0_i32_38 : BitVec 32 := 0#32
  let c1_i32 : BitVec 32 := 1#32
  let arg19 : BitVec 32 := Scf.iv c0_i32_38 c1_i32 k0_t1
  let c1_i32_47 : BitVec 32 := 1#32
  let v75 : BitVec 32 := Scalar.muli arg19 c1_i32_47
  let v76 : BitVec 32 := Scalar.addi c0_i32_48 v75
  let c128_i32 : BitVec 32 := 128#32
  let v77 : BitVec 32 := Scalar.muli v76 c128_i32
  v77
def k0_off1 (k0_t1 : Fin k0_t1_loop.trips) : Fin 2 → Nat :=
  let c0_i32_48 : BitVec 32 := 0#32
  let c0_i32_38 : BitVec 32 := 0#32
  let c1_i32 : BitVec 32 := 1#32
  let arg19 : BitVec 32 := Scf.iv c0_i32_38 c1_i32 k0_t1
  let c1_i32_47 : BitVec 32 := 1#32
  let v75 : BitVec 32 := Scalar.muli arg19 c1_i32_47
  let v76 : BitVec 32 := Scalar.addi c0_i32_48 v75
  let c128_i32 : BitVec 32 := 128#32
  let v77 : BitVec 32 := Scalar.muli v76 c128_i32
  let v78 : BitVec 32 := v77
  let v79 : Index := Scalar.indexCast v78
  let c0_49 : Index := 0#32
  ![v79.toNat, 0]
@[reducible] def k0_t2_loop : Scf.Loop 32 :=
  let c0_i32_41 : BitVec 32 := 0#32
  let c2_i32 : BitVec 32 := 2#32
  let v68 : BitVec 32 := Scalar.addi c0_i32_41 c2_i32
  let c1_i32_42 : BitVec 32 := 1#32
  ⟨c0_i32_41, v68, c1_i32_42⟩
def k0_mult2 (k0_t2 : Fin k0_t2_loop.trips) : BitVec 32 :=
  let c0_i32_48 : BitVec 32 := 0#32
  let c0_i32_41 : BitVec 32 := 0#32
  let c1_i32_42 : BitVec 32 := 1#32
  let arg19 : BitVec 32 := Scf.iv c0_i32_41 c1_i32_42 k0_t2
  let c1_i32_47 : BitVec 32 := 1#32
  let v75 : BitVec 32 := Scalar.muli arg19 c1_i32_47
  let v76 : BitVec 32 := Scalar.addi c0_i32_48 v75
  let c128_i32 : BitVec 32 := 128#32
  let v77 : BitVec 32 := Scalar.muli v76 c128_i32
  v77
def k0_off2 (k0_t2 : Fin k0_t2_loop.trips) : Fin 2 → Nat :=
  let c0_i32_48 : BitVec 32 := 0#32
  let c0_i32_41 : BitVec 32 := 0#32
  let c1_i32_42 : BitVec 32 := 1#32
  let arg19 : BitVec 32 := Scf.iv c0_i32_41 c1_i32_42 k0_t2
  let c1_i32_47 : BitVec 32 := 1#32
  let v75 : BitVec 32 := Scalar.muli arg19 c1_i32_47
  let v76 : BitVec 32 := Scalar.addi c0_i32_48 v75
  let c128_i32 : BitVec 32 := 128#32
  let v77 : BitVec 32 := Scalar.muli v76 c128_i32
  let v78 : BitVec 32 := v77
  let v79 : Index := Scalar.indexCast v78
  let c0_49 : Index := 0#32
  ![v79.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== EmbedReferenceIdeal.lean ====
abbrev S16384x1024 : Shape := ⟨2, ![16384, 1024]⟩
abbrev S4x16384x256 : Shape := ⟨3, ![4, 16384, 256]⟩
abbrev S1024 : Shape := ⟨1, ![1024]⟩
abbrev S1024x1024 : Shape := ⟨2, ![1024, 1024]⟩
abbrev S256x1024 : Shape := ⟨2, ![256, 1024]⟩
abbrev S1x16384x256 : Shape := ⟨3, ![1, 16384, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x256 : Shape := ⟨2, ![1024, 256]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S16384x1024, .f32⟩
  | .hbm, ⟨6, _⟩ => ⟨S1x16384x256, .f32⟩
  | .hbm, ⟨7, _⟩ => ⟨S16384x256, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1024x1024, .f32⟩
  | .hbm, ⟨49, _⟩ => ⟨S1024x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1024x256, .f32⟩
  | .hbm, ⟨78, _⟩ => ⟨S256x1024, .f32⟩
  | .hbm, ⟨79, _⟩ => ⟨S1x1024, .f32⟩
  | .hbm, ⟨80, _⟩ => ⟨S1024x1024, .bf16⟩
  | .hbm, ⟨81, _⟩ => ⟨S256x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Proof.Tiles.lean ====
module

public import Idealize.ShloMosaic.Lib.Pipeline.ReadBack
public import Idealize.ShloMosaic.Lib.Pipeline.CanonAppend
public import Idealize.ShloMosaic.Lib.Pipeline.ValueKit

@[expose] public section

/-! # Buffers written block by block

Indices of rank-two arrays, and what is read from a buffer that whole writes, fills and blocks have been stored into. -/

noncomputable section

open Idealize.ShloMosaic Idealize.ShloMosaic.TcCoe Idealize.SL.Sem

namespace Cert.Tiles

/-- An index of a rank-two array, given its two coordinates. -/
theorem idx2_of {a b : ℕ} {y : (⟨2, ![a, b]⟩ : Shape).Idx} {i : Fin a} {n : ℕ} (hn : n < b) (h0 : (y 0 : ℕ) = i) (h1 : (y 1 : ℕ) = n) :
    y = ix2 i ⟨n, hn⟩ := by
  funext k
  refine Fin.ext ?_
  match k with
  | ⟨0, _⟩ => exact h0
  | ⟨1, _⟩ => exact h1

/-- Stores over a buffer that later stores cover are not seen. -/
theorem canon_covered {S : Shape} {e : EltTy} {Val : EltTy → Type} [∀ e, Nonempty (Val e)] (L' : List (View.Piece Val S e)) :
    ∀ (L : List (View.Piece Val S e)) (y : S.Idx), (∃ p ∈ L, y ∈ p.1.set) → View.canon (L ++ L') y = View.canon L y
  | [], y, h => by simp at h
  | p :: L, y, h => by
    by_cases hy : y ∈ p.1.set
    · obtain ⟨x, rfl⟩ := p.1.exists_idx_of_mem hy
      rw [List.cons_append, show p.1.idx x = p.1.emb x from rfl, View.canon_cons_emb, View.canon_cons_emb]
    · rw [List.cons_append, View.canon_cons_of_not_mem p _ hy, View.canon_cons_of_not_mem p _ hy]
      obtain ⟨q, hq, hyq⟩ := h
      rcases List.mem_cons.mp hq with rfl | hq
      · exact absurd hyq hy
      · exact canon_covered L' L y ⟨q, hq, hyq⟩

/-- The case of four stores over one fill. -/
theorem canon_covered4 {S : Shape} {e : EltTy} {Val : EltTy → Type} [∀ e, Nonempty (Val e)] {p q r s f : View.Piece Val S e} (y : S.Idx)
    (h : ∃ o ∈ [p, q, r, s], y ∈ o.1.set) : View.canon [p, q, r, s, f] y = View.canon [p, q, r, s] y :=
  canon_covered [f] [p, q, r, s] y h

/-- The same, the first coordinate a number. -/
theorem idx2_of' {a b : ℕ} {y : (⟨2, ![a, b]⟩ : Shape).Idx} {j : Fin b} {n : ℕ} (hn : n < a) (h0 : (y 0 : ℕ) = n) (h1 : (y 1 : ℕ) = j) :
    y = ix2 ⟨n, hn⟩ j := by
  funext k
  refine Fin.ext ?_
  match k with
  | ⟨0, _⟩ => exact h0
  | ⟨1, _⟩ => exact h1

/-- A buffer one whole write has filled holds what was written. -/
theorem canon_whole {S : Shape} {e : EltTy} (w : (Rect.whole S).shape.Idx → Elt Ideal e) (y : S.Idx) :
    View.canon (Val := Elt Ideal) [⟨Rect.whole S, w⟩] y = w y := by
  have h := View.canon_cons_emb (Val := Elt Ideal) (Rect.whole S) w [] y
  rwa [Rect.emb_whole_apply] at h

/-- A load from a buffer that one copy has filled reads the copied array. -/
theorem load_copied {S : Shape} {sig : RefSig} {κ : Kind} {sp : Space} {e : EltTy} (v : View sig κ sp S e) (w : (Rect.whole S).shape.Idx → Elt Ideal e) (r : Rect S) :
    v.readCov (Val := Elt Ideal) [⟨Rect.whole S, w⟩] r.toLoadRect = View.ld (Val := Elt Ideal) (e' := e) w r := by
  rw [View.readCov_eq_canon']
  funext x
  exact canon_whole w _

/-- A sum over 4096 terms in four parts. -/
theorem sum_quarters (f : Fin 4096 → EReal) :
    ∑ j, f j = ∑ j : Fin 1024, f ⟨j.val, by omega⟩ + ∑ j : Fin 1024, f ⟨1024 + j.val, by omega⟩ + ∑ j : Fin 1024, f ⟨2048 + j.val, by omega⟩
      + ∑ j : Fin 1024, f ⟨3072 + j.val, by omega⟩ := by
  rw [← Fin.sum_mul_add_fin (L := 4096) 4 1024 f, Fin.sum_univ_four]
  refine congrArg₂ (· + ·) (congrArg₂ (· + ·) (congrArg₂ (· + ·) ?_ ?_) ?_) ?_ <;>
    exact Finset.sum_congr rfl fun j _ => congrArg f (Fin.ext (by simp))

end Cert.Tiles
-- ==== Proof.HiddenTiles.lean ====
module

public import proofs.«01_k».proof.Proof.Gen.HiddenKernelIdeal.Frame
public import proofs.«01_k».proof.Proof.Tiles
public import proofs.«01_k».proof.Proof.Gen.HiddenReferenceIdeal.Read

@[expose] public section

set_option maxRecDepth 16384

/-! # The feed-forward backward's hidden call: what one grid point stores

Every stored block read at one entry. `two` is the word of `2.0` as the kernel and the reference both spell it. -/

noncomputable section

open Idealize.ShloMosaic Idealize.ShloMosaic.TcCoe Idealize.SL.Sem
open Idealize.ShloMosaic.Pipeline (Dat)

namespace Cert.HiddenKernelIdeal.Value

open Cert.HiddenKernelIdeal Cert.HiddenKernelIdeal.Gen Cert.Tiles

/-- The value of the constant `2.0` both programs multiply by. -/
abbrev two : EReal := Ideal.ofBits FTy.f32 0x40000000#32

/-- The four stored column blocks of the activation gradient, read at one entry of the output block. -/
theorem da_tiles (D : FVec Ideal S512x1024 .f32) (R : FVec Ideal S512x4096 .bf16) (W : FVec Ideal S4096x1024 .bf16) (y : S512x4096.Idx) :
    View.canon (Val := Elt Ideal) (s := S512x4096) (e := .bf16)
      [⟨Rect.unit (s := S512x4096) ![0, 3072] ![512, 1024] inb_S512x4096_S512x1024_0_3072,
          k0_pay1 (F := Ideal) (k0_pay5 D) (k0_pay15 (View.ld (Val := Elt Ideal) (e' := .bf16) R (Rect.unit (s := S512x4096) ![0, 3072] ![512, 1024] inb_S512x4096_S512x1024_0_3072))) (View.ld (Val := Elt Ideal) (e' := .bf16) W (Rect.unit (s := S4096x1024) ![3072, 0] ![1024, 1024] inb_S4096x1024_S1024x1024_3072_0)) (constant S512x1024 FTy.f32 0#32)⟩,
        ⟨Rect.unit (s := S512x4096) ![0, 2048] ![512, 1024] inb_S512x4096_S512x1024_0_2048,
          k0_pay13 (F := Ideal) (k0_pay5 D) (View.ld (Val := Elt Ideal) (e' := .bf16) R (Rect.unit (s := S512x4096) ![0, 2048] ![512, 1024] inb_S512x4096_S512x1024_0_2048)) (View.ld (Val := Elt Ideal) (e' := .bf16) W (Rect.unit (s := S4096x1024) ![2048, 0] ![1024, 1024] inb_S4096x1024_S1024x1024_2048_0))⟩,
        ⟨Rect.unit (s := S512x4096) ![0, 1024] ![512, 1024] inb_S512x4096_S512x1024_0_1024,
          k0_pay10 (F := Ideal) D (View.ld (Val := Elt Ideal) (e' := .bf16) R (Rect.unit (s := S512x4096) ![0, 1024] ![512, 1024] inb_S512x4096_S512x1024_0_1024)) (View.ld (Val := Elt Ideal) (e' := .bf16) W (Rect.unit (s := S4096x1024) ![1024, 0] ![1024, 1024] inb_S4096x1024_S1024x1024_1024_0))⟩,
        ⟨Rect.unit (s := S512x4096) ![0, 0] ![512, 1024] inb_S512x4096_S512x1024_0_0,
          k0_pay7 (F := Ideal) D (View.ld (Val := Elt Ideal) (e' := .bf16) R (Rect.unit (s := S512x4096) ![0, 0] ![512, 1024] inb_S512x4096_S512x1024_0_0)) (View.ld (Val := Elt Ideal) (e' := .bf16) W (Rect.unit (s := S4096x1024) ![0, 0] ![1024, 1024] inb_S4096x1024_S1024x1024_0_0))⟩] y
      = two * R y * ∑ k : Fin 1024, D (ix2 (y 0) k) * W (ix2 (y 1) k) := by
  canon_tiles x h
  all_goals pointwise [k0_pay1, k0_pay13, k0_pay10, k0_pay7, k0_pay2, k0_pay14, k0_pay11, k0_pay8, k0_pay5, k0_pay6, k0_pay9, k0_pay12, k0_pay15]
  all_goals
    obtain rfl : y = ix2 _ _ := (idx2_of (by clear h0 h1; omega) h0 h1)
    rfl

/-- The four stored row blocks of the weight gradient, read at one entry: what the scratch held, plus the point's rows. -/
theorem dw_tiles (D : FVec Ideal S512x1024 .f32) (R : FVec Ideal S512x4096 .bf16) (A : FVec Ideal S4096x1024 .f32) (y : S4096x1024.Idx) :
    View.canon (Val := Elt Ideal) (s := S4096x1024) (e := .f32)
      [⟨Rect.unit (s := S4096x1024) ![3072, 0] ![1024, 1024] inb_S4096x1024_S1024x1024_3072_0,
          k0_pay2 (F := Ideal) (k0_pay5 D) (k0_pay15 (View.ld (Val := Elt Ideal) (e' := .bf16) R (Rect.unit (s := S512x4096) ![0, 3072] ![512, 1024] inb_S512x4096_S512x1024_0_3072))) (View.ld (Val := Elt Ideal) (e' := .f32) A (Rect.unit (s := S4096x1024) ![3072, 0] ![1024, 1024] inb_S4096x1024_S1024x1024_3072_0))⟩,
        ⟨Rect.unit (s := S4096x1024) ![2048, 0] ![1024, 1024] inb_S4096x1024_S1024x1024_2048_0,
          k0_pay14 (F := Ideal) (k0_pay5 D) (View.ld (Val := Elt Ideal) (e' := .bf16) R (Rect.unit (s := S512x4096) ![0, 2048] ![512, 1024] inb_S512x4096_S512x1024_0_2048)) (View.ld (Val := Elt Ideal) (e' := .f32) A (Rect.unit (s := S4096x1024) ![2048, 0] ![1024, 1024] inb_S4096x1024_S1024x1024_2048_0))⟩,
        ⟨Rect.unit (s := S4096x1024) ![1024, 0] ![1024, 1024] inb_S4096x1024_S1024x1024_1024_0,
          k0_pay11 (F := Ideal) (k0_pay5 D) (k0_pay9 (View.ld (Val := Elt Ideal) (e' := .bf16) R (Rect.unit (s := S512x4096) ![0, 1024] ![512, 1024] inb_S512x4096_S512x1024_0_1024))) (View.ld (Val := Elt Ideal) (e' := .f32) A (Rect.unit (s := S4096x1024) ![1024, 0] ![1024, 1024] inb_S4096x1024_S1024x1024_1024_0))⟩,
        ⟨Rect.unit (s := S4096x1024) ![0, 0] ![1024, 1024] inb_S4096x1024_S1024x1024_0_0,
          k0_pay8 (F := Ideal) D (View.ld (Val := Elt Ideal) (e' := .bf16) R (Rect.unit (s := S512x4096) ![0, 0] ![512, 1024] inb_S512x4096_S512x1024_0_0)) (View.ld (Val := Elt Ideal) (e' := .f32) A (Rect.unit (s := S4096x1024) ![0, 0] ![1024, 1024] inb_S4096x1024_S1024x1024_0_0))⟩] y
      = A y + ∑ k : Fin 512, R (ix2 k (y 0)) * R (ix2 k (y 0)) * D (ix2 k (y 1)) := by
  canon_tiles x h
  all_goals pointwise [k0_pay1, k0_pay13, k0_pay10, k0_pay7, k0_pay2, k0_pay14, k0_pay11, k0_pay8, k0_pay5, k0_pay6, k0_pay9, k0_pay12, k0_pay15]
  all_goals
    obtain rfl : y = ix2 _ _ := (idx2_of' (by clear h0 h1; omega) h0 h1)
    rfl

/-- The same at the first point, where the scratch is filled with zeros before the blocks are read. -/
theorem dw_tiles_first (D : FVec Ideal S512x1024 .f32) (R : FVec Ideal S512x4096 .bf16) (y : S4096x1024.Idx) :
    View.canon (Val := Elt Ideal) (s := S4096x1024) (e := .f32)
      [⟨Rect.unit (s := S4096x1024) ![3072, 0] ![1024, 1024] inb_S4096x1024_S1024x1024_3072_0,
          k0_pay2 (F := Ideal) (k0_pay5 D) (k0_pay15 (View.ld (Val := Elt Ideal) (e' := .bf16) R (Rect.unit (s := S512x4096) ![0, 3072] ![512, 1024] inb_S512x4096_S512x1024_0_3072))) ((View.whole cc0_scratch1).readCov (Val := Elt Ideal) [⟨Rect.unit (s := S4096x1024) ![2048, 0] ![1024, 1024] inb_S4096x1024_S1024x1024_2048_0,
          k0_pay14 (F := Ideal) (k0_pay5 D) (View.ld (Val := Elt Ideal) (e' := .bf16) R (Rect.unit (s := S512x4096) ![0, 2048] ![512, 1024] inb_S512x4096_S512x1024_0_2048)) ((View.whole cc0_scratch1).readCov (Val := Elt Ideal) [⟨Rect.unit (s := S4096x1024) ![1024, 0] ![1024, 1024] inb_S4096x1024_S1024x1024_1024_0,
          k0_pay11 (F := Ideal) (k0_pay5 D) (k0_pay9 (View.ld (Val := Elt Ideal) (e' := .bf16) R (Rect.unit (s := S512x4096) ![0, 1024] ![512, 1024] inb_S512x4096_S512x1024_0_1024))) ((View.whole cc0_scratch1).readCov (Val := Elt Ideal) [⟨Rect.unit (s := S4096x1024) ![0, 0] ![1024, 1024] inb_S4096x1024_S1024x1024_0_0,
          k0_pay8 (F := Ideal) D (View.ld (Val := Elt Ideal) (e' := .bf16) R (Rect.unit (s := S512x4096) ![0, 0] ![512, 1024] inb_S512x4096_S512x1024_0_0)) ((View.whole cc0_scratch1).readCov (Val := Elt Ideal) [⟨Rect.unit (s := S4096x1024) ![0, 0] ![4096, 1024] inb_S4096x1024_S4096x1024_0_0, k0_pay4 (F := Ideal)⟩] (Rect.unit (s := S4096x1024) ![0, 0] ![1024, 1024] inb_S4096x1024_S1024x1024_0_0).toLoadRect)⟩, ⟨Rect.unit (s := S4096x1024) ![0, 0] ![4096, 1024] inb_S4096x1024_S4096x1024_0_0, k0_pay4 (F := Ideal)⟩] (Rect.unit (s := S4096x1024) ![1024, 0] ![1024, 1024] inb_S4096x1024_S1024x1024_1024_0).toLoadRect)⟩, ⟨Rect.unit (s := S4096x1024) ![0, 0] ![1024, 1024] inb_S4096x1024_S1024x1024_0_0,
          k0_pay8 (F := Ideal) D (View.ld (Val := Elt Ideal) (e' := .bf16) R (Rect.unit (s := S512x4096) ![0, 0] ![512, 1024] inb_S512x4096_S512x1024_0_0)) ((View.whole cc0_scratch1).readCov (Val := Elt Ideal) [⟨Rect.unit (s := S4096x1024) ![0, 0] ![4096, 1024] inb_S4096x1024_S4096x1024_0_0, k0_pay4 (F := Ideal)⟩] (Rect.unit (s := S4096x1024) ![0, 0] ![1024, 1024] inb_S4096x1024_S1024x1024_0_0).toLoadRect)⟩, ⟨Rect.unit (s := S4096x1024) ![0, 0] ![4096, 1024] inb_S4096x1024_S4096x1024_0_0, k0_pay4 (F := Ideal)⟩] (Rect.unit (s := S4096x1024) ![2048, 0] ![1024, 1024] inb_S4096x1024_S1024x1024_2048_0).toLoadRect)⟩, ⟨Rect.unit (s := S4096x1024) ![1024, 0] ![1024, 1024] inb_S4096x1024_S1024x1024_1024_0,
          k0_pay11 (F := Ideal) (k0_pay5 D) (k0_pay9 (View.ld (Val := Elt Ideal) (e' := .bf16) R (Rect.unit (s := S512x4096) ![0, 1024] ![512, 1024] inb_S512x4096_S512x1024_0_1024))) ((View.whole cc0_scratch1).readCov (Val := Elt Ideal) [⟨Rect.unit (s := S4096x1024) ![0, 0] ![1024, 1024] inb_S4096x1024_S1024x1024_0_0,
          k0_pay8 (F := Ideal) D (View.ld (Val := Elt Ideal) (e' := .bf16) R (Rect.unit (s := S512x4096) ![0, 0] ![512, 1024] inb_S512x4096_S512x1024_0_0)) ((View.whole cc0_scratch1).readCov (Val := Elt Ideal) [⟨Rect.unit (s := S4096x1024) ![0, 0] ![4096, 1024] inb_S4096x1024_S4096x1024_0_0, k0_pay4 (F := Ideal)⟩] (Rect.unit (s := S4096x1024) ![0, 0] ![1024, 1024] inb_S4096x1024_S1024x1024_0_0).toLoadRect)⟩, ⟨Rect.unit (s := S4096x1024) ![0, 0] ![4096, 1024] inb_S4096x1024_S4096x1024_0_0, k0_pay4 (F := Ideal)⟩] (Rect.unit (s := S4096x1024) ![1024, 0] ![1024, 1024] inb_S4096x1024_S1024x1024_1024_0).toLoadRect)⟩, ⟨Rect.unit (s := S4096x1024) ![0, 0] ![1024, 1024] inb_S4096x1024_S1024x1024_0_0,
          k0_pay8 (F := Ideal) D (View.ld (Val := Elt Ideal) (e' := .bf16) R (Rect.unit (s := S512x4096) ![0, 0] ![512, 1024] inb_S512x4096_S512x1024_0_0)) ((View.whole cc0_scratch1).readCov (Val := Elt Ideal) [⟨Rect.unit (s := S4096x1024) ![0, 0] ![4096, 1024] inb_S4096x1024_S4096x1024_0_0, k0_pay4 (F := Ideal)⟩] (Rect.unit (s := S4096x1024) ![0, 0] ![1024, 1024] inb_S4096x1024_S1024x1024_0_0).toLoadRect)⟩, ⟨Rect.unit (s := S4096x1024) ![0, 0] ![4096, 1024] inb_S4096x1024_S4096x1024_0_0, k0_pay4 (F := Ideal)⟩] (Rect.unit (s := S4096x1024) ![3072, 0] ![1024, 1024] inb_S4096x1024_S1024x1024_3072_0).toLoadRect)⟩,
        ⟨Rect.unit (s := S4096x1024) ![2048, 0] ![1024, 1024] inb_S4096x1024_S1024x1024_2048_0,
          k0_pay14 (F := Ideal) (k0_pay5 D) (View.ld (Val := Elt Ideal) (e' := .bf16) R (Rect.unit (s := S512x4096) ![0, 2048] ![512, 1024] inb_S512x4096_S512x1024_0_2048)) ((View.whole cc0_scratch1).readCov (Val := Elt Ideal) [⟨Rect.unit (s := S4096x1024) ![1024, 0] ![1024, 1024] inb_S4096x1024_S1024x1024_1024_0,
          k0_pay11 (F := Ideal) (k0_pay5 D) (k0_pay9 (View.ld (Val := Elt Ideal) (e' := .bf16) R (Rect.unit (s := S512x4096) ![0, 1024] ![512, 1024] inb_S512x4096_S512x1024_0_1024))) ((View.whole cc0_scratch1).readCov (Val := Elt Ideal) [⟨Rect.unit (s := S4096x1024) ![0, 0] ![1024, 1024] inb_S4096x1024_S1024x1024_0_0,
          k0_pay8 (F := Ideal) D (View.ld (Val := Elt Ideal) (e' := .bf16) R (Rect.unit (s := S512x4096) ![0, 0] ![512, 1024] inb_S512x4096_S512x1024_0_0)) ((View.whole cc0_scratch1).readCov (Val := Elt Ideal) [⟨Rect.unit (s := S4096x1024) ![0, 0] ![4096, 1024] inb_S4096x1024_S4096x1024_0_0, k0_pay4 (F := Ideal)⟩] (Rect.unit (s := S4096x1024) ![0, 0] ![1024, 1024] inb_S4096x1024_S1024x1024_0_0).toLoadRect)⟩, ⟨Rect.unit (s := S4096x1024) ![0, 0] ![4096, 1024] inb_S4096x1024_S4096x1024_0_0, k0_pay4 (F := Ideal)⟩] (Rect.unit (s := S4096x1024) ![1024, 0] ![1024, 1024] inb_S4096x1024_S1024x1024_1024_0).toLoadRect)⟩, ⟨Rect.unit (s := S4096x1024) ![0, 0] ![1024, 1024] inb_S4096x1024_S1024x1024_0_0,
          k0_pay8 (F := Ideal) D (View.ld (Val := Elt Ideal) (e' := .bf16) R (Rect.unit (s := S512x4096) ![0, 0] ![512, 1024] inb_S512x4096_S512x1024_0_0)) ((View.whole cc0_scratch1).readCov (Val := Elt Ideal) [⟨Rect.unit (s := S4096x1024) ![0, 0] ![4096, 1024] inb_S4096x1024_S4096x1024_0_0, k0_pay4 (F := Ideal)⟩] (Rect.unit (s := S4096x1024) ![0, 0] ![1024, 1024] inb_S4096x1024_S1024x1024_0_0).toLoadRect)⟩, ⟨Rect.unit (s := S4096x1024) ![0, 0] ![4096, 1024] inb_S4096x1024_S4096x1024_0_0, k0_pay4 (F := Ideal)⟩] (Rect.unit (s := S4096x1024) ![2048, 0] ![1024, 1024] inb_S4096x1024_S1024x1024_2048_0).toLoadRect)⟩,
        ⟨Rect.unit (s := S4096x1024) ![1024, 0] ![1024, 1024] inb_S4096x1024_S1024x1024_1024_0,
          k0_pay11 (F := Ideal) (k0_pay5 D) (k0_pay9 (View.ld (Val := Elt Ideal) (e' := .bf16) R (Rect.unit (s := S512x4096) ![0, 1024] ![512, 1024] inb_S512x4096_S512x1024_0_1024))) ((View.whole cc0_scratch1).readCov (Val := Elt Ideal) [⟨Rect.unit (s := S4096x1024) ![0, 0] ![1024, 1024] inb_S4096x1024_S1024x1024_0_0,
          k0_pay8 (F := Ideal) D (View.ld (Val := Elt Ideal) (e' := .bf16) R (Rect.unit (s := S512x4096) ![0, 0] ![512, 1024] inb_S512x4096_S512x1024_0_0)) ((View.whole cc0_scratch1).readCov (Val := Elt Ideal) [⟨Rect.unit (s := S4096x1024) ![0, 0] ![4096, 1024] inb_S4096x1024_S4096x1024_0_0, k0_pay4 (F := Ideal)⟩] (Rect.unit (s := S4096x1024) ![0, 0] ![1024, 1024] inb_S4096x1024_S1024x1024_0_0).toLoadRect)⟩, ⟨Rect.unit (s := S4096x1024) ![0, 0] ![4096, 1024] inb_S4096x1024_S4096x1024_0_0, k0_pay4 (F := Ideal)⟩] (Rect.unit (s := S4096x1024) ![1024, 0] ![1024, 1024] inb_S4096x1024_S1024x1024_1024_0).toLoadRect)⟩,
        ⟨Rect.unit (s := S4096x1024) ![0, 0] ![1024, 1024] inb_S4096x1024_S1024x1024_0_0,
          k0_pay8 (F := Ideal) D (View.ld (Val := Elt Ideal) (e' := .bf16) R (Rect.unit (s := S512x4096) ![0, 0] ![512, 1024] inb_S512x4096_S512x1024_0_0)) ((View.whole cc0_scratch1).readCov (Val := Elt Ideal) [⟨Rect.unit (s := S4096x1024) ![0, 0] ![4096, 1024] inb_S4096x1024_S4096x1024_0_0, k0_pay4 (F := Ideal)⟩] (Rect.unit (s := S4096x1024) ![0, 0] ![1024, 1024] inb_S4096x1024_S1024x1024_0_0).toLoadRect)⟩,
        ⟨Rect.unit (s := S4096x1024) ![0, 0] ![4096, 1024] inb_S4096x1024_S4096x1024_0_0, k0_pay4 (F := Ideal)⟩] y
      = ∑ k : Fin 512, R (ix2 k (y 0)) * R (ix2 k (y 0)) * D (ix2 k (y 1)) := by
  have e : ∀ r : Rect S4096x1024, (View.whole cc0_scratch1).readCov (Val := Elt Ideal)
      [⟨Rect.unit (s := S4096x1024) ![0, 0] ![4096, 1024] inb_S4096x1024_S4096x1024_0_0, k0_pay4 (F := Ideal)⟩] r.toLoadRect = View.ld (Val := Elt Ideal) (e' := .f32) (k0_pay4 (F := Ideal)) r :=
    fun r => View.readCov_fill _ _ _ _ r (by decide)
  simp (disch := decide) only [↓ View.readCov_skip, e]
  rw [canon_covered4 y]
  rotate_left
  · exact View.cover_of_tiledL (s := S4096x1024) _ ![1024, 1024] (by sl_kernel_rfl) y
  canon_tiles x h
  all_goals pointwise [k0_pay1, k0_pay13, k0_pay10, k0_pay7, k0_pay2, k0_pay14, k0_pay11, k0_pay8, k0_pay5, k0_pay6, k0_pay9, k0_pay12, k0_pay15, k0_pay4]
  all_goals
    obtain rfl : y = ix2 _ _ := (idx2_of' (by clear h0 h1; omega) h0 h1)
    rfl

end Cert.HiddenKernelIdeal.Value
-- ==== Proof.HiddenStage.lean ====
module

public import proofs.«01_k».proof.Proof.HiddenTiles
public import Idealize.ShloMosaic.Lib.Pipeline.CanonAppend

@[expose] public section

set_option maxRecDepth 16384

/-! # The feed-forward backward's hidden call: the weight gradient's way out

The last grid point rounds the accumulated weight gradient into the staging buffer, strip by strip, and copies the two
halves of that buffer out. Read at the ideal floats, the copied array is the accumulator. -/

noncomputable section

open Idealize.ShloMosaic Idealize.ShloMosaic.TcCoe Idealize.SL.Sem
open Idealize.ShloMosaic.Pipeline (Dat)

namespace Cert.HiddenKernelIdeal.Value

open Cert.HiddenKernelIdeal Cert.HiddenKernelIdeal.Gen
open Idealize.ShloMosaic.Rounds

variable (m : (ℓ : Loc nD τ sig) → Buf (Elt Ideal) ℓ)

/-- The staged strip is the accumulator's strip: the narrower format has the same values. -/
theorem pay3_at (v : FVec Ideal S128x1024 .f32) (i : S128x1024.Idx) : k0_pay3 (F := Ideal) v i = v i := by pointwise [k0_pay3]

/-- Every piece one trip of the staging loop stores is a strip of the accumulator. -/
theorem trip_strip (𝒱 : Variants) (c : Dev nD) (bd : Option 𝒱.V) (i : grid0.Coords) (arg1 : Memref sig .tc .vmem S512x1024 .f32) (harg1 : arg1.IsWhole) (arg2 : Memref sig .tc .vmem S512x4096 .bf16) (harg2 : arg2.IsWhole) (arg3 : Memref sig .tc .hbm S4096x1024 .bf16) (harg3 : arg3.IsWhole) (arg4 : Memref sig .tc .vmem S512x4096 .bf16) (harg4 : arg4.IsWhole) (arg5 : Memref sig .tc .hbm S4096x1024 .bf16) (harg5 : arg5.IsWhole) (arg6 : Memref sig .tc .vmem S4096x1024 .bf16) (harg6 : arg6.IsWhole) (arg7 : Memref sig .tc .vmem S4096x1024 .f32) (harg7 : arg7.IsWhole) (arg8 : DmaSems sig S2) (k0_h2 : k0_cond2 i = 1#1) (X_arg7 : BufTy.Contents (Elt Ideal) arg7.view.ty) (k : Fin k0_t1_loop.trips) :
    ∀ p ∈ tripL_k0_t1 (F := Ideal) 𝒱 c bd i arg1 harg1 arg2 harg2 arg3 harg3 arg4 harg4 arg5 harg5 arg6 harg6 arg7 harg7 arg8 k0_h2 X_arg7 k, ∀ x : p.1.shape.Idx, p.2 x = arg7.view.read (Elt Ideal) X_arg7 (p.1.emb x) := by
  unfold tripL_k0_t1 trip_k0_t1
  intro p hp x
  simp only [List.mem_singleton, List.mem_cons, List.not_mem_nil, or_false] at hp
  subst hp
  exact (pay3_at _ x).trans (by rw [View.readAt_apply]; rfl)

/-- So is every piece of the trips before `n`. -/
theorem stage_strips (𝒱 : Variants) (c : Dev nD) (bd : Option 𝒱.V) (i : grid0.Coords) (arg1 : Memref sig .tc .vmem S512x1024 .f32) (harg1 : arg1.IsWhole) (arg2 : Memref sig .tc .vmem S512x4096 .bf16) (harg2 : arg2.IsWhole) (arg3 : Memref sig .tc .hbm S4096x1024 .bf16) (harg3 : arg3.IsWhole) (arg4 : Memref sig .tc .vmem S512x4096 .bf16) (harg4 : arg4.IsWhole) (arg5 : Memref sig .tc .hbm S4096x1024 .bf16) (harg5 : arg5.IsWhole) (arg6 : Memref sig .tc .vmem S4096x1024 .bf16) (harg6 : arg6.IsWhole) (arg7 : Memref sig .tc .vmem S4096x1024 .f32) (harg7 : arg7.IsWhole) (arg8 : DmaSems sig S2) (k0_h2 : k0_cond2 i = 1#1) (X_arg7 : BufTy.Contents (Elt Ideal) arg7.view.ty) :
    ∀ n, n ≤ k0_t1_loop.trips → ∀ p ∈ pb_k0_t1 (F := Ideal) 𝒱 c bd i arg1 harg1 arg2 harg2 arg3 harg3 arg4 harg4 arg5 harg5 arg6 harg6 arg7 harg7 arg8 k0_h2 X_arg7 n, ∀ x : p.1.shape.Idx,
      p.2 x = arg7.view.read (Elt Ideal) X_arg7 (p.1.emb x)
  | 0, _ => by intro p hp; exact absurd hp (by unfold pb_k0_t1; exact List.not_mem_nil)
  | n + 1, h => by
    intro p hp x
    rw [pb_k0_t1_succ (F := Ideal) 𝒱 c bd i arg1 harg1 arg2 harg2 arg3 harg3 arg4 harg4 arg5 harg5 arg6 harg6 arg7 harg7 arg8 k0_h2 X_arg7 ⟨n, h⟩] at hp
    rcases List.mem_append.mp hp with hp | hp
    · exact trip_strip 𝒱 c bd i arg1 harg1 arg2 harg2 arg3 harg3 arg4 harg4 arg5 harg5 arg6 harg6 arg7 harg7 arg8 k0_h2 X_arg7 ⟨n, h⟩ p hp x
    · exact stage_strips 𝒱 c bd i arg1 harg1 arg2 harg2 arg3 harg3 arg4 harg4 arg5 harg5 arg6 harg6 arg7 harg7 arg8 k0_h2 X_arg7 n (Nat.le_of_lt h) p hp x

/-- The two halves copied out, both read off one array, leave that array. -/
theorem halves_out (f : (⟨S4096x1024, .bf16⟩ : BufTy).Contents (Elt Ideal)) (G : S4096x1024.Idx → Elt Ideal .bf16)
    (p q : View.Piece (Elt Ideal) S4096x1024 .bf16)
    (hp : ∀ x, p.2 x = G (p.1.emb x)) (hq : ∀ x, q.2 x = G (q.1.emb x)) (hc : ∀ y, ∃ o ∈ [p, q], y ∈ o.1.set) :
    (View.whole main_v3_1).writes (Elt Ideal) f [p, q] = G := by
  funext y
  have h := View.read_writes_apply_eq_canon (View.whole main_v3_1) f y [p, q] (hc y)
  refine Eq.trans ?_ (h.trans (View.canon_append_of_pieces G [] [p, q] ?_ y (hc y)))
  · rfl
  · intro o ho x
    rcases List.mem_cons.mp ho with rfl | ho
    · exact hp x
    · rcases List.mem_singleton.mp ho with rfl
      exact hq x

/-- A read of part of the staging buffer, after all strips are staged, reads the accumulator there. -/
theorem staged_read (𝒱 : Variants) (c : Dev nD) (bd : Option 𝒱.V) (i : grid0.Coords) (arg1 : Memref sig .tc .vmem S512x1024 .f32) (harg1 : arg1.IsWhole) (arg2 : Memref sig .tc .vmem S512x4096 .bf16) (harg2 : arg2.IsWhole) (arg3 : Memref sig .tc .hbm S4096x1024 .bf16) (harg3 : arg3.IsWhole) (arg4 : Memref sig .tc .vmem S512x4096 .bf16) (harg4 : arg4.IsWhole) (arg5 : Memref sig .tc .hbm S4096x1024 .bf16) (harg5 : arg5.IsWhole) (arg6 : Memref sig .tc .vmem S4096x1024 .bf16) (harg6 : arg6.IsWhole) (arg7 : Memref sig .tc .vmem S4096x1024 .f32) (harg7 : arg7.IsWhole) (arg8 : DmaSems sig S2) (k0_h2 : k0_cond2 i = 1#1) (X_arg7 : BufTy.Contents (Elt Ideal) arg7.view.ty) (f : arg6.view.ty.Contents (Elt Ideal)) (r : Rect S4096x1024) (h)
    (hc : ∀ y, ∃ p ∈ pb_k0_t1 (F := Ideal) 𝒱 c bd i arg1 harg1 arg2 harg2 arg3 harg3 arg4 harg4 arg5 harg5 arg6 harg6 arg7 harg7 arg8 k0_h2 X_arg7 k0_t1_loop.trips, y ∈ p.1.set) (x : r.shape.Idx) :
    View.read (Elt Ideal) (arg6.slice r h).view (arg6.view.writes (Elt Ideal) f (pb_k0_t1 (F := Ideal) 𝒱 c bd i arg1 harg1 arg2 harg2 arg3 harg3 arg4 harg4 arg5 harg5 arg6 harg6 arg7 harg7 arg8 k0_h2 X_arg7 k0_t1_loop.trips)) x
      = arg7.view.read (Elt Ideal) X_arg7 (r.emb x) := by
  refine Eq.trans ?_ ((View.read_writes_apply_eq_canon arg6.view f (r.emb x) _ (hc _)).trans ?_)
  · rfl
  · have e := View.canon_append_of_pieces (e := .bf16) (arg7.view.read (Elt Ideal) X_arg7) [] (pb_k0_t1 (F := Ideal) 𝒱 c bd i arg1 harg1 arg2 harg2 arg3 harg3 arg4 harg4 arg5 harg5 arg6 harg6 arg7 harg7 arg8 k0_h2 X_arg7 k0_t1_loop.trips)
      (stage_strips 𝒱 c bd i arg1 harg1 arg2 harg2 arg3 harg3 arg4 harg4 arg5 harg5 arg6 harg6 arg7 harg7 arg8 k0_h2 X_arg7 k0_t1_loop.trips le_rfl) (r.emb x) (hc _)
    exact (congrFun (congrArg View.canon (List.append_nil _)) _).symm.trans e

/-- After the last point the copied-out array is the accumulator that point leaves. -/
theorem out_eq_acc (c : Dev nD) (t : Fin cfg0.N) (h0 : ¬t.val % 32 = 0) (h1 : t.val % 32 = 31) :
    (outsAt0 m c t.val t.isLt).2.2.2 = (outsAt0 m c t.val t.isLt).2.2.1 := by
  rw [outsAt0_C m c t h0 h1]; dsimp only; unfold hbw0_C_1 sout0_C_1 kernelRun0_C; dsimp only
  refine halves_out _ _ _ _ ?_ ?_ ?_
  · intro x
    unfold kernelRun0_C.sl.dma0_1
    exact staged_read Variants.none c none (grid0.coords t) (ms0_0 t) (hs0_0 t) (ms0_1 t) (hs0_1 t) (Memref.whole main_v2) (Memref.isWhole_whole _)
      (ms0_2 t) (hs0_2 t) (Memref.whole main_v3_1) (Memref.isWhole_whole _) scM0_0 (Memref.isWhole_whole _) scM0_1 (Memref.isWhole_whole _) cc0_scratch2
      ((hcond0_1 t).mpr h1) _ _ (Rect.unit (s := S4096x1024) ![2048, 0] S2048x1024.size inb_S4096x1024_S2048x1024_2048_0) (fun _ => rfl)
      (View.cover_of_tiledL (s := S4096x1024) _ ![128, 1024] (by sl_kernel_rfl)) x
  · intro x
    unfold kernelRun0_C.sl.dma0
    exact staged_read Variants.none c none (grid0.coords t) (ms0_0 t) (hs0_0 t) (ms0_1 t) (hs0_1 t) (Memref.whole main_v2) (Memref.isWhole_whole _)
      (ms0_2 t) (hs0_2 t) (Memref.whole main_v3_1) (Memref.isWhole_whole _) scM0_0 (Memref.isWhole_whole _) scM0_1 (Memref.isWhole_whole _) cc0_scratch2
      ((hcond0_1 t).mpr h1) _ _ (Rect.unit (s := S4096x1024) ![0, 0] S2048x1024.size inb_S4096x1024_S2048x1024_0_0) (fun _ => rfl)
      (View.cover_of_tiledL (s := S4096x1024) _ ![128, 1024] (by sl_kernel_rfl)) x
  · exact View.cover_of_tiledL (s := S4096x1024) _ ![2048, 1024] (by sl_kernel_rfl)

end Cert.HiddenKernelIdeal.Value
-- ==== Proof.HiddenRef.lean ====
module

public import proofs.«01_k».proof.Proof.HiddenTiles
public import proofs.«01_k».proof.Proof.Gen.HiddenKernelIdeal.Value

@[expose] public section

set_option maxRecDepth 16384

/-! # The feed-forward backward's hidden call: the reference at an entry -/

noncomputable section

open Idealize.ShloMosaic Idealize.ShloMosaic.TcCoe Idealize.SL.Sem
open Idealize.ShloMosaic.Pipeline (Dat)

namespace Cert.HiddenKernelIdeal.Value

open Cert.HiddenKernelIdeal Cert.HiddenKernelIdeal.Gen
variable (m : (ℓ : Loc nD τ sig) → Buf (Elt Ideal) ℓ)

open Cert.HiddenReferenceIdeal.Read in
/-- The reference's activation gradient at an entry: the select on the sign is the factor's own zero. -/
theorem ref_da (a : FVec Ideal S16384x4096 .f32) (w : FVec Ideal S4096x1024 .f32) (dx : FVec Ideal S16384x1024 .f32) (i : S16384x4096.Idx) :
    val_main_v14 (F := Ideal) a w dx i = two * max (a i) 0 * ∑ k : Fin 1024, dx (ix2 (i 0) k) * w (ix2 (i 1) k) := by
  pointwise [val_main_v14, val_main_v13, val_main_v12, val_main_v11, val_main_v10, val_main_v6, val_main_v5, val_main_v2, val_main_v1, val_main_v0, val_main_cst, val_main_cst_0, val_main_cst_1, val_main_cst_2, val_main_call0_v0, val_main_call0_cst]
  show (if 0 < a i then (∑ k : Fin 1024, dx (ix2 (i 0) k) * w (ix2 (i 1) k)) * (two * max (a i) 0) else 0) = _
  split
  · exact mul_comm _ _
  · next h => rw [max_eq_right (not_lt.mp h), mul_zero, zero_mul]

open Cert.HiddenReferenceIdeal.Read in
/-- The reference's weight gradient at an entry. -/
theorem ref_dw (a : FVec Ideal S16384x4096 .f32) (dx : FVec Ideal S16384x1024 .f32) (i : S4096x1024.Idx) :
    val_main_v15 (F := Ideal) a dx i = ∑ k : Fin 16384, dx (ix2 k (i 1)) * (max (a (ix2 k (i 0))) 0 * max (a (ix2 k (i 0))) 0) := by
  pointwise [val_main_v15, val_main_v9, val_main_v8, val_main_v4, val_main_v0, val_main_call0_v0, val_main_call0_cst]

end Cert.HiddenKernelIdeal.Value
-- ==== Proof.HiddenValue.lean ====
module

public import proofs.«01_k».proof.Proof.HiddenStage
public import proofs.«01_k».proof.Proof.Gen.HiddenKernelIdeal.Value

@[expose] public section

set_option maxRecDepth 16384

/-! # The feed-forward backward's hidden call: the two result arrays -/

noncomputable section

open Idealize.ShloMosaic Idealize.ShloMosaic.TcCoe Idealize.SL.Sem
open Idealize.ShloMosaic.Pipeline (Dat)

namespace Cert.HiddenKernelIdeal.Value

open Cert.HiddenKernelIdeal Cert.HiddenKernelIdeal.Gen Cert.Tiles
variable (m : (ℓ : Loc nD τ sig) → Buf (Elt Ideal) ℓ)

/-- The first point copies the weight in. -/
theorem held_w_first (c : Dev nD) (t : Fin cfg0.N) (h0 : t.val % 32 = 0) (h1 : ¬t.val % 32 = 31) :
    (outsAt0 m c t.val t.isLt).2.1 = V m c main_v2 := by
  rw [outsAt0_A m c t h0 h1]
  funext y
  frame_out
  rw [canon_whole]
  rfl

/-- A middle point leaves the weight as the point before it left it. -/
theorem held_w_next (c : Dev nD) (t : Fin cfg0.N) (h0 : ¬t.val % 32 = 0) (h1 : ¬t.val % 32 = 31) :
    (outsAt0 m c t.val t.isLt).2.1 = (outsAt0 m c (t.val - 1) (Nat.lt_of_le_of_lt (Nat.sub_le _ _) t.isLt)).2.1 := by
  rw [outsAt0_B m c t h0 h1]
  dsimp only
  unfold sout0_B_0
  rfl

/-- The weight stays in its buffer, as the first point copied it in, at every point but the last. -/
theorem held_w (c : Dev nD) (n : ℕ) (hn : n < cfg0.N) (h : n < 31) : (outsAt0 m c n hn).2.1 = V m c main_v2 := by
  induction n with
  | zero => exact held_w_first m c ⟨0, hn⟩ rfl (by show ¬ 0 % 32 = 31; omega)
  | succ n ih =>
    exact (held_w_next m c ⟨n + 1, hn⟩ (by show ¬ (n + 1) % 32 = 0; omega) (by show ¬ (n + 1) % 32 = 31; omega)).trans
      (ih (Nat.lt_of_succ_lt hn) (by omega))

/-- A block of the activation gradient, of the block of `dx2`, the block of the rectified activations and the weight. -/
def daOf (D : FVec Ideal S512x1024 .f32) (R : FVec Ideal S512x4096 .bf16) (W : FVec Ideal S4096x1024 .bf16) (y : S512x4096.Idx) : EReal :=
  two * R y * ∑ k : Fin 1024, D (ix2 (y 0) k) * W (ix2 (y 1) k)

/-- What the first point stores of the activation gradient, -/
theorem da_first (c : Dev nD) (t : Fin cfg0.N) (h0 : t.val % 32 = 0) (y : S512x4096.Idx) :
    (outsAt0 m c t.val t.isLt).1 y = daOf (iblk m c 0 t) (iblk m c 1 t) (V m c main_v2) y := by
  rw [outsAt0_A m c t h0 (by omega)]
  frame_out
  simp only [load_copied]
  exact da_tiles (iblk m c 0 t) (iblk m c 1 t) (V m c main_v2) y

/-- a middle point, -/
theorem da_middle (c : Dev nD) (t : Fin cfg0.N) (h0 : ¬t.val % 32 = 0) (h1 : ¬t.val % 32 = 31) (y : S512x4096.Idx) :
    (outsAt0 m c t.val t.isLt).1 y
      = daOf (iblk m c 0 t) (iblk m c 1 t) (outsAt0 m c (t.val - 1) (Nat.lt_of_le_of_lt (Nat.sub_le _ _) t.isLt)).2.1 y := by
  rw [outsAt0_B m c t h0 h1]
  frame_out
  simp only [read_unread_whole]
  exact da_tiles (iblk m c 0 t) (iblk m c 1 t) _ y

/-- the last point, -/
theorem da_last (c : Dev nD) (t : Fin cfg0.N) (h0 : ¬t.val % 32 = 0) (h1 : t.val % 32 = 31) (y : S512x4096.Idx) :
    (outsAt0 m c t.val t.isLt).1 y
      = daOf (iblk m c 0 t) (iblk m c 1 t) (outsAt0 m c (t.val - 1) (Nat.lt_of_le_of_lt (Nat.sub_le _ _) t.isLt)).2.1 y := by
  rw [outsAt0_C m c t h0 h1]
  frame_out
  simp only [read_unread_whole]
  exact da_tiles (iblk m c 0 t) (iblk m c 1 t) _ y

/-- and so every point, of the weight. -/
theorem da_point (c : Dev nD) (t : Fin cfg0.N) (y : S512x4096.Idx) :
    (outsAt0 m c t.val t.isLt).1 y = daOf (iblk m c 0 t) (iblk m c 1 t) (V m c main_v2) y := by
  have ht : t.val < 32 := lt_of_lt_of_eq t.isLt N_0
  by_cases h0 : t.val % 32 = 0
  · exact da_first m c t h0 y
  · have hw := held_w m c (t.val - 1) (Nat.lt_of_le_of_lt (Nat.sub_le _ _) t.isLt) (by omega)
    rw [← hw]
    by_cases h1 : t.val % 32 = 31
    · exact da_last m c t h0 h1 y
    · exact da_middle m c t h0 h1 y

/-- What a point adds to the weight gradient, of the block of `dx2` and the block of the rectified activations. -/
def dwOf (D : FVec Ideal S512x1024 .f32) (R : FVec Ideal S512x4096 .bf16) (y : S4096x1024.Idx) : EReal :=
  ∑ k : Fin 512, R (ix2 k (y 0)) * R (ix2 k (y 0)) * D (ix2 k (y 1))

/-- The first point starts the accumulator. -/
theorem dw_first (c : Dev nD) (t : Fin cfg0.N) (h0 : t.val % 32 = 0) (y : S4096x1024.Idx) :
    (outsAt0 m c t.val t.isLt).2.2.1 y = dwOf (iblk m c 0 t) (iblk m c 1 t) y := by
  rw [outsAt0_A m c t h0 (by omega)]
  frame_out
  exact dw_tiles_first (iblk m c 0 t) (iblk m c 1 t) y

/-- Every later point adds to it. -/
theorem dw_next (c : Dev nD) (t : Fin cfg0.N) (h0 : ¬t.val % 32 = 0) (y : S4096x1024.Idx) :
    (outsAt0 m c t.val t.isLt).2.2.1 y
      = (outsAt0 m c (t.val - 1) (Nat.lt_of_le_of_lt (Nat.sub_le _ _) t.isLt)).2.2.1 y + dwOf (iblk m c 0 t) (iblk m c 1 t) y := by
  by_cases h1 : t.val % 32 = 31
  · rw [outsAt0_C m c t h0 h1]
    frame_out
    simp only [read_unread_whole]
    exact dw_tiles (iblk m c 0 t) (iblk m c 1 t) _ y
  · rw [outsAt0_B m c t h0 h1]
    frame_out
    simp only [read_unread_whole]
    exact dw_tiles (iblk m c 0 t) (iblk m c 1 t) _ y

end Cert.HiddenKernelIdeal.Value
-- ==== Proof.HiddenFinal.lean ====
module

public import proofs.«01_k».proof.Proof.HiddenStage
public import proofs.«01_k».proof.Proof.HiddenRef
public import proofs.«01_k».proof.Proof.HiddenValue
public import proofs.«01_k».proof.Proof.Gen.HiddenKernelIdeal.Value

@[expose] public section

set_option maxRecDepth 16384

/-! # The feed-forward backward's hidden call: its two result arrays are the reference's -/

noncomputable section

open Idealize.ShloMosaic Idealize.ShloMosaic.TcCoe Idealize.SL.Sem
open Idealize.ShloMosaic.Pipeline (Dat)

namespace Cert.HiddenKernelIdeal.Value

open Cert.HiddenKernelIdeal Cert.HiddenKernelIdeal.Gen
variable (m : (ℓ : Loc nD τ sig) → Buf (Elt Ideal) ℓ)

/-- The block a window reads or writes at a point: rows `512 t` on, every column. -/
theorem block_at : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

/-- The arguments of the call. -/
abbrev Arg0 (c : Dev nD) : FVec Ideal S16384x4096 .f32 := m ((c : Thread nD τ).loc main_arg0)
@[inherit_doc Arg0] abbrev Arg1 (c : Dev nD) : FVec Ideal S4096x1024 .f32 := m ((c : Thread nD τ).loc main_arg1)
@[inherit_doc Arg0] abbrev Arg2 (c : Dev nD) : FVec Ideal S16384x1024 .f32 := m ((c : Thread nD τ).loc main_arg2)

theorem dx_block (c : Dev nD) (t : Fin cfg0.N) (y : S512x1024.Idx) (i : S16384x1024.Idx) (h0 : (i 0).val = t.val * 512 + (y 0).val) (h1 : (i 1).val = (y 1).val) :
    (iblk m c 0 t : FVec Ideal S512x1024 .f32) y = Arg2 m c i := by
  blk_point [iblk, V, block_at t]

theorem r_at (c : Dev nD) (i : S16384x4096.Idx) : (V m c main_v1 : FVec Ideal S16384x4096 .bf16) i = max (Arg0 m c i) 0 := by
  show StableHlo.after ([hostOps0, hostOps0_1].flatten) (fun b => m (c, b)) (Proc.tc.devRef main_v1) i = _
  have e : StableHlo.after ([hostOps0, hostOps0_1].flatten) (fun b => m (c, b)) (Proc.tc.devRef main_v1) = (show FVec Ideal S16384x4096 .bf16 from truncf .bf16 (maximumf (Arg0 m c) (broadcastInDim S16384x4096 ![] bcast_S_S16384x4096 (constant S_ .f32 0x00000000#32))) bitsLt_bf16_f32) := by
    unfold hostOps0 hostOps0_1
    simp only [List.flatten_cons, List.flatten_nil, List.append_nil, List.cons_append, List.nil_append]
    after_results
    rfl
  rw [e]
  pointwise []

theorem r_block (c : Dev nD) (t : Fin cfg0.N) (y : S512x4096.Idx) (i : S16384x4096.Idx) (h0 : (i 0).val = t.val * 512 + (y 0).val) (h1 : (i 1).val = (y 1).val) :
    (iblk m c 1 t : FVec Ideal S512x4096 .bf16) y = max (Arg0 m c i) 0 := by
  rw [← r_at]
  blk_point [iblk, block_at t]

theorem w_at (c : Dev nD) (y : S4096x1024.Idx) : (V m c main_v2 : FVec Ideal S4096x1024 .bf16) y = Arg1 m c y := by
  blk_point [V]

/-- A point's block of the activation gradient is the reference's rows. -/
theorem da_entry (c : Dev nD) (t : Fin cfg0.N) (y : S512x4096.Idx) (i : S16384x4096.Idx) (h0 : (i 0).val = t.val * 512 + (y 0).val) (h1 : (i 1).val = (y 1).val) :
    daOf (iblk m c 0 t) (iblk m c 1 t) (V m c main_v2) y = Cert.HiddenReferenceIdeal.Read.val_main_v14 (F := Ideal) (Arg0 m c) (Arg1 m c) (Arg2 m c) i := by
  rw [ref_da]
  unfold daOf
  rw [r_block m c t y i h0 h1]
  refine congrArg _ (Finset.sum_congr rfl fun k _ => ?_)
  rw [dx_block m c t (ix2 (y 0) k) (ix2 (i 0) k) h0 rfl, w_at, show y 1 = i 1 from Fin.ext h1.symm]

/-- The activation gradient. -/
theorem final_da (c : Dev nD) :
    (dats m 0 c).arrAt 2 cfg0.N = Cert.HiddenReferenceIdeal.Read.val_main_v14 (F := Ideal) (Arg0 m c) (Arg1 m c) (Arg2 m c) := by
  refine (dats m 0 c).arrAt_eq_of_covers 2 _ (by decide +kernel) fun t hf y => ?_
  blk_simp
  rw [after0_2, da_point]
  refine da_entry m c t y _ ?_ ?_ <;> blk_simp [block_at t]

/-- The weight gradient. -/
theorem final_dw (c : Dev nD) (h : (Fin.last cfg0.N).val - 1 < cfg0.N) :
    (outsAt0 m c ((Fin.last cfg0.N).val - 1) h).2.2.2 = Cert.HiddenReferenceIdeal.Read.val_main_v15 (F := Ideal) (Arg0 m c) (Arg2 m c) := by
  have hN : cfg0.N = 32 := N_0
  have h31 : (Fin.last cfg0.N).val - 1 = 31 := by rw [Fin.val_last, hN]
  generalize (Fin.last cfg0.N).val - 1 = n at h h31 ⊢
  obtain ⟨t, rfl⟩ : ∃ t : Fin cfg0.N, t.val = n := ⟨⟨_, h⟩, rfl⟩
  have e := out_eq_acc m c t (by omega) (by omega)
  funext i
  rw [ref_dw]
  have s := Pipeline.eq_sum_fin_of_reset_step_apply_last (fun n h => (outsAt0 m c n h).2.2.1) 32 (fun _ => (0 : EReal)) (fun t y => dwOf (iblk m c 0 t) (iblk m c 1 t) y)
    (fun t h y => by rw [zero_add]; exact dw_first m c t h y) (fun t h y => dw_next m c t h y) (le_of_eq hN) t (by omega) i
  rw [zero_add] at s
  have key : ∑ p : Fin cfg0.N, dwOf (iblk m c 0 p) (iblk m c 1 p) i = ∑ k : Fin 16384, Arg2 m c (ix2 k (i 1)) * (max (Arg0 m c (ix2 k (i 0))) 0 * max (Arg0 m c (ix2 k (i 0))) 0) := by
    unfold dwOf
    refine Fin.sum_mul_add_congr (S := cfg0.N) (n := 512) (L := 16384) (fun t k hl => ?_) (by rw [hN])
    rw [dx_block m c t _ (ix2 ⟨t.val * 512 + k.val, hl⟩ (i 1)) rfl rfl, r_block m c t _ (ix2 ⟨t.val * 512 + k.val, hl⟩ (i 0)) rfl rfl]
    exact mul_comm _ _
  rw [e]
  exact s.trans key

/-- The run: both results are the reference's. -/
theorem run (ρ : Dev nD → PrngReg) :
    θ_run defs (onTc (τ := τ) (main (F := Ideal))) ⟨m, fun _ => 0, ρ⟩ fun r => ∀ c : Dev nD,
      r.2.mem ((c : Thread nD τ).loc main_v3_0) = Cert.HiddenReferenceIdeal.Read.val_main_v14 (F := Ideal) (Arg0 m c) (Arg1 m c) (Arg2 m c)
      ∧ r.2.mem ((c : Thread nD τ).loc main_v3_1) = Cert.HiddenReferenceIdeal.Read.val_main_v15 (F := Ideal) (Arg0 m c) (Arg2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans (final_da m c), (h c).2.2.2.2.trans (final_dw m c _), (h c).2.1, (h c).2.2.1, (h c).2.2.2.1⟩) (run_blocks m ρ)

end Cert.HiddenKernelIdeal.Value
-- ==== Proof.HiddenClaims.lean ====
module

public import proofs.«01_k».proof.Proof.HiddenFinal
public import proofs.«01_k».proof.Proof.Gen.HiddenKernel.Frame
public import proofs.«01_k».proof.Proof.Gen.HiddenReferenceIdeal.Run
public import proofs.«01_k».proof.Defs

@[expose] public section

/-! # The feed-forward backward's hidden call: its claims

The kernel runs without a fault and leaves its arguments; so do its value form and the reference; and the value form's two
results, the gradient of the hidden pre-activations and of the second weight, are the reference's. -/

noncomputable section

open Idealize.ShloMosaic Idealize.ShloMosaic.TcCoe Idealize.SL.Sem

namespace Cert.HiddenClaims

theorem frame_ideal : Cert.quiescent_HiddenKernelIdeal := fun m ρ _ => Cert.HiddenKernelIdeal.Gen.frame m ρ

theorem frame_kernel : Cert.quiescent_HiddenKernel := fun m ρ _ =>
  Cert.HiddenKernel.Gen.frame m ρ

theorem frame_reference : Cert.quiescent_HiddenReferenceIdeal := fun m ρ _ =>
  (θ_run Cert.HiddenReferenceIdeal.defs _ _).mono (fun r h => ⟨fun c => (h c).2.2, sem_eq_zero_of_no_sems (by decide) r.2⟩)
    (Cert.HiddenReferenceIdeal.Value.run (F := Ideal) m ρ)

theorem values : Cert.algebraic_HiddenKernelIdeal_HiddenReferenceIdeal := by
  pair_intro
  · run_from Cert.HiddenKernelIdeal.Value.run m g
  · hlo_run
    all_goals rfl

end Cert.HiddenClaims
-- ==== Proof.InputTiles.lean ====
module

public import proofs.«01_k».proof.Proof.Gen.InputKernelIdeal.Value
public import proofs.«01_k».proof.Proof.Tiles

@[expose] public section

set_option maxRecDepth 16384

/-! # The feed-forward backward's input call: what one grid point stores

Every stored block read at one entry, of the point's blocks: `D` the gradient of the pre-activations, `X` the normalised rows,
`S` the reciprocal deviations, `E` the residual's gradient, `G` the gain, and of the weight `W`. -/

noncomputable section

open Idealize.ShloMosaic Idealize.ShloMosaic.TcCoe Idealize.SL.Sem
open Idealize.ShloMosaic.Pipeline (Dat)

namespace Cert.InputKernelIdeal.Value

open Cert.InputKernelIdeal Cert.InputKernelIdeal.Gen Cert.Tiles

variable (m : (ℓ : Loc nD τ sig) → Buf (Elt Ideal) ℓ)

/-- The gradient of the normalised rows, at one entry: the row of `D` against the row of the weight. -/
def dhOf (D : FVec Ideal S512x4096 .bf16) (W : FVec Ideal S1024x4096 .bf16) (y : S512x1024.Idx) : EReal := ∑ j : Fin 4096, D (ix2 (y 0) j) * W (ix2 (y 1) j)

theorem dh_quarters (D : FVec Ideal S512x4096 .bf16) (W : FVec Ideal S1024x4096 .bf16) (y : S512x1024.Idx) :
    k0_pay18 (F := Ideal) (k0_pay13 (F := Ideal) (View.ld (Val := Elt Ideal) (e' := .bf16) D (Rect.unit (s := S512x4096) ![0, 0] ![512, 1024] inb_S512x4096_S512x1024_0_0))
        (View.ld (Val := Elt Ideal) (e' := .bf16) W (Rect.unit (s := S1024x4096) ![0, 0] ![1024, 1024] inb_S1024x4096_S1024x1024_0_0))
        (View.ld (Val := Elt Ideal) (e' := .bf16) D (Rect.unit (s := S512x4096) ![0, 1024] ![512, 1024] inb_S512x4096_S512x1024_0_1024))
        (View.ld (Val := Elt Ideal) (e' := .bf16) W (Rect.unit (s := S1024x4096) ![0, 1024] ![1024, 1024] inb_S1024x4096_S1024x1024_0_1024)))
      (View.ld (Val := Elt Ideal) (e' := .bf16) D (Rect.unit (s := S512x4096) ![0, 2048] ![512, 1024] inb_S512x4096_S512x1024_0_2048))
      (View.ld (Val := Elt Ideal) (e' := .bf16) W (Rect.unit (s := S1024x4096) ![0, 2048] ![1024, 1024] inb_S1024x4096_S1024x1024_0_2048))
      (View.ld (Val := Elt Ideal) (e' := .bf16) D (Rect.unit (s := S512x4096) ![0, 3072] ![512, 1024] inb_S512x4096_S512x1024_0_3072))
      (View.ld (Val := Elt Ideal) (e' := .bf16) W (Rect.unit (s := S1024x4096) ![0, 3072] ![1024, 1024] inb_S1024x4096_S1024x1024_0_3072)) y = dhOf D W y := by
  unfold dhOf
  rw [sum_quarters]
  pointwise [k0_pay18, k0_pay17, k0_pay15, k0_pay13, k0_pay12, k0_pay10]

/-- The block of the input's gradient, read at one entry. -/
theorem dx_block_at (D : FVec Ideal S512x4096 .bf16) (X : FVec Ideal S512x1024 .bf16) (S : FVec Ideal S512x128 .f32) (E : FVec Ideal S512x1024 .f32) (G : FVec Ideal S1x1024 .f32) (W : FVec Ideal S1024x4096 .bf16) (y : S512x1024.Idx) :
    k0_pay1 (F := Ideal) (k0_pay7 X) (k0_pay8 (View.ld (Val := Elt Ideal) (e' := .f32) S (Rect.unit (s := S512x128) ![0, 0] ![512, 1] inb_S512x128_S512x1_0_0)))
      (k0_pay21 (k0_pay6 G) (k0_pay13 (F := Ideal) (View.ld (Val := Elt Ideal) (e' := .bf16) D (Rect.unit (s := S512x4096) ![0, 0] ![512, 1024] inb_S512x4096_S512x1024_0_0))
        (View.ld (Val := Elt Ideal) (e' := .bf16) W (Rect.unit (s := S1024x4096) ![0, 0] ![1024, 1024] inb_S1024x4096_S1024x1024_0_0))
        (View.ld (Val := Elt Ideal) (e' := .bf16) D (Rect.unit (s := S512x4096) ![0, 1024] ![512, 1024] inb_S512x4096_S512x1024_0_1024))
        (View.ld (Val := Elt Ideal) (e' := .bf16) W (Rect.unit (s := S1024x4096) ![0, 1024] ![1024, 1024] inb_S1024x4096_S1024x1024_0_1024)))
      (View.ld (Val := Elt Ideal) (e' := .bf16) D (Rect.unit (s := S512x4096) ![0, 2048] ![512, 1024] inb_S512x4096_S512x1024_0_2048))
      (View.ld (Val := Elt Ideal) (e' := .bf16) W (Rect.unit (s := S1024x4096) ![0, 2048] ![1024, 1024] inb_S1024x4096_S1024x1024_0_2048))
      (View.ld (Val := Elt Ideal) (e' := .bf16) D (Rect.unit (s := S512x4096) ![0, 3072] ![512, 1024] inb_S512x4096_S512x1024_0_3072))
      (View.ld (Val := Elt Ideal) (e' := .bf16) W (Rect.unit (s := S1024x4096) ![0, 3072] ![1024, 1024] inb_S1024x4096_S1024x1024_0_3072))) E y
      = E y + S (ix2 (y 0) 0) * (dhOf D W y * G (ix2 0 (y 1))
          - X y * Ideal.div (∑ k : Fin 1024, dhOf D W (ix2 (y 0) k) * G (ix2 0 k) * X (ix2 (y 0) k)) (Ideal.ofBits FTy.f32 0x44800000#32)) := by
  pointwise [k0_pay1, k0_pay7, k0_pay8, k0_pay21, k0_pay6]
  simp only [dh_quarters]

/-- The gain's gradient, read at one entry: what it held, plus the point's rows. -/
theorem dg_block_at (D : FVec Ideal S512x4096 .bf16) (X : FVec Ideal S512x1024 .bf16) (W : FVec Ideal S1024x4096 .bf16) (B : FVec Ideal S1x1024 .f32) (y : S1x1024.Idx) :
    k0_pay2 (F := Ideal) (k0_pay20 (k0_pay7 X) (k0_pay13 (F := Ideal) (View.ld (Val := Elt Ideal) (e' := .bf16) D (Rect.unit (s := S512x4096) ![0, 0] ![512, 1024] inb_S512x4096_S512x1024_0_0))
        (View.ld (Val := Elt Ideal) (e' := .bf16) W (Rect.unit (s := S1024x4096) ![0, 0] ![1024, 1024] inb_S1024x4096_S1024x1024_0_0))
        (View.ld (Val := Elt Ideal) (e' := .bf16) D (Rect.unit (s := S512x4096) ![0, 1024] ![512, 1024] inb_S512x4096_S512x1024_0_1024))
        (View.ld (Val := Elt Ideal) (e' := .bf16) W (Rect.unit (s := S1024x4096) ![0, 1024] ![1024, 1024] inb_S1024x4096_S1024x1024_0_1024)))
      (View.ld (Val := Elt Ideal) (e' := .bf16) D (Rect.unit (s := S512x4096) ![0, 2048] ![512, 1024] inb_S512x4096_S512x1024_0_2048))
      (View.ld (Val := Elt Ideal) (e' := .bf16) W (Rect.unit (s := S1024x4096) ![0, 2048] ![1024, 1024] inb_S1024x4096_S1024x1024_0_2048))
      (View.ld (Val := Elt Ideal) (e' := .bf16) D (Rect.unit (s := S512x4096) ![0, 3072] ![512, 1024] inb_S512x4096_S512x1024_0_3072))
      (View.ld (Val := Elt Ideal) (e' := .bf16) W (Rect.unit (s := S1024x4096) ![0, 3072] ![1024, 1024] inb_S1024x4096_S1024x1024_0_3072))) B y
      = B y + ∑ k : Fin 512, dhOf D W (ix2 k (y 1)) * X (ix2 k (y 1)) := by
  pointwise [k0_pay2, k0_pay20, k0_pay7]
  simp only [dh_quarters]

/-- The four stored column blocks of the weight's gradient, read at one entry: what the scratch held, plus the point's rows. -/
theorem dw_tiles (D : FVec Ideal S512x4096 .bf16) (X : FVec Ideal S512x1024 .bf16) (G : FVec Ideal S1x1024 .f32) (A : FVec Ideal S1024x4096 .f32) (y : S1024x4096.Idx) :
    View.canon (Val := Elt Ideal) (s := S1024x4096) (e := .f32)
      [⟨Rect.unit (s := S1024x4096) ![0, 3072] ![1024, 1024] inb_S1024x4096_S1024x1024_0_3072,
          k0_pay19 (F := Ideal) (k0_pay9 G X) (View.ld (Val := Elt Ideal) (e' := .bf16) D (Rect.unit (s := S512x4096) ![0, 3072] ![512, 1024] inb_S512x4096_S512x1024_0_3072)) (View.ld (Val := Elt Ideal) (e' := .f32) A (Rect.unit (s := S1024x4096) ![0, 3072] ![1024, 1024] inb_S1024x4096_S1024x1024_0_3072))⟩,
        ⟨Rect.unit (s := S1024x4096) ![0, 2048] ![1024, 1024] inb_S1024x4096_S1024x1024_0_2048,
          k0_pay16 (F := Ideal) (k0_pay9 G X) (View.ld (Val := Elt Ideal) (e' := .bf16) D (Rect.unit (s := S512x4096) ![0, 2048] ![512, 1024] inb_S512x4096_S512x1024_0_2048)) (View.ld (Val := Elt Ideal) (e' := .f32) A (Rect.unit (s := S1024x4096) ![0, 2048] ![1024, 1024] inb_S1024x4096_S1024x1024_0_2048))⟩,
        ⟨Rect.unit (s := S1024x4096) ![0, 1024] ![1024, 1024] inb_S1024x4096_S1024x1024_0_1024,
          k0_pay14 (F := Ideal) (k0_pay9 G X) (k0_pay12 (View.ld (Val := Elt Ideal) (e' := .bf16) D (Rect.unit (s := S512x4096) ![0, 1024] ![512, 1024] inb_S512x4096_S512x1024_0_1024))) (View.ld (Val := Elt Ideal) (e' := .f32) A (Rect.unit (s := S1024x4096) ![0, 1024] ![1024, 1024] inb_S1024x4096_S1024x1024_0_1024))⟩,
        ⟨Rect.unit (s := S1024x4096) ![0, 0] ![1024, 1024] inb_S1024x4096_S1024x1024_0_0,
          k0_pay11 (F := Ideal) G X (View.ld (Val := Elt Ideal) (e' := .bf16) D (Rect.unit (s := S512x4096) ![0, 0] ![512, 1024] inb_S512x4096_S512x1024_0_0)) (View.ld (Val := Elt Ideal) (e' := .f32) A (Rect.unit (s := S1024x4096) ![0, 0] ![1024, 1024] inb_S1024x4096_S1024x1024_0_0))⟩] y
      = A y + ∑ k : Fin 512, X (ix2 k (y 0)) * G (ix2 0 (y 0)) * D (ix2 k (y 1)) := by
  canon_tiles x h
  all_goals pointwise [k0_pay19, k0_pay16, k0_pay14, k0_pay11, k0_pay9, k0_pay12, k0_pay10, k0_pay7, k0_pay6, k0_pay15, k0_pay17]
  all_goals
    obtain rfl : y = ix2 _ _ := (idx2_of (by clear h0 h1; omega) h0 h1)
    rfl

end Cert.InputKernelIdeal.Value
-- ==== Proof.InputStage.lean ====
module

public import proofs.«01_k».proof.Proof.InputTiles
public import Idealize.ShloMosaic.Lib.Pipeline.CanonAppend

@[expose] public section

set_option maxRecDepth 16384

/-! # The feed-forward backward's input call: the weight gradient's way out

The last grid point rounds the accumulated weight gradient into the staging buffer, strip by strip, and copies the two
halves of that buffer out. Read at the ideal floats, the copied array is the accumulator. -/

noncomputable section

open Idealize.ShloMosaic Idealize.ShloMosaic.TcCoe Idealize.SL.Sem
open Idealize.ShloMosaic.Pipeline (Dat)

namespace Cert.InputKernelIdeal.Value

open Cert.InputKernelIdeal Cert.InputKernelIdeal.Gen
open Idealize.ShloMosaic.Rounds

variable (m : (ℓ : Loc nD τ sig) → Buf (Elt Ideal) ℓ)

/-- The staged strip is the accumulator's strip: the narrower format has the same values. -/
theorem pay3_at (v : FVec Ideal S128x4096 .f32) (i : S128x4096.Idx) : k0_pay3 (F := Ideal) v i = v i := by pointwise [k0_pay3]

/-- Every piece one trip of the staging loop stores is a strip of the accumulator. -/
theorem trip_strip (𝒱 : Variants) (c : Dev nD) (bd : Option 𝒱.V) (i : grid0.Coords) (arg1 : Memref sig .tc .vmem S512x4096 .bf16) (harg1 : arg1.IsWhole) (arg2 : Memref sig .tc .vmem S512x1024 .bf16) (harg2 : arg2.IsWhole) (arg3 : Memref sig .tc .vmem S512x128 .f32) (harg3 : arg3.IsWhole) (arg4 : Memref sig .tc .vmem S512x1024 .f32) (harg4 : arg4.IsWhole) (arg5 : Memref sig .tc .vmem S1x1024 .f32) (harg5 : arg5.IsWhole) (arg6 : Memref sig .tc .hbm S1024x4096 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .hbm S1024x4096 .bf16) (harg9 : arg9.IsWhole) (arg10 : Memref sig .tc .vmem S1024x4096 .bf16) (harg10 : arg10.IsWhole) (arg11 : Memref sig .tc .vmem S1024x4096 .f32) (harg11 : arg11.IsWhole) (arg12 : DmaSems sig S2) (k0_h2 : k0_cond2 i = 1#1) (X_arg11 : BufTy.Contents (Elt Ideal) arg11.view.ty) (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 k0_h2 X_arg11 k, ∀ x : p.1.shape.Idx, p.2 x = arg11.view.read (Elt Ideal) X_arg11 (p.1.emb x) := by
  unfold tripL_k0_t1 trip_k0_t1
  intro p hp x
  simp only [List.mem_singleton, List.mem_cons, List.not_mem_nil, or_false] at hp
  subst hp
  exact (pay3_at _ x).trans (by rw [View.readAt_apply]; rfl)

/-- So is every piece of the trips before `n`. -/
theorem stage_strips (𝒱 : Variants) (c : Dev nD) (bd : Option 𝒱.V) (i : grid0.Coords) (arg1 : Memref sig .tc .vmem S512x4096 .bf16) (harg1 : arg1.IsWhole) (arg2 : Memref sig .tc .vmem S512x1024 .bf16) (harg2 : arg2.IsWhole) (arg3 : Memref sig .tc .vmem S512x128 .f32) (harg3 : arg3.IsWhole) (arg4 : Memref sig .tc .vmem S512x1024 .f32) (harg4 : arg4.IsWhole) (arg5 : Memref sig .tc .vmem S1x1024 .f32) (harg5 : arg5.IsWhole) (arg6 : Memref sig .tc .hbm S1024x4096 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .hbm S1024x4096 .bf16) (harg9 : arg9.IsWhole) (arg10 : Memref sig .tc .vmem S1024x4096 .bf16) (harg10 : arg10.IsWhole) (arg11 : Memref sig .tc .vmem S1024x4096 .f32) (harg11 : arg11.IsWhole) (arg12 : DmaSems sig S2) (k0_h2 : k0_cond2 i = 1#1) (X_arg11 : BufTy.Contents (Elt Ideal) arg11.view.ty) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 k0_h2 X_arg11 n, ∀ x : p.1.shape.Idx,
      p.2 x = arg11.view.read (Elt Ideal) X_arg11 (p.1.emb x)
  | 0, _ => by intro p hp; exact absurd hp (by unfold pb_k0_t1; exact List.not_mem_nil)
  | n + 1, h => by
    intro p hp x
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 k0_h2 X_arg11 ⟨n, h⟩] at hp
    rcases List.mem_append.mp hp with hp | hp
    · exact trip_strip 𝒱 c bd i arg1 harg1 arg2 harg2 arg3 harg3 arg4 harg4 arg5 harg5 arg6 harg6 arg7 harg7 arg8 harg8 arg9 harg9 arg10 harg10 arg11 harg11 arg12 k0_h2 X_arg11 ⟨n, h⟩ p hp x
    · exact stage_strips 𝒱 c bd i arg1 harg1 arg2 harg2 arg3 harg3 arg4 harg4 arg5 harg5 arg6 harg6 arg7 harg7 arg8 harg8 arg9 harg9 arg10 harg10 arg11 harg11 arg12 k0_h2 X_arg11 n (Nat.le_of_lt h) p hp x

/-- The two halves copied out, both read off one array, leave that array. -/
theorem halves_out (f : (⟨S1024x4096, .bf16⟩ : BufTy).Contents (Elt Ideal)) (G : S1024x4096.Idx → Elt Ideal .bf16)
    (p q : View.Piece (Elt Ideal) S1024x4096 .bf16)
    (hp : ∀ x, p.2 x = G (p.1.emb x)) (hq : ∀ x, q.2 x = G (q.1.emb x)) (hc : ∀ y, ∃ o ∈ [p, q], y ∈ o.1.set) :
    (View.whole main_v15_2).writes (Elt Ideal) f [p, q] = G := by
  funext y
  have h := View.read_writes_apply_eq_canon (View.whole main_v15_2) f y [p, q] (hc y)
  refine Eq.trans ?_ (h.trans (View.canon_append_of_pieces G [] [p, q] ?_ y (hc y)))
  · rfl
  · intro o ho x
    rcases List.mem_cons.mp ho with rfl | ho
    · exact hp x
    · rcases List.mem_singleton.mp ho with rfl
      exact hq x

/-- A read of part of the staging buffer, after all strips are staged, reads the accumulator there. -/
theorem staged_read (𝒱 : Variants) (c : Dev nD) (bd : Option 𝒱.V) (i : grid0.Coords) (arg1 : Memref sig .tc .vmem S512x4096 .bf16) (harg1 : arg1.IsWhole) (arg2 : Memref sig .tc .vmem S512x1024 .bf16) (harg2 : arg2.IsWhole) (arg3 : Memref sig .tc .vmem S512x128 .f32) (harg3 : arg3.IsWhole) (arg4 : Memref sig .tc .vmem S512x1024 .f32) (harg4 : arg4.IsWhole) (arg5 : Memref sig .tc .vmem S1x1024 .f32) (harg5 : arg5.IsWhole) (arg6 : Memref sig .tc .hbm S1024x4096 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .hbm S1024x4096 .bf16) (harg9 : arg9.IsWhole) (arg10 : Memref sig .tc .vmem S1024x4096 .bf16) (harg10 : arg10.IsWhole) (arg11 : Memref sig .tc .vmem S1024x4096 .f32) (harg11 : arg11.IsWhole) (arg12 : DmaSems sig S2) (k0_h2 : k0_cond2 i = 1#1) (X_arg11 : BufTy.Contents (Elt Ideal) arg11.view.ty) (f : arg10.view.ty.Contents (Elt Ideal)) (r : Rect S1024x4096) (h)
    (hc : ∀ y, ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 k0_h2 X_arg11 k0_t1_loop.trips, y ∈ p.1.set) (x : r.shape.Idx) :
    View.read (Elt Ideal) (arg10.slice r h).view (arg10.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 k0_h2 X_arg11 k0_t1_loop.trips)) x
      = arg11.view.read (Elt Ideal) X_arg11 (r.emb x) := by
  refine Eq.trans ?_ ((View.read_writes_apply_eq_canon arg10.view f (r.emb x) _ (hc _)).trans ?_)
  · rfl
  · have e := View.canon_append_of_pieces (e := .bf16) (arg11.view.read (Elt Ideal) X_arg11) [] (pb_k0_t1 (F := Ideal) 𝒱 c bd i arg1 harg1 arg2 harg2 arg3 harg3 arg4 harg4 arg5 harg5 arg6 harg6 arg7 harg7 arg8 harg8 arg9 harg9 arg10 harg10 arg11 harg11 arg12 k0_h2 X_arg11 k0_t1_loop.trips)
      (stage_strips 𝒱 c bd i arg1 harg1 arg2 harg2 arg3 harg3 arg4 harg4 arg5 harg5 arg6 harg6 arg7 harg7 arg8 harg8 arg9 harg9 arg10 harg10 arg11 harg11 arg12 k0_h2 X_arg11 k0_t1_loop.trips le_rfl) (r.emb x) (hc _)
    exact (congrFun (congrArg View.canon (List.append_nil _)) _).symm.trans e

/-- After the last point the copied-out array is the accumulator that point leaves. -/
theorem out_eq_acc (c : Dev nD) (t : Fin cfg0.N) (h0 : ¬t.val % 32 = 0) (h1 : t.val % 32 = 31) :
    (outsAt0 m c t.val t.isLt).2.2.2.2 = (outsAt0 m c t.val t.isLt).2.2.2.1 := by
  rw [outsAt0_C m c t h0 h1]; dsimp only; unfold hbw0_C_1 sout0_C_1 kernelRun0_C; dsimp only
  refine halves_out _ _ _ _ ?_ ?_ ?_
  · intro x
    unfold kernelRun0_C.sl.dma0_1
    exact staged_read Variants.none c none (grid0.coords t) (ms0_0 t) (hs0_0 t) (ms0_1 t) (hs0_1 t) (ms0_2 t) (hs0_2 t) (ms0_3 t) (hs0_3 t) (ms0_4 t) (hs0_4 t) (Memref.whole main_v14) (Memref.isWhole_whole _)
      (ms0_5 t) (hs0_5 t) (ms0_6 t) (hs0_6 t) (Memref.whole main_v15_2) (Memref.isWhole_whole _) scM0_0 (Memref.isWhole_whole _) scM0_1 (Memref.isWhole_whole _) cc0_scratch2
      ((hcond0_1 t).mpr h1) _ _ (Rect.unit (s := S1024x4096) ![512, 0] S512x4096.size inb_S1024x4096_S512x4096_512_0) (fun _ => rfl)
      (View.cover_of_tiledL (s := S1024x4096) _ ![128, 4096] (by sl_kernel_rfl)) x
  · intro x
    unfold kernelRun0_C.sl.dma0
    exact staged_read Variants.none c none (grid0.coords t) (ms0_0 t) (hs0_0 t) (ms0_1 t) (hs0_1 t) (ms0_2 t) (hs0_2 t) (ms0_3 t) (hs0_3 t) (ms0_4 t) (hs0_4 t) (Memref.whole main_v14) (Memref.isWhole_whole _)
      (ms0_5 t) (hs0_5 t) (ms0_6 t) (hs0_6 t) (Memref.whole main_v15_2) (Memref.isWhole_whole _) scM0_0 (Memref.isWhole_whole _) scM0_1 (Memref.isWhole_whole _) cc0_scratch2
      ((hcond0_1 t).mpr h1) _ _ (Rect.unit (s := S1024x4096) ![0, 0] S512x4096.size inb_S1024x4096_S512x4096_0_0) (fun _ => rfl)
      (View.cover_of_tiledL (s := S1024x4096) _ ![128, 4096] (by sl_kernel_rfl)) x
  · exact View.cover_of_tiledL (s := S1024x4096) _ ![512, 4096] (by sl_kernel_rfl)

end Cert.InputKernelIdeal.Value
-- ==== Proof.Constants.lean ====
module

public import Idealize.ShloMosaic.Lib.IdealHost

@[expose] public section

/-! # The float constants of the programs, as real numbers -/

noncomputable section

namespace Cert.Constants

open Idealize.ShloMosaic

theorem c_1024 : Ideal.ofBits .f32 0x44800000#32 = ((1024 : ℝ) : EReal) := by
  simp [Ideal.ofBits, Ideal.ieee]; rw [← EReal.coe_mul]; norm_num
theorem c_neg_half : Ideal.ofBits .f32 0xBF000000#32 = ((-1 / 2 : ℝ) : EReal) := by
  simp [Ideal.ofBits, Ideal.ieee]; rw [← EReal.coe_mul, ← EReal.coe_neg]; norm_num
theorem c_rms_eps : Ideal.ofBits .f32 0x358637BD#32 = ((8796093 / 8796093022208 : ℝ) : EReal) := by
  simp [Ideal.ofBits, Ideal.ieee]; rw [← EReal.coe_mul]; norm_num

end Cert.Constants
-- ==== Proof.InputRef.lean ====
module

public import proofs.«01_k».proof.Proof.Constants
public import Idealize.ShloMosaic.Lib.Pipeline.ValueKit
public import proofs.«01_k».proof.Proof.Gen.InputReferenceIdeal.Read

@[expose] public section

set_option maxRecDepth 16384

/-! # The feed-forward backward's input call: the reference at an entry

The gradients of the gain and of the weight are the kernel's sums, product by product. The input's gradient is the
derivative of the normalisation written out, and equals the kernel's formula where the arguments are real numbers. -/

noncomputable section

open Idealize.ShloMosaic Idealize.ShloMosaic.TcCoe Idealize.SL.Sem
open Idealize.ShloMosaic.Pipeline (Dat)

namespace Cert.InputReferenceIdeal

open Cert.InputReferenceIdeal.Read

/-- A row's mean square with the small constant of the normalisation. -/
def meanSq (x : FVec Ideal S16384x1024 .f32) (r : Fin 16384) : EReal :=
  Ideal.div (∑ k : Fin 1024, x (ix2 r k) * x (ix2 r k)) (Ideal.ofBits FTy.f32 0x44800000#32) + Ideal.ofBits FTy.f32 0x358637BD#32

/-- The reciprocal of a row's root mean square. -/
def recip (x : FVec Ideal S16384x1024 .f32) (r : Fin 16384) : EReal := Ideal.rsqrt (meanSq x r)

/-- The gradient of the normalised, scaled rows. -/
def dh (w : FVec Ideal S1024x4096 .f32) (d : FVec Ideal S16384x4096 .f32) (i : S16384x1024.Idx) : EReal :=
  ∑ j : Fin 4096, d (ix2 (i 0) j) * w (ix2 (i 1) j)

theorem ref_dh (w : FVec Ideal S1024x4096 .f32) (d : FVec Ideal S16384x4096 .f32) : val_main_v19 (F := Ideal) w d = dh w d := by
  funext i
  unfold dh
  pointwise [val_main_v19]

/-- The weight's gradient. -/
theorem ref_dw (x : FVec Ideal S16384x1024 .f32) (g : FVec Ideal S1024 .f32) (d : FVec Ideal S16384x4096 .f32) (i : S1024x4096.Idx) :
    val_main_v42 (F := Ideal) x g d i = ∑ k : Fin 16384, x (ix2 k (i 0)) * recip x k * g (ix1 (i 0)) * d (ix2 k (i 1)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst, val_main_cst_0, val_main_cst_1, val_main_cst_2, val_main_cst_3, val_main_cst_4, val_main_cst_5, val_main_cst_6, val_main_cst_7]
  exact Finset.sum_congr rfl fun k _ => mul_comm _ _

/-- The gain's gradient. -/
theorem ref_dg (x : FVec Ideal S16384x1024 .f32) (w : FVec Ideal S1024x4096 .f32) (d : FVec Ideal S16384x4096 .f32) (i : S1x1024.Idx) :
    val_main_v41 (F := Ideal) x w d i = ∑ k : Fin 16384, dh w d (ix2 k (i 1)) * (x (ix2 k (i 1)) * recip x k) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst, val_main_cst_0, val_main_cst_1, val_main_cst_2, val_main_cst_3, val_main_cst_4, val_main_cst_5, val_main_cst_6, val_main_cst_7]
  rw [Fin.sum_univ_one, ref_dh]
  exact Finset.sum_congr rfl fun k _ => mul_comm _ _

theorem div_real (a : ℝ) {b : ℝ} (h : b ≠ 0) : Ideal.div (a : EReal) (b : EReal) = ((a / b : ℝ) : EReal) := by
  rw [Ideal.div_coe h, ← EReal.coe_mul, mul_one_div]

open Cert.Constants in
/-- The derivative of the normalisation over real numbers: the row `x`, its entry `j`, the incoming gradient `p`. -/
theorem norm_grad (e : EReal) (x p : Fin 1024 → ℝ) (j : Fin 1024) (q : EReal)
    (hq : q = Ideal.div (∑ k, (x k : EReal) * (x k : EReal)) (Ideal.ofBits FTy.f32 0x44800000#32) + Ideal.ofBits FTy.f32 0x358637BD#32) :
    e + (p j : EReal) * Ideal.rsqrt q
        + (x j : EReal) * Ideal.div ((∑ k, (x k : EReal) * (p k : EReal)) * (Ideal.ofBits FTy.f32 0xBF000000#32 * Ideal.div (Ideal.rsqrt q) q)) (Ideal.ofBits FTy.f32 0x44800000#32)
        + Ideal.div ((∑ k, (x k : EReal) * (p k : EReal)) * (Ideal.ofBits FTy.f32 0xBF000000#32 * Ideal.div (Ideal.rsqrt q) q)) (Ideal.ofBits FTy.f32 0x44800000#32) * (x j : EReal)
      = e + Ideal.rsqrt q * ((p j : EReal) - (x j : EReal) * Ideal.rsqrt q
          * Ideal.div (∑ k, (p k : EReal) * ((x k : EReal) * Ideal.rsqrt q)) (Ideal.ofBits FTy.f32 0x44800000#32)) := by
  have hpos : (0 : ℝ) < (∑ k, x k * x k) / 1024 + 8796093 / 8796093022208 :=
    add_pos_of_nonneg_of_pos (div_nonneg (Finset.sum_nonneg fun k _ => mul_self_nonneg _) (by norm_num)) (by norm_num)
  have hs : ∀ f : Fin 1024 → ℝ, ∑ k, (f k : EReal) = ((∑ k, f k : ℝ) : EReal) := fun f =>
    (map_sum (⟨⟨Real.toEReal, rfl⟩, EReal.coe_add⟩ : ℝ →+ EReal) f _).symm
  have hq' : q = (((∑ k, x k * x k) / 1024 + 8796093 / 8796093022208 : ℝ) : EReal) := by
    rw [hq, c_1024, c_rms_eps]
    simp only [← EReal.coe_mul, hs]
    rw [div_real _ (by norm_num), ← EReal.coe_add]
  generalize (∑ k, x k * x k) / 1024 + 8796093 / 8796093022208 = Q at hpos hq'
  have hr : Ideal.rsqrt q = (((Real.sqrt Q)⁻¹ : ℝ) : EReal) := by rw [hq', Ideal.rsqrt_coe, if_neg hpos.le.not_gt, if_neg hpos.ne']
  have hQ : (Real.sqrt Q) ^ 2 = Q := Real.sq_sqrt hpos.le
  have hs0 : Real.sqrt Q ≠ 0 := (Real.sqrt_pos.mpr hpos).ne'
  rw [hr, hq', c_1024, c_neg_half]
  simp only [← EReal.coe_mul, hs, div_real _ hpos.ne', div_real _ (show (1024 : ℝ) ≠ 0 by norm_num), ← EReal.coe_sub]
  rw [add_assoc, add_assoc, ← EReal.coe_add, ← EReal.coe_add]
  congr 2
  simp only [← mul_assoc, ← Finset.sum_mul]
  rw [show ∑ k, p k * x k = ∑ k, x k * p k from Finset.sum_congr rfl fun k _ => mul_comm _ _]
  generalize ∑ k, x k * p k = P
  generalize Real.sqrt Q = s at hQ hs0
  subst hQ
  field_simp
  ring

/-- The input's gradient, where every argument but the residual's gradient is real. -/
theorem ref_dx (x : FVec Ideal S16384x1024 .f32) (g : FVec Ideal S1024 .f32) (w : FVec Ideal S1024x4096 .f32) (d : FVec Ideal S16384x4096 .f32)
    (e : FVec Ideal S16384x1024 .f32) (hx : ∀ i, ∃ r : ℝ, x i = r) (hg : ∀ i, ∃ r : ℝ, g i = r) (hw : ∀ i, ∃ r : ℝ, w i = r)
    (hd : ∀ i, ∃ r : ℝ, d i = r) (i : S16384x1024.Idx) :
    val_main_v40 (F := Ideal) x g w d e i = e i + recip x (i 0) * (dh w d i * g (ix1 (i 1)) - x i * recip x (i 0)
      * Ideal.div (∑ k : Fin 1024, dh w d (ix2 (i 0) k) * g (ix1 k) * (x (ix2 (i 0) k) * recip x (i 0))) (Ideal.ofBits FTy.f32 0x44800000#32)) := by
  obtain ⟨a, b, rfl⟩ : ∃ (a : Fin 16384) (b : Fin 1024), i = ix2 a b := ⟨i 0, i 1, by
    funext k
    match k with
    | ⟨0, _⟩ => rfl
    | ⟨1, _⟩ => rfl⟩
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst, val_main_cst_0, val_main_cst_1, val_main_cst_2, val_main_cst_3, val_main_cst_4, val_main_cst_5, val_main_cst_6, val_main_cst_7]
  simp only [Fin.sum_univ_one, ref_dh]
  choose xr hx using hx
  choose gr hg using hg
  choose wr hw using hw
  choose dr hd using hd
  obtain ⟨H, hh⟩ : ∃ H : S16384x1024.Idx → ℝ, ∀ i, dh w d i = H i := ⟨fun i => ∑ j : Fin 4096, dr (ix2 (i 0) j) * wr (ix2 (i 1) j), fun i => by
    unfold dh
    simp only [hw, hd, ← EReal.coe_mul]
    exact (map_sum (⟨⟨Real.toEReal, rfl⟩, EReal.coe_add⟩ : ℝ →+ EReal) _ _).symm⟩
  have key := norm_grad (e (ix2 a b)) (fun k => xr (ix2 a k)) (fun k => H (ix2 a k) * gr (ix1 k)) b (meanSq x a) (by unfold meanSq; simp only [hx])
  simp only [EReal.coe_mul, ← hx, ← hh, ← hg] at key
  exact key

end Cert.InputReferenceIdeal
-- ==== Proof.InputValue.lean ====
module

public import proofs.«01_k».proof.Proof.InputTiles

@[expose] public section

set_option maxRecDepth 16384

/-! # The feed-forward backward's input call: what the grid points hold

The weight is copied in once and stays. The input's gradient is stored block by block, the gain's gradient and the weight's
gradient are summed over the points. -/

noncomputable section

open Idealize.ShloMosaic Idealize.ShloMosaic.TcCoe Idealize.SL.Sem
open Idealize.ShloMosaic.Pipeline (Dat)

namespace Cert.InputKernelIdeal.Value

open Cert.InputKernelIdeal Cert.InputKernelIdeal.Gen Cert.Tiles

variable (m : (ℓ : Loc nD τ sig) → Buf (Elt Ideal) ℓ)

/-- The first point copies the weight in. -/
theorem held_w_first (c : Dev nD) (t : Fin cfg0.N) (h0 : t.val % 32 = 0) (h1 : ¬t.val % 32 = 31) :
    (outsAt0 m c t.val t.isLt).2.2.1 = V m c main_v14 := by
  rw [outsAt0_A m c t h0 h1]
  funext y
  frame_out
  rw [canon_whole]
  rfl

/-- A middle point leaves the weight as the point before it left it. -/
theorem held_w_next (c : Dev nD) (t : Fin cfg0.N) (h0 : ¬t.val % 32 = 0) (h1 : ¬t.val % 32 = 31) :
    (outsAt0 m c t.val t.isLt).2.2.1 = (outsAt0 m c (t.val - 1) (Nat.lt_of_le_of_lt (Nat.sub_le _ _) t.isLt)).2.2.1 := by
  rw [outsAt0_B m c t h0 h1]
  dsimp only
  unfold sout0_B_0
  rfl

/-- The weight stays in its buffer, as the first point copied it in, at every point but the last. -/
theorem held_w (c : Dev nD) (n : ℕ) (hn : n < cfg0.N) (h : n < 31) : (outsAt0 m c n hn).2.2.1 = V m c main_v14 := by
  induction n with
  | zero => exact held_w_first m c ⟨0, hn⟩ rfl (by show ¬ 0 % 32 = 31; omega)
  | succ n ih =>
    exact (held_w_next m c ⟨n + 1, hn⟩ (by show ¬ (n + 1) % 32 = 0; omega) (by show ¬ (n + 1) % 32 = 31; omega)).trans
      (ih (Nat.lt_of_succ_lt hn) (by omega))

/-- A block of the input's gradient, of the point's blocks and the weight. -/
def dxOf (D : FVec Ideal S512x4096 .bf16) (X : FVec Ideal S512x1024 .bf16) (S : FVec Ideal S512x128 .f32) (E : FVec Ideal S512x1024 .f32) (G : FVec Ideal S1x1024 .f32) (W : FVec Ideal S1024x4096 .bf16) (y : S512x1024.Idx) : EReal :=
  E y + S (ix2 (y 0) 0) * (dhOf D W y * G (ix2 0 (y 1))
    - X y * Ideal.div (∑ k : Fin 1024, dhOf D W (ix2 (y 0) k) * G (ix2 0 k) * X (ix2 (y 0) k)) (Ideal.ofBits FTy.f32 0x44800000#32))

/-- What a point adds to the gain's gradient. -/
def dgOf (D : FVec Ideal S512x4096 .bf16) (X : FVec Ideal S512x1024 .bf16) (W : FVec Ideal S1024x4096 .bf16) (y : S1x1024.Idx) : EReal := ∑ k : Fin 512, dhOf D W (ix2 k (y 1)) * X (ix2 k (y 1))

/-- What a point adds to the weight's gradient. -/
def dwOf (D : FVec Ideal S512x4096 .bf16) (X : FVec Ideal S512x1024 .bf16) (G : FVec Ideal S1x1024 .f32) (y : S1024x4096.Idx) : EReal := ∑ k : Fin 512, X (ix2 k (y 0)) * G (ix2 0 (y 0)) * D (ix2 k (y 1))

/-- What the first point stores of the input's gradient, -/
theorem dx_first (c : Dev nD) (t : Fin cfg0.N) (h0 : t.val % 32 = 0) (y : S512x1024.Idx) :
    (outsAt0 m c t.val t.isLt).1 y = dxOf (iblk m c 0 t) (iblk m c 1 t) (iblk m c 2 t) (iblk m c 3 t) (iblk m c 4 t) (V m c main_v14) y := by
  rw [outsAt0_A m c t h0 (by omega)]
  frame_out
  simp only [load_copied]
  exact dx_block_at (iblk m c 0 t) (iblk m c 1 t) (iblk m c 2 t) (iblk m c 3 t) (iblk m c 4 t) (V m c main_v14) y

/-- a middle point, -/
theorem dx_middle (c : Dev nD) (t : Fin cfg0.N) (h0 : ¬t.val % 32 = 0) (h1 : ¬t.val % 32 = 31) (y : S512x1024.Idx) :
    (outsAt0 m c t.val t.isLt).1 y
      = dxOf (iblk m c 0 t) (iblk m c 1 t) (iblk m c 2 t) (iblk m c 3 t) (iblk m c 4 t) (outsAt0 m c (t.val - 1) (Nat.lt_of_le_of_lt (Nat.sub_le _ _) t.isLt)).2.2.1 y := by
  rw [outsAt0_B m c t h0 h1]
  frame_out
  simp only [read_unread_whole]
  exact dx_block_at (iblk m c 0 t) (iblk m c 1 t) (iblk m c 2 t) (iblk m c 3 t) (iblk m c 4 t) (outsAt0 m c (t.val - 1) (Nat.lt_of_le_of_lt (Nat.sub_le _ _) t.isLt)).2.2.1 y

/-- the last point, -/
theorem dx_last (c : Dev nD) (t : Fin cfg0.N) (h0 : ¬t.val % 32 = 0) (h1 : t.val % 32 = 31) (y : S512x1024.Idx) :
    (outsAt0 m c t.val t.isLt).1 y
      = dxOf (iblk m c 0 t) (iblk m c 1 t) (iblk m c 2 t) (iblk m c 3 t) (iblk m c 4 t) (outsAt0 m c (t.val - 1) (Nat.lt_of_le_of_lt (Nat.sub_le _ _) t.isLt)).2.2.1 y := by
  rw [outsAt0_C m c t h0 h1]
  frame_out
  simp only [read_unread_whole]
  exact dx_block_at (iblk m c 0 t) (iblk m c 1 t) (iblk m c 2 t) (iblk m c 3 t) (iblk m c 4 t) (outsAt0 m c (t.val - 1) (Nat.lt_of_le_of_lt (Nat.sub_le _ _) t.isLt)).2.2.1 y

/-- and so every point, of the weight. -/
theorem dx_point (c : Dev nD) (t : Fin cfg0.N) (y : S512x1024.Idx) :
    (outsAt0 m c t.val t.isLt).1 y = dxOf (iblk m c 0 t) (iblk m c 1 t) (iblk m c 2 t) (iblk m c 3 t) (iblk m c 4 t) (V m c main_v14) y := by
  have ht : t.val < 32 := lt_of_lt_of_eq t.isLt N_0
  by_cases h0 : t.val % 32 = 0
  · exact dx_first m c t h0 y
  · have hw := held_w m c (t.val - 1) (Nat.lt_of_le_of_lt (Nat.sub_le _ _) t.isLt) (by omega)
    rw [← hw]
    by_cases h1 : t.val % 32 = 31
    · exact dx_last m c t h0 h1 y
    · exact dx_middle m c t h0 h1 y

/-- The first point starts the gain's gradient. -/
theorem dg_first (c : Dev nD) (t : Fin cfg0.N) (h0 : t.val % 32 = 0) (y : S1x1024.Idx) :
    (outsAt0 m c t.val t.isLt).2.1 y = dgOf (iblk m c 0 t) (iblk m c 1 t) (V m c main_v14) y := by
  rw [outsAt0_A m c t h0 (by omega)]
  frame_out
  simp only [load_copied]
  refine (dg_block_at (iblk m c 0 t) (iblk m c 1 t) (V m c main_v14) (k0_pay5 (F := Ideal)) y).trans ?_
  pointwise [k0_pay5]
  rfl

/-- A later point adds to it, in the middle -/
theorem dg_middle (c : Dev nD) (t : Fin cfg0.N) (h0 : ¬t.val % 32 = 0) (h1 : ¬t.val % 32 = 31) (y : S1x1024.Idx) :
    (outsAt0 m c t.val t.isLt).2.1 y = (outsAt0 m c (t.val - 1) (Nat.lt_of_le_of_lt (Nat.sub_le _ _) t.isLt)).2.1 y
      + dgOf (iblk m c 0 t) (iblk m c 1 t) (outsAt0 m c (t.val - 1) (Nat.lt_of_le_of_lt (Nat.sub_le _ _) t.isLt)).2.2.1 y := by
  rw [outsAt0_B m c t h0 h1]
  frame_out
  simp only [read_unread_whole]
  exact dg_block_at (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.1 y

/-- and at the end; -/
theorem dg_last (c : Dev nD) (t : Fin cfg0.N) (h0 : ¬t.val % 32 = 0) (h1 : t.val % 32 = 31) (y : S1x1024.Idx) :
    (outsAt0 m c t.val t.isLt).2.1 y = (outsAt0 m c (t.val - 1) (Nat.lt_of_le_of_lt (Nat.sub_le _ _) t.isLt)).2.1 y
      + dgOf (iblk m c 0 t) (iblk m c 1 t) (outsAt0 m c (t.val - 1) (Nat.lt_of_le_of_lt (Nat.sub_le _ _) t.isLt)).2.2.1 y := by
  rw [outsAt0_C m c t h0 h1]
  frame_out
  simp only [read_unread_whole]
  exact dg_block_at (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.1 y

/-- both of the weight. -/
theorem dg_next (c : Dev nD) (t : Fin cfg0.N) (h0 : ¬t.val % 32 = 0) (y : S1x1024.Idx) :
    (outsAt0 m c t.val t.isLt).2.1 y = (outsAt0 m c (t.val - 1) (Nat.lt_of_le_of_lt (Nat.sub_le _ _) t.isLt)).2.1 y
      + dgOf (iblk m c 0 t) (iblk m c 1 t) (V m c main_v14) y := by
  have ht : t.val < 32 := lt_of_lt_of_eq t.isLt N_0
  have hw := held_w m c (t.val - 1) (Nat.lt_of_le_of_lt (Nat.sub_le _ _) t.isLt) (by omega)
  rw [← hw]
  by_cases h1 : t.val % 32 = 31
  · exact dg_last m c t h0 h1 y
  · exact dg_middle m c t h0 h1 y

/-- The first point starts the weight's gradient. -/
theorem dw_first (c : Dev nD) (t : Fin cfg0.N) (h0 : t.val % 32 = 0) (y : S1024x4096.Idx) :
    (outsAt0 m c t.val t.isLt).2.2.2.1 y = dwOf (iblk m c 0 t) (iblk m c 1 t) (iblk m c 4 t) y := by
  rw [outsAt0_A m c t h0 (by omega)]
  frame_out
  have e : ∀ r : Rect S1024x4096, (View.whole cc0_scratch1).readCov (Val := Elt Ideal)
      [⟨Rect.unit (s := S1024x4096) ![0, 0] ![1024, 4096] inb_S1024x4096_S1024x4096_0_0, k0_pay4 (F := Ideal)⟩] r.toLoadRect
        = View.ld (Val := Elt Ideal) (e' := .f32) (k0_pay4 (F := Ideal)) r := fun r => View.readCov_fill _ _ _ _ r (by decide)
  simp (disch := decide) only [↓ View.readCov_skip, e]
  rw [canon_covered4 y (View.cover_of_tiledL (s := S1024x4096) _ ![1024, 1024] (by sl_kernel_rfl) y)]
  refine (dw_tiles (iblk m c 0 t) (iblk m c 1 t) (iblk m c 4 t) (k0_pay4 (F := Ideal)) y).trans ?_
  pointwise [k0_pay4]
  rfl

/-- Every later point adds to it. -/
theorem dw_next (c : Dev nD) (t : Fin cfg0.N) (h0 : ¬t.val % 32 = 0) (y : S1024x4096.Idx) :
    (outsAt0 m c t.val t.isLt).2.2.2.1 y
      = (outsAt0 m c (t.val - 1) (Nat.lt_of_le_of_lt (Nat.sub_le _ _) t.isLt)).2.2.2.1 y + dwOf (iblk m c 0 t) (iblk m c 1 t) (iblk m c 4 t) y := by
  by_cases h1 : t.val % 32 = 31
  · rw [outsAt0_C m c t h0 h1]
    frame_out
    simp only [read_unread_whole]
    exact dw_tiles (iblk m c 0 t) (iblk m c 1 t) (iblk m c 4 t) (outsAt0 m c (t.val - 1) (Nat.lt_of_le_of_lt (Nat.sub_le _ _) t.isLt)).2.2.2.1 y
  · rw [outsAt0_B m c t h0 h1]
    frame_out
    simp only [read_unread_whole]
    exact dw_tiles (iblk m c 0 t) (iblk m c 1 t) (iblk m c 4 t) (outsAt0 m c (t.val - 1) (Nat.lt_of_le_of_lt (Nat.sub_le _ _) t.isLt)).2.2.2.1 y

end Cert.InputKernelIdeal.Value
-- ==== Proof.InputFinal.lean ====
module

public import proofs.«01_k».proof.Proof.InputStage
public import proofs.«01_k».proof.Proof.InputRef
public import proofs.«01_k».proof.Proof.InputValue
public import proofs.«01_k».proof.Proof.Gen.InputKernelIdeal.Value

@[expose] public section

set_option maxRecDepth 16384

/-! # The feed-forward backward's input call: its three result arrays are the reference's -/

noncomputable section

open Idealize.ShloMosaic Idealize.ShloMosaic.TcCoe Idealize.SL.Sem
open Idealize.ShloMosaic.Pipeline (Dat)

namespace Cert.InputKernelIdeal.Value

open Cert.InputKernelIdeal Cert.InputKernelIdeal.Gen
variable (m : (ℓ : Loc nD τ sig) → Buf (Elt Ideal) ℓ)

/-- The block a window reads or writes at a point: rows `512 t` on, every column; the gain and its gradient whole. -/
theorem block_at : ∀ t : Fin cfg0.N, win0_0.index t = ![t.val, 0] ∧ win0_1.index t = ![t.val, 0] ∧ win0_2.index t = ![t.val, 0] ∧ win0_3.index t = ![t.val, 0]
      ∧ win0_4.index t = ![0, 0] ∧ win0_5.index t = ![t.val, 0] ∧ win0_6.index t = ![0, 0] :=
  (by decide +kernel : ∀ t : Fin grid0.N, win0_0.index t = ![t.val, 0] ∧ win0_1.index t = ![t.val, 0] ∧ win0_2.index t = ![t.val, 0] ∧ win0_3.index t = ![t.val, 0]
      ∧ win0_4.index t = ![0, 0] ∧ win0_5.index t = ![t.val, 0] ∧ win0_6.index t = ![0, 0])

/-- The arguments of the call. -/
abbrev Arg0 (c : Dev nD) : FVec Ideal S16384x1024 .f32 := m ((c : Thread nD τ).loc main_arg0)
@[inherit_doc Arg0] abbrev Arg1 (c : Dev nD) : FVec Ideal S1024 .f32 := m ((c : Thread nD τ).loc main_arg1)
@[inherit_doc Arg0] abbrev Arg2 (c : Dev nD) : FVec Ideal S1024x4096 .f32 := m ((c : Thread nD τ).loc main_arg2)
@[inherit_doc Arg0] abbrev Arg3 (c : Dev nD) : FVec Ideal S16384x4096 .f32 := m ((c : Thread nD τ).loc main_arg3)
@[inherit_doc Arg0] abbrev Arg4 (c : Dev nD) : FVec Ideal S16384x1024 .f32 := m ((c : Thread nD τ).loc main_arg4)

open Cert.InputReferenceIdeal (meanSq recip dh)

/-- The normalised rows the host hands the call. -/
theorem x_at (c : Dev nD) (i : S16384x1024.Idx) : (V m c main_v11 : FVec Ideal S16384x1024 .bf16) i = Arg0 m c i * recip (Arg0 m c) (i 0) := by
  show StableHlo.after hostOps0 (fun b => m (c, b)) (Proc.tc.devRef main_v11) i = _
  have e : StableHlo.after hostOps0 (fun b => m (c, b)) (Proc.tc.devRef main_v11) = (show FVec Ideal S16384x1024 .bf16 from truncf .bf16 (mulf (Arg0 m c) (broadcastInDim S16384x1024 ![0, 1] bcast_S16384x1_S16384x1024_0_1 (Host.rsqrt (addf (Host.divf (broadcastInDim S16384x1 ![0] bcast_S16384_S16384x1_0 (Host.reduceAdd (mulf (Arg0 m c) (Arg0 m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) bitsLt_bf16_f32) := by
    unfold hostOps0
    after_results
  rw [e]
  unfold recip meanSq
  pointwise []

/-- The reciprocal deviations the host hands the call, one copy to each lane. -/
theorem s_at (c : Dev nD) (i : S16384x128.Idx) : (V m c main_v12 : FVec Ideal S16384x128 .f32) i = recip (Arg0 m c) (i 0) := by
  show StableHlo.after hostOps0 (fun b => m (c, b)) (Proc.tc.devRef main_v12) i = _
  have e : StableHlo.after hostOps0 (fun b => m (c, b)) (Proc.tc.devRef main_v12) = (show FVec Ideal S16384x128 .f32 from broadcastInDim S16384x128 ![0, 1] bcast_S16384x1_S16384x128_0_1 (Host.rsqrt (addf (Host.divf (broadcastInDim S16384x1 ![0] bcast_S16384_S16384x1_0 (Host.reduceAdd (mulf (Arg0 m c) (Arg0 m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))) := by
    unfold hostOps0
    after_results
  rw [e]
  unfold recip meanSq
  pointwise []

theorem d_block (c : Dev nD) (t : Fin cfg0.N) (y : S512x4096.Idx) (i : S16384x4096.Idx) (h0 : (i 0).val = t.val * 512 + (y 0).val) (h1 : (i 1).val = (y 1).val) :
    (iblk m c 0 t : FVec Ideal S512x4096 .bf16) y = Arg3 m c i := by
  blk_point [iblk, V, block_at t]

theorem x_block (c : Dev nD) (t : Fin cfg0.N) (y : S512x1024.Idx) (i : S16384x1024.Idx) (h0 : (i 0).val = t.val * 512 + (y 0).val) (h1 : (i 1).val = (y 1).val) :
    (iblk m c 1 t : FVec Ideal S512x1024 .bf16) y = Arg0 m c i * recip (Arg0 m c) (i 0) := by
  rw [← x_at]
  blk_point [iblk, block_at t]

theorem s_block (c : Dev nD) (t : Fin cfg0.N) (y : S512x128.Idx) (r : Fin 16384) (h0 : r.val = t.val * 512 + (y 0).val) :
    (iblk m c 2 t : FVec Ideal S512x128 .f32) y = recip (Arg0 m c) r := by
  rw [show recip (Arg0 m c) r = recip (Arg0 m c) ((ix2 r (y 1) : S16384x128.Idx) 0) from rfl, ← s_at]
  blk_point [iblk, block_at t]

theorem e_block (c : Dev nD) (t : Fin cfg0.N) (y : S512x1024.Idx) (i : S16384x1024.Idx) (h0 : (i 0).val = t.val * 512 + (y 0).val) (h1 : (i 1).val = (y 1).val) :
    (iblk m c 3 t : FVec Ideal S512x1024 .f32) y = Arg4 m c i := by
  blk_point [iblk, V, block_at t]

theorem g_block (c : Dev nD) (t : Fin cfg0.N) (k : Fin 1024) :
    (iblk m c 4 t : FVec Ideal S1x1024 .f32) (ix2 0 k) = Arg1 m c (ix1 k) := by
  blk_point [iblk, V, block_at t]

theorem w_at (c : Dev nD) (y : S1024x4096.Idx) : (V m c main_v14 : FVec Ideal S1024x4096 .bf16) y = Arg2 m c y := by
  blk_point [V]

/-- A point's gradient of the normalised rows is the reference's rows. -/
theorem dh_entry (c : Dev nD) (t : Fin cfg0.N) (y : S512x1024.Idx) (i : S16384x1024.Idx) (h0 : (i 0).val = t.val * 512 + (y 0).val) (h1 : (i 1).val = (y 1).val) :
    dhOf (iblk m c 0 t) (V m c main_v14) y = dh (Arg2 m c) (Arg3 m c) i := by
  unfold dhOf dh
  refine Finset.sum_congr rfl fun j _ => ?_
  rw [d_block m c t (ix2 (y 0) j) (ix2 (i 0) j) h0 rfl, w_at, show y 1 = i 1 from Fin.ext h1.symm]

/-- A point's block of the input's gradient is the reference's rows. -/
theorem dx_entry (c : Dev nD) (hx : ∀ i, ∃ r : ℝ, Arg0 m c i = r) (hg : ∀ i, ∃ r : ℝ, Arg1 m c i = r) (hw : ∀ i, ∃ r : ℝ, Arg2 m c i = r)
    (hd : ∀ i, ∃ r : ℝ, Arg3 m c i = r) (t : Fin cfg0.N) (y : S512x1024.Idx) (i : S16384x1024.Idx) (h0 : (i 0).val = t.val * 512 + (y 0).val) (h1 : (i 1).val = (y 1).val) :
    dxOf (iblk m c 0 t) (iblk m c 1 t) (iblk m c 2 t) (iblk m c 3 t) (iblk m c 4 t) (V m c main_v14) y
      = Cert.InputReferenceIdeal.Read.val_main_v40 (F := Ideal) (Arg0 m c) (Arg1 m c) (Arg2 m c) (Arg3 m c) (Arg4 m c) i := by
  rw [Cert.InputReferenceIdeal.ref_dx _ _ _ _ _ hx hg hw hd]
  unfold dxOf
  rw [e_block m c t y i h0 h1, s_block m c t (ix2 (y 0) 0) (i 0) h0, dh_entry m c t y i h0 h1, g_block m c t (y 1), x_block m c t y i h0 h1,
    show y 1 = i 1 from Fin.ext h1.symm]
  refine congrArg (fun z => Arg4 m c i + recip (Arg0 m c) (i 0) * (dh (Arg2 m c) (Arg3 m c) i * Arg1 m c (ix1 (i 1)) - Arg0 m c i * recip (Arg0 m c) (i 0) * Ideal.div z (Ideal.ofBits FTy.f32 0x44800000#32)))
    (Finset.sum_congr rfl fun k _ => ?_)
  rw [dh_entry m c t (ix2 (y 0) k) (ix2 (i 0) k) h0 rfl, g_block m c t k, x_block m c t (ix2 (y 0) k) (ix2 (i 0) k) h0 rfl]
  rfl

/-- The input's gradient. -/
theorem final_dx (c : Dev nD) (hx : ∀ i, ∃ r : ℝ, Arg0 m c i = r) (hg : ∀ i, ∃ r : ℝ, Arg1 m c i = r) (hw : ∀ i, ∃ r : ℝ, Arg2 m c i = r)
    (hd : ∀ i, ∃ r : ℝ, Arg3 m c i = r) :
    (dats m 0 c).arrAt 5 cfg0.N = Cert.InputReferenceIdeal.Read.val_main_v40 (F := Ideal) (Arg0 m c) (Arg1 m c) (Arg2 m c) (Arg3 m c) (Arg4 m c) := by
  refine (dats m 0 c).arrAt_eq_of_covers 5 _ (by decide +kernel) fun t hf y => ?_
  blk_simp
  rw [after0_5, dx_point]
  refine dx_entry m c hx hg hw hd t y _ ?_ ?_ <;> blk_simp [block_at t]

/-- The gain's gradient after the last point. -/
theorem dg_sum (c : Dev nD) (t : Fin cfg0.N) (ht : t.val = 31) (i : S1x1024.Idx) :
    (outsAt0 m c t.val t.isLt).2.1 i = Cert.InputReferenceIdeal.Read.val_main_v41 (F := Ideal) (Arg0 m c) (Arg2 m c) (Arg3 m c) i := by
  have hN : cfg0.N = 32 := N_0
  rw [Cert.InputReferenceIdeal.ref_dg]
  have s := Pipeline.eq_sum_fin_of_reset_step_apply_last (fun n h => (outsAt0 m c n h).2.1) 32 (fun _ => (0 : EReal)) (fun t y => dgOf (iblk m c 0 t) (iblk m c 1 t) (V m c main_v14) y)
    (fun t h y => by rw [zero_add]; exact dg_first m c t h y) (fun t h y => dg_next m c t h y) (le_of_eq hN) t (by omega) i
  rw [zero_add] at s
  refine s.trans ?_
  show (_ : EReal) = _
  unfold dgOf
  refine Fin.sum_mul_add_congr (S := cfg0.N) (n := 512) (L := 16384) (fun t k hl => ?_) (by rw [hN])
  rw [dh_entry m c t _ (ix2 ⟨t.val * 512 + k.val, hl⟩ (i 1)) rfl rfl, x_block m c t _ (ix2 ⟨t.val * 512 + k.val, hl⟩ (i 1)) rfl rfl]
  rfl

/-- The gain's gradient. -/
theorem final_dg (c : Dev nD) :
    (dats m 0 c).arrAt 6 cfg0.N = Cert.InputReferenceIdeal.Read.val_main_v41 (F := Ideal) (Arg0 m c) (Arg2 m c) (Arg3 m c) := by
  refine (dats m 0 c).arrAt_eq_of_covers 6 _ (by decide +kernel) fun t hf y => ?_
  have ht : t.val = 31 := by
    have h := (flush0_6 t).mp hf
    have := t.isLt
    have hN : cfg0.N = 32 := N_0
    omega
  blk_simp
  rw [after0_6, dg_sum m c t ht]
  congr 1
  blk_ext [block_at t]

/-- The weight's gradient. -/
theorem final_dw (c : Dev nD) (h : (Fin.last cfg0.N).val - 1 < cfg0.N) :
    (outsAt0 m c ((Fin.last cfg0.N).val - 1) h).2.2.2.2 = Cert.InputReferenceIdeal.Read.val_main_v42 (F := Ideal) (Arg0 m c) (Arg1 m c) (Arg3 m c) := by
  have hN : cfg0.N = 32 := N_0
  have h31 : (Fin.last cfg0.N).val - 1 = 31 := by rw [Fin.val_last, hN]
  generalize (Fin.last cfg0.N).val - 1 = n at h h31 ⊢
  obtain ⟨t, rfl⟩ : ∃ t : Fin cfg0.N, t.val = n := ⟨⟨_, h⟩, rfl⟩
  have e := out_eq_acc m c t (by omega) (by omega)
  funext i
  rw [Cert.InputReferenceIdeal.ref_dw]
  have s := Pipeline.eq_sum_fin_of_reset_step_apply_last (fun n h => (outsAt0 m c n h).2.2.2.1) 32 (fun _ => (0 : EReal)) (fun t y => dwOf (iblk m c 0 t) (iblk m c 1 t) (iblk m c 4 t) y)
    (fun t h y => by rw [zero_add]; exact dw_first m c t h y) (fun t h y => dw_next m c t h y) (le_of_eq hN) t (by omega) i
  rw [zero_add] at s
  have key : ∑ p : Fin cfg0.N, dwOf (iblk m c 0 p) (iblk m c 1 p) (iblk m c 4 p) i
      = ∑ k : Fin 16384, Arg0 m c (ix2 k (i 0)) * recip (Arg0 m c) k * Arg1 m c (ix1 (i 0)) * Arg3 m c (ix2 k (i 1)) := by
    unfold dwOf
    refine Fin.sum_mul_add_congr (S := cfg0.N) (n := 512) (L := 16384) (fun t k hl => ?_) (by rw [hN])
    rw [d_block m c t _ (ix2 ⟨t.val * 512 + k.val, hl⟩ (i 1)) rfl rfl, x_block m c t _ (ix2 ⟨t.val * 512 + k.val, hl⟩ (i 0)) rfl rfl, g_block m c t (i 0)]
    rfl
  rw [e]
  exact s.trans key

/-- The run: the three results are the reference's, where the arguments but the residual's gradient are real. -/
theorem run (ρ : Dev nD → PrngReg) (hx : ∀ c i, ∃ r : ℝ, Arg0 m c i = r) (hg : ∀ c i, ∃ r : ℝ, Arg1 m c i = r) (hw : ∀ c i, ∃ r : ℝ, Arg2 m c i = r)
    (hd : ∀ c i, ∃ r : ℝ, Arg3 m c i = r) :
    θ_run defs (onTc (τ := τ) (main (F := Ideal))) ⟨m, fun _ => 0, ρ⟩ fun r => ∀ c : Dev nD,
      r.2.mem ((c : Thread nD τ).loc main_v15_0) = Cert.InputReferenceIdeal.Read.val_main_v40 (F := Ideal) (Arg0 m c) (Arg1 m c) (Arg2 m c) (Arg3 m c) (Arg4 m c)
      ∧ r.2.mem ((c : Thread nD τ).loc main_v15_1) = Cert.InputReferenceIdeal.Read.val_main_v41 (F := Ideal) (Arg0 m c) (Arg2 m c) (Arg3 m c)
      ∧ r.2.mem ((c : Thread nD τ).loc main_v15_2) = Cert.InputReferenceIdeal.Read.val_main_v42 (F := Ideal) (Arg0 m c) (Arg1 m c) (Arg3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h0, h1, a0, a1, a2, a3, a4, h2⟩ := h c
    exact ⟨h0.trans (final_dx m c (hx c) (hg c) (hw c) (hd c)), h1.trans (final_dg m c), h2.trans (final_dw m c _), a0, a1, a2, a3, a4⟩) (run_blocks m ρ)

end Cert.InputKernelIdeal.Value
-- ==== Proof.InputPre.lean ====
module

public import proofs.«01_k».proof.Pre_inputs_finite
public import proofs.«01_k».proof.Defs
public import Idealize.ShloMosaic.Lib.ReduceAll
public import Idealize.ShloMosaic.Lib.Pipeline.ValueKit
public import proofs.«01_k».proof.Proof.Tiles

@[expose] public section

set_option maxRecDepth 16384

/-! # The precondition of the input call's value claim: every argument but the residual's gradient is a real number -/

noncomputable section

open Idealize.ShloMosaic

namespace Cert.Pre_inputs_finite

instance facts : Facts where
  bcast_S_S16384x1024 := by decide
  reducesTo_S16384x1024_S_d0_1 := by decide
  h_S_ := by decide
  bcast_S_S1024 := by decide
  reducesTo_S1024_S_d0 := by decide
  bcast_S_S1024x4096 := by decide
  reducesTo_S1024x4096_S_d0_1 := by decide
  bcast_S_S16384x4096 := by decide
  reducesTo_S16384x4096_S_d0_1 := by decide

open Facts

/-- A value whose absolute value is below another is a real number. -/
theorem real_of_abs_lt {v b : EReal} (h : Ideal.cmp .olt (max v (-v)) b = 1#1) : ∃ r : ℝ, v = r := by
  have h' : max v (-v) < b := by
    by_contra hn
    rw [Ideal.cmp, decide_eq_false hn] at h
    exact absurd h (by decide)
  have h1 : v < ⊤ := ((le_max_left _ _).trans_lt h').trans_le le_top
  have h2 : -v < ⊤ := ((le_max_right _ _).trans_lt h').trans_le le_top
  refine ⟨v.toReal, (EReal.coe_toReal h1.ne fun hb => ?_).symm⟩
  rw [hb, EReal.neg_bot] at h2
  exact lt_irrefl _ h2

instance : Subsingleton S_.Idx := ⟨fun a b => funext fun k => k.elim0⟩

/-- The predicate read back. -/
theorem reals {x : FVec Ideal S16384x1024 .f32} {g : FVec Ideal S1024 .f32} {w : FVec Ideal S1024x4096 .f32} {d : FVec Ideal S16384x4096 .f32}
    {e : FVec Ideal S16384x1024 .f32} (h : fn (F := Ideal) x g w d e = fun _ => 1#1) :
    (∀ i, ∃ r : ℝ, x i = r) ∧ (∀ i, ∃ r : ℝ, g i = r) ∧ (∀ i, ∃ r : ℝ, w i = r) ∧ (∀ i, ∃ r : ℝ, d i = r) := by
  have h0 := congrFun h (Shape.Idx.first h_S_)
  simp only [fn, fn_part1, andi, IntOp.andi_eq_one] at h0
  obtain ⟨⟨⟨hx, hg⟩, hw⟩, hd⟩ := h0
  exact ⟨fun i => real_of_abs_lt (Host.reduce_andi_all _ _ _ _ _ hx i), fun i => real_of_abs_lt (Host.reduce_andi_all _ _ _ _ _ hg i),
    fun i => real_of_abs_lt (Host.reduce_andi_all _ _ _ _ _ hw i), fun i => real_of_abs_lt (Host.reduce_andi_all _ _ _ _ _ hd i)⟩

end Cert.Pre_inputs_finite
-- ==== Proof.InputClaims.lean ====
module

public import proofs.«01_k».proof.Proof.InputFinal
public import proofs.«01_k».proof.Proof.InputPre
public import proofs.«01_k».proof.Proof.Gen.InputKernel.Frame
public import proofs.«01_k».proof.Proof.Gen.InputReferenceIdeal.Run
public import proofs.«01_k».proof.Defs

@[expose] public section

set_option maxRecDepth 16384

/-! # The feed-forward backward's input call: its claims

The kernel runs without a fault and leaves its arguments; so do its value form and the reference; and, where the arguments
but the residual's gradient are finite, the value form's three results, the gradients of the input, of the gain and of the first weight, are the
reference's. -/

noncomputable section

open Idealize.ShloMosaic Idealize.ShloMosaic.TcCoe Idealize.SL.Sem

namespace Cert.InputClaims

theorem frame_ideal : Cert.quiescent_InputKernelIdeal := fun m ρ _ => Cert.InputKernelIdeal.Gen.frame m ρ

theorem frame_ideal_finite : Cert.quiescent_InputKernelIdeal_pre_inputs_finite := fun m ρ _ => Cert.InputKernelIdeal.Gen.frame m ρ

theorem frame_kernel : Cert.quiescent_InputKernel := fun m ρ _ => Cert.InputKernel.Gen.frame m ρ

theorem frame_reference : Cert.quiescent_InputReferenceIdeal := fun m ρ _ =>
  (θ_run Cert.InputReferenceIdeal.defs _ _).mono (fun r h => ⟨fun c => (h c).2.2.2, sem_eq_zero_of_no_sems (by decide) r.2⟩)
    (Cert.InputReferenceIdeal.Value.run (F := Ideal) m ρ)

theorem frame_reference_finite : Cert.quiescent_InputReferenceIdeal_pre_inputs_finite := fun m ρ _ => frame_reference m ρ trivial

theorem values : Cert.algebraic_InputKernelIdeal_InputReferenceIdeal_pre_inputs_finite := by
  pair_intro
  · run_from Cert.InputKernelIdeal.Value.run m g (fun c => (Cert.Pre_inputs_finite.reals (hpre c)).1) (fun c => (Cert.Pre_inputs_finite.reals (hpre c)).2.1)
      (fun c => (Cert.Pre_inputs_finite.reals (hpre c)).2.2.1) (fun c => (Cert.Pre_inputs_finite.reals (hpre c)).2.2.2)
  · hlo_run
    all_goals rfl

end Cert.InputClaims
-- ==== Proof.Rows.lean ====
module

public import Idealize.ShloMosaic.Lib.Pipeline.ValueKit

@[expose] public section

/-! # One row of the feed-forward block

The block treats its rows one by one. `x` is a row of the input, `g` a gain, the weights are read entry by entry. -/

noncomputable section

open Idealize.ShloMosaic

namespace Cert.Rows

/-- The reciprocal of a row's root mean square. -/
def scale (x : Fin 1024 → EReal) : EReal :=
  Ideal.rsqrt (Ideal.div (∑ k : Fin 1024, x k * x k) (Ideal.ofBits FTy.f32 0x44800000#32) + Ideal.ofBits FTy.f32 0x358637BD#32)

/-- An entry of the hidden layer. -/
def hid (x g : Fin 1024 → EReal) (w : Fin 1024 → Fin 4096 → EReal) (j : Fin 4096) : EReal :=
  max (∑ k : Fin 1024, x k * scale x * g k * w k j) 0

/-- An entry of the row after the squared-relu block, its residual added. -/
def mixed (x g : Fin 1024 → EReal) (w : Fin 1024 → Fin 4096 → EReal) (v : Fin 4096 → Fin 1024 → EReal) (n : Fin 1024) : EReal :=
  x n + ∑ j : Fin 4096, hid x g w j * hid x g w j * v j n

/-- An entry of the gate over a row `y`. -/
def gate (y g : Fin 1024 → EReal) (w : Fin 1024 → Fin 1024 → EReal) (n : Fin 1024) : EReal :=
  Ideal.logistic (∑ k : Fin 1024, y k * scale y * g k * w k n)

/-- An entry of the projected embedding of a position. -/
def embed (p : Fin 256 → EReal) (w : Fin 256 → Fin 1024 → EReal) (n : Fin 1024) : EReal := ∑ k : Fin 256, p k * w k n

end Cert.Rows
-- ==== Proof.ForwardTiles.lean ====
module

public import proofs.«01_k».proof.Proof.Gen.ForwardKernelIdeal.Skeleton
public import proofs.«01_k».proof.Proof.Tiles
public import proofs.«01_k».proof.Proof.Rows

@[expose] public section

set_option maxRecDepth 16384

/-! # The feed-forward block's forward call: what one grid point stores

Every stored block read at one entry, as the row's function of `Rows`. -/

noncomputable section

open Idealize.ShloMosaic Idealize.ShloMosaic.TcCoe Idealize.SL.Sem

namespace Cert.ForwardKernelIdeal.Value

open Cert.ForwardKernelIdeal Cert.ForwardKernelIdeal.Gen Cert.Tiles Cert.Rows

variable (X : FVec Ideal S512x1024 .f32) (P : FVec Ideal S1x512x256 .f32) (G H : FVec Ideal S1x1024 .f32) (W : FVec Ideal S1024x4096 .bf16)
  (V : FVec Ideal S4096x1024 .bf16) (U : FVec Ideal S1024x1024 .bf16) (Z : FVec Ideal S256x1024 .bf16)

/-- A row of a block, and the entries of the gains and weights. -/
abbrev brow (r : Fin 512) (k : Fin 1024) : EReal := X (ix2 r k)
@[inherit_doc brow] abbrev bvec (k : Fin 1024) : EReal := G (ix2 0 k)
@[inherit_doc brow] abbrev mat1 (k : Fin 1024) (j : Fin 4096) : EReal := W (ix2 k j)
@[inherit_doc brow] abbrev mat2 (j : Fin 4096) (n : Fin 1024) : EReal := V (ix2 j n)
@[inherit_doc brow] abbrev mat3 (k n : Fin 1024) : EReal := U (ix2 k n)
@[inherit_doc brow] abbrev mat4 (k : Fin 256) (n : Fin 1024) : EReal := Z (ix2 k n)
@[inherit_doc brow] abbrev prow (r : Fin 512) (k : Fin 256) : EReal := P (ix3 0 r k)

theorem scale_at (y : S512x1.Idx) : k0_pay4 (F := Ideal) X y = scale (brow X (y 0)) := by
  unfold scale
  pointwise [k0_pay4]

/-- The first normalised row and its scale. -/
theorem norm1_at (y : S512x1024.Idx) : k0_pay6 (F := Ideal) X y = brow X (y 0) (y 1) * scale (brow X (y 0)) := by
  obtain ⟨a, b, rfl⟩ : ∃ a b, y = ix2 a b := ⟨y 0, y 1, idx2_of (y 1).isLt rfl rfl⟩
  pointwise [k0_pay6, k0_pay5]
  rw [scale_at]
  rfl
@[inherit_doc norm1_at] theorem scale1_at (y : S512x128.Idx) : k0_pay7 (F := Ideal) X y = scale (brow X (y 0)) := by
  pointwise [k0_pay7]
  rw [scale_at]
  rfl

theorem normed_at (y : S512x1024.Idx) : k0_pay8 (F := Ideal) X G y = brow X (y 0) (y 1) * scale (brow X (y 0)) * bvec G (y 1) := by
  obtain ⟨a, b, rfl⟩ : ∃ a b, y = ix2 a b := ⟨y 0, y 1, idx2_of (y 1).isLt rfl rfl⟩
  pointwise [k0_pay8, k0_pay5]
  rw [scale_at]
  rfl

/-- The hidden layer, column block by column block. -/
theorem hid0_at (y : S512x1024.Idx) :
    k0_pay9 (F := Ideal) X G (View.ld (Val := Elt Ideal) (e' := .bf16) W (Rect.unit (s := S1024x4096) ![0, 0] ![1024, 1024] inb_S1024x4096_S1024x1024_0_0)) y
      = hid (brow X (y 0)) (bvec G) (mat1 W) ⟨(y 1).val, by have := (y 1).isLt; change _ < 1024 at this; omega⟩ := by
  unfold hid
  pointwise [k0_pay9]
  simp only [normed_at]
  rfl

@[inherit_doc hid0_at] theorem hid1_at (y : S512x1024.Idx) :
    k0_pay12 (F := Ideal) (k0_pay8 X G) (View.ld (Val := Elt Ideal) (e' := .bf16) W (Rect.unit (s := S1024x4096) ![0, 1024] ![1024, 1024] inb_S1024x4096_S1024x1024_0_1024)) y
      = hid (brow X (y 0)) (bvec G) (mat1 W) ⟨1024 + (y 1).val, by have := (y 1).isLt; change _ < 1024 at this; omega⟩ := by
  unfold hid
  pointwise [k0_pay12]
  simp only [normed_at]
  rfl

@[inherit_doc hid0_at] theorem hid2_at (y : S512x1024.Idx) :
    k0_pay14 (F := Ideal) (k0_pay8 X G) (View.ld (Val := Elt Ideal) (e' := .bf16) W (Rect.unit (s := S1024x4096) ![0, 2048] ![1024, 1024] inb_S1024x4096_S1024x1024_0_2048)) y
      = hid (brow X (y 0)) (bvec G) (mat1 W) ⟨2048 + (y 1).val, by have := (y 1).isLt; change _ < 1024 at this; omega⟩ := by
  unfold hid
  pointwise [k0_pay14]
  simp only [normed_at]
  rfl

@[inherit_doc hid0_at] theorem hid3_at (y : S512x1024.Idx) :
    k0_pay17 (F := Ideal) (k0_pay8 X G) (View.ld (Val := Elt Ideal) (e' := .bf16) W (Rect.unit (s := S1024x4096) ![0, 3072] ![1024, 1024] inb_S1024x4096_S1024x1024_0_3072)) y
      = hid (brow X (y 0)) (bvec G) (mat1 W) ⟨3072 + (y 1).val, by have := (y 1).isLt; change _ < 1024 at this; omega⟩ := by
  unfold hid
  pointwise [k0_pay17]
  simp only [normed_at]
  rfl

/-- The running sum of the block before its last column block, and that block of the hidden layer. -/
def sum3 : FVec Ideal S512x1024 .f32 :=
  k0_pay16 (F := Ideal) X (k0_pay8 X G) (k0_pay11 X G (View.ld (Val := Elt Ideal) (e' := .bf16) W (Rect.unit (s := S1024x4096) ![0, 0] ![1024, 1024] inb_S1024x4096_S1024x1024_0_0)))
    (View.ld (Val := Elt Ideal) (e' := .bf16) V (Rect.unit (s := S4096x1024) ![0, 0] ![1024, 1024] inb_S4096x1024_S1024x1024_0_0))
    (View.ld (Val := Elt Ideal) (e' := .bf16) W (Rect.unit (s := S1024x4096) ![0, 1024] ![1024, 1024] inb_S1024x4096_S1024x1024_0_1024))
    (View.ld (Val := Elt Ideal) (e' := .bf16) V (Rect.unit (s := S4096x1024) ![1024, 0] ![1024, 1024] inb_S4096x1024_S1024x1024_1024_0))
    (View.ld (Val := Elt Ideal) (e' := .bf16) W (Rect.unit (s := S1024x4096) ![0, 2048] ![1024, 1024] inb_S1024x4096_S1024x1024_0_2048))
    (View.ld (Val := Elt Ideal) (e' := .bf16) V (Rect.unit (s := S4096x1024) ![2048, 0] ![1024, 1024] inb_S4096x1024_S1024x1024_2048_0))
@[inherit_doc sum3] def hid3 : FVec Ideal S512x1024 .f32 := k0_pay17 (F := Ideal) (k0_pay8 X G) (View.ld (Val := Elt Ideal) (e' := .bf16) W (Rect.unit (s := S1024x4096) ![0, 3072] ![1024, 1024] inb_S1024x4096_S1024x1024_0_3072))

/-- The row after the squared-relu block, -/
theorem mixed_at (y : S512x1024.Idx) :
    k0_pay19 (F := Ideal) (sum3 X G W V) (hid3 X G W) (View.ld (Val := Elt Ideal) (e' := .bf16) V (Rect.unit (s := S4096x1024) ![3072, 0] ![1024, 1024] inb_S4096x1024_S1024x1024_3072_0)) y
      = mixed (brow X (y 0)) (bvec G) (mat1 W) (mat2 V) (y 1) := by
  obtain ⟨a, b, rfl⟩ : ∃ a b, y = ix2 a b := ⟨y 0, y 1, idx2_of (y 1).isLt rfl rfl⟩
  unfold mixed sum3 hid3
  rw [sum_quarters]
  pointwise [k0_pay19, k0_pay16, k0_pay11]
  simp only [hid0_at, hid1_at, hid2_at, hid3_at]
  simp only [← add_assoc]
  rfl

/-- its scale, -/
theorem scale2_col_at (y : S512x1.Idx) :
    k0_pay20 (F := Ideal) (sum3 X G W V) (hid3 X G W)
        (View.ld (Val := Elt Ideal) (e' := .bf16) V (Rect.unit (s := S4096x1024) ![3072, 0] ![1024, 1024] inb_S4096x1024_S1024x1024_3072_0)) y
      = scale (mixed (brow X (y 0)) (bvec G) (mat1 W) (mat2 V)) := by
  unfold scale
  pointwise [k0_pay20]
  simp only [mixed_at]
  rfl
@[inherit_doc scale2_col_at] theorem scale2_at (y : S512x128.Idx) :
    k0_pay23 (F := Ideal) (sum3 X G W V) (hid3 X G W)
        (View.ld (Val := Elt Ideal) (e' := .bf16) V (Rect.unit (s := S4096x1024) ![3072, 0] ![1024, 1024] inb_S4096x1024_S1024x1024_3072_0)) y
      = scale (mixed (brow X (y 0)) (bvec G) (mat1 W) (mat2 V)) := by
  pointwise [k0_pay23]
  simp only [scale2_col_at]
  rfl

/-- the second normalised row, -/
theorem norm2_at (y : S512x1024.Idx) :
    k0_pay22 (F := Ideal) (sum3 X G W V) (hid3 X G W)
        (View.ld (Val := Elt Ideal) (e' := .bf16) V (Rect.unit (s := S4096x1024) ![3072, 0] ![1024, 1024] inb_S4096x1024_S1024x1024_3072_0)) y
      = mixed (brow X (y 0)) (bvec G) (mat1 W) (mat2 V) (y 1) * scale (mixed (brow X (y 0)) (bvec G) (mat1 W) (mat2 V)) := by
  pointwise [k0_pay22, k0_pay21]
  simp only [mixed_at, scale2_col_at]
  rfl

/-- the gate, -/
theorem gate_at (y : S512x1024.Idx) :
    k0_pay24 (F := Ideal) (sum3 X G W V) (hid3 X G W)
        (View.ld (Val := Elt Ideal) (e' := .bf16) V (Rect.unit (s := S4096x1024) ![3072, 0] ![1024, 1024] inb_S4096x1024_S1024x1024_3072_0)) H U y
      = gate (mixed (brow X (y 0)) (bvec G) (mat1 W) (mat2 V)) (bvec H) (mat3 U) (y 1) := by
  unfold gate
  pointwise [k0_pay24, k0_pay21]
  simp only [mixed_at, scale2_col_at]
  rfl
@[inherit_doc gate_at] theorem gate_stored_at (y : S512x1024.Idx) :
    k0_pay25 (F := Ideal) (sum3 X G W V) (hid3 X G W)
        (View.ld (Val := Elt Ideal) (e' := .bf16) V (Rect.unit (s := S4096x1024) ![3072, 0] ![1024, 1024] inb_S4096x1024_S1024x1024_3072_0)) H U y
      = gate (mixed (brow X (y 0)) (bvec G) (mat1 W) (mat2 V)) (bvec H) (mat3 U) (y 1) := by
  pointwise [k0_pay25]
  simp only [gate_at]

/-- the projected embedding, -/
theorem embed_at (y : S512x1024.Idx) : k0_pay1 (F := Ideal) (k0_pay26 P) Z y = embed (prow P (y 0)) (mat4 Z) (y 1) := by
  unfold embed
  pointwise [k0_pay1, k0_pay26]

/-- the output's derivative by the gate's pre-activation, -/
theorem q_at (y : S512x1024.Idx) :
    k0_pay2 (F := Ideal) (k0_pay24 (sum3 X G W V) (hid3 X G W)
        (View.ld (Val := Elt Ideal) (e' := .bf16) V (Rect.unit (s := S4096x1024) ![3072, 0] ![1024, 1024] inb_S4096x1024_S1024x1024_3072_0)) H U) (k0_pay26 P) Z y
      = embed (prow P (y 0)) (mat4 Z) (y 1) * (gate (mixed (brow X (y 0)) (bvec G) (mat1 W) (mat2 V)) (bvec H) (mat3 U) (y 1) * (1 - gate (mixed (brow X (y 0)) (bvec G) (mat1 W) (mat2 V)) (bvec H) (mat3 U) (y 1))) := by
  pointwise [k0_pay2]
  simp only [gate_at, embed_at]
  exact mul_assoc _ _ _

/-- the block's output, -/
theorem out_at (y : S512x1024.Idx) :
    k0_pay3 (F := Ideal) (k0_pay19 (sum3 X G W V) (hid3 X G W)
        (View.ld (Val := Elt Ideal) (e' := .bf16) V (Rect.unit (s := S4096x1024) ![3072, 0] ![1024, 1024] inb_S4096x1024_S1024x1024_3072_0))) (k0_pay24 (sum3 X G W V) (hid3 X G W)
        (View.ld (Val := Elt Ideal) (e' := .bf16) V (Rect.unit (s := S4096x1024) ![3072, 0] ![1024, 1024] inb_S4096x1024_S1024x1024_3072_0)) H U) (k0_pay26 P) Z y
      = mixed (brow X (y 0)) (bvec G) (mat1 W) (mat2 V) (y 1) + embed (prow P (y 0)) (mat4 Z) (y 1) * gate (mixed (brow X (y 0)) (bvec G) (mat1 W) (mat2 V)) (bvec H) (mat3 U) (y 1) := by
  pointwise [k0_pay3]
  simp only [gate_at, embed_at, mixed_at]

/-- and the hidden layer's four stored column blocks. -/
theorem hid_tiles (y : S512x4096.Idx) :
    View.canon (Val := Elt Ideal) (s := S512x4096) (e := .bf16)
      [⟨Rect.unit (s := S512x4096) ![0, 3072] ![512, 1024] inb_S512x4096_S512x1024_0_3072, k0_pay18 (F := Ideal) (k0_pay8 X G) (View.ld (Val := Elt Ideal) (e' := .bf16) W (Rect.unit (s := S1024x4096) ![0, 3072] ![1024, 1024] inb_S1024x4096_S1024x1024_0_3072))⟩,
        ⟨Rect.unit (s := S512x4096) ![0, 2048] ![512, 1024] inb_S512x4096_S512x1024_0_2048, k0_pay15 (F := Ideal) (k0_pay8 X G) (View.ld (Val := Elt Ideal) (e' := .bf16) W (Rect.unit (s := S1024x4096) ![0, 2048] ![1024, 1024] inb_S1024x4096_S1024x1024_0_2048))⟩,
        ⟨Rect.unit (s := S512x4096) ![0, 1024] ![512, 1024] inb_S512x4096_S512x1024_0_1024, k0_pay13 (F := Ideal) (k0_pay8 X G) (View.ld (Val := Elt Ideal) (e' := .bf16) W (Rect.unit (s := S1024x4096) ![0, 1024] ![1024, 1024] inb_S1024x4096_S1024x1024_0_1024))⟩,
        ⟨Rect.unit (s := S512x4096) ![0, 0] ![512, 1024] inb_S512x4096_S512x1024_0_0, k0_pay10 (F := Ideal) X G (View.ld (Val := Elt Ideal) (e' := .bf16) W (Rect.unit (s := S1024x4096) ![0, 0] ![1024, 1024] inb_S1024x4096_S1024x1024_0_0))⟩] y
      = hid (brow X (y 0)) (bvec G) (mat1 W) (y 1) := by
  canon_tiles x h
  all_goals pointwise [k0_pay18, k0_pay15, k0_pay13, k0_pay10]
  all_goals simp only [hid0_at, hid1_at, hid2_at, hid3_at]
  all_goals
    obtain rfl : y = ix2 _ _ := (idx2_of (by clear h0 h1; omega) h0 h1)
    rfl

end Cert.ForwardKernelIdeal.Value
-- ==== Proof.ForwardValue.lean ====
module

public import proofs.«01_k».proof.Proof.ForwardTiles
public import proofs.«01_k».proof.Proof.Gen.ForwardKernelIdeal.Frame

@[expose] public section

set_option maxRecDepth 16384

/-! # The feed-forward block's forward call: what the grid points hold

The four weights are copied in once and stay; every point stores its rows of the eight results. -/

noncomputable section

open Idealize.ShloMosaic Idealize.ShloMosaic.TcCoe Idealize.SL.Sem
open Idealize.ShloMosaic.Pipeline (Dat)

namespace Cert.ForwardKernelIdeal.Value

open Cert.ForwardKernelIdeal Cert.ForwardKernelIdeal.Gen Cert.Tiles Cert.Rows

variable (m : (ℓ : Loc nD τ sig) → Buf (Elt Ideal) ℓ)

/-- A load of a whole copied array gives the array. -/
theorem load_whole3 (w : FVec Ideal S1024x1024 .bf16) :
    View.ld (Val := Elt Ideal) (e' := .bf16) w (Rect.unit (s := S1024x1024) ![0, 0] ![1024, 1024] inb_S1024x1024_S1024x1024_0_0) = w := by
  simp (disch := decide) only [View.ld_unit_lit]
@[inherit_doc load_whole3] theorem load_whole4 (w : FVec Ideal S256x1024 .bf16) :
    View.ld (Val := Elt Ideal) (e' := .bf16) w (Rect.unit (s := S256x1024) ![0, 0] ![256, 1024] inb_S256x1024_S256x1024_0_0) = w := by
  simp (disch := decide) only [View.ld_unit_lit]

/-- Every point holds weight 1: the first point copies it in, a later point leaves it. -/
theorem first1 (c : Dev nD) (t : Fin cfg0.N) (h0 : t.val % 32 = 0) :
    (outsAt0 m c t.val t.isLt).2.2.2.2.2.2.2.2.1 = V m c main_v2 := by
  rw [outsAt0_A m c t h0]
  funext y
  frame_out
  rw [canon_whole]
  rfl
@[inherit_doc first1] theorem next1 (c : Dev nD) (t : Fin cfg0.N) (h0 : ¬t.val % 32 = 0) :
    (outsAt0 m c t.val t.isLt).2.2.2.2.2.2.2.2.1 = (outsAt0 m c (t.val - 1) (Nat.lt_of_le_of_lt (Nat.sub_le _ _) t.isLt)).2.2.2.2.2.2.2.2.1 := by
  rw [outsAt0_B m c t h0]
  dsimp only
  unfold sout0_B_0
  rfl
@[inherit_doc first1] theorem held1 (c : Dev nD) (n : ℕ) (hn : n < cfg0.N) : (outsAt0 m c n hn).2.2.2.2.2.2.2.2.1 = V m c main_v2 := by
  induction n with
  | zero => exact first1 m c ⟨0, hn⟩ rfl
  | succ n ih =>
    have hN : cfg0.N = 32 := N_0
    exact (next1 m c ⟨n + 1, hn⟩ (by show ¬ (n + 1) % 32 = 0; omega)).trans (ih (Nat.lt_of_succ_lt hn))

/-- Every point holds weight 2: the first point copies it in, a later point leaves it. -/
theorem first2 (c : Dev nD) (t : Fin cfg0.N) (h0 : t.val % 32 = 0) :
    (outsAt0 m c t.val t.isLt).2.2.2.2.2.2.2.2.2.1 = V m c main_v3 := by
  rw [outsAt0_A m c t h0]
  funext y
  frame_out
  rw [canon_whole]
  rfl
@[inherit_doc first2] theorem next2 (c : Dev nD) (t : Fin cfg0.N) (h0 : ¬t.val % 32 = 0) :
    (outsAt0 m c t.val t.isLt).2.2.2.2.2.2.2.2.2.1 = (outsAt0 m c (t.val - 1) (Nat.lt_of_le_of_lt (Nat.sub_le _ _) t.isLt)).2.2.2.2.2.2.2.2.2.1 := by
  rw [outsAt0_B m c t h0]
  dsimp only
  unfold sout0_B_1
  rfl
@[inherit_doc first2] theorem held2 (c : Dev nD) (n : ℕ) (hn : n < cfg0.N) : (outsAt0 m c n hn).2.2.2.2.2.2.2.2.2.1 = V m c main_v3 := by
  induction n with
  | zero => exact first2 m c ⟨0, hn⟩ rfl
  | succ n ih =>
    have hN : cfg0.N = 32 := N_0
    exact (next2 m c ⟨n + 1, hn⟩ (by show ¬ (n + 1) % 32 = 0; omega)).trans (ih (Nat.lt_of_succ_lt hn))

/-- Every point holds weight 3: the first point copies it in, a later point leaves it. -/
theorem first3 (c : Dev nD) (t : Fin cfg0.N) (h0 : t.val % 32 = 0) :
    (outsAt0 m c t.val t.isLt).2.2.2.2.2.2.2.2.2.2.1 = V m c main_v4 := by
  rw [outsAt0_A m c t h0]
  funext y
  frame_out
  rw [canon_whole]
  rfl
@[inherit_doc first3] theorem next3 (c : Dev nD) (t : Fin cfg0.N) (h0 : ¬t.val % 32 = 0) :
    (outsAt0 m c t.val t.isLt).2.2.2.2.2.2.2.2.2.2.1 = (outsAt0 m c (t.val - 1) (Nat.lt_of_le_of_lt (Nat.sub_le _ _) t.isLt)).2.2.2.2.2.2.2.2.2.2.1 := by
  rw [outsAt0_B m c t h0]
  dsimp only
  unfold sout0_B_2
  rfl
@[inherit_doc first3] theorem held3 (c : Dev nD) (n : ℕ) (hn : n < cfg0.N) : (outsAt0 m c n hn).2.2.2.2.2.2.2.2.2.2.1 = V m c main_v4 := by
  induction n with
  | zero => exact first3 m c ⟨0, hn⟩ rfl
  | succ n ih =>
    have hN : cfg0.N = 32 := N_0
    exact (next3 m c ⟨n + 1, hn⟩ (by show ¬ (n + 1) % 32 = 0; omega)).trans (ih (Nat.lt_of_succ_lt hn))

/-- Every point holds weight 4: the first point copies it in, a later point leaves it. -/
theorem first4 (c : Dev nD) (t : Fin cfg0.N) (h0 : t.val % 32 = 0) :
    (outsAt0 m c t.val t.isLt).2.2.2.2.2.2.2.2.2.2.2 = V m c main_v5 := by
  rw [outsAt0_A m c t h0]
  funext y
  frame_out
  rw [canon_whole]
  rfl
@[inherit_doc first4] theorem next4 (c : Dev nD) (t : Fin cfg0.N) (h0 : ¬t.val % 32 = 0) :
    (outsAt0 m c t.val t.isLt).2.2.2.2.2.2.2.2.2.2.2 = (outsAt0 m c (t.val - 1) (Nat.lt_of_le_of_lt (Nat.sub_le _ _) t.isLt)).2.2.2.2.2.2.2.2.2.2.2 := by
  rw [outsAt0_B m c t h0]
  dsimp only
  unfold sout0_B_3
  rfl
@[inherit_doc first4] theorem held4 (c : Dev nD) (n : ℕ) (hn : n < cfg0.N) : (outsAt0 m c n hn).2.2.2.2.2.2.2.2.2.2.2 = V m c main_v5 := by
  induction n with
  | zero => exact first4 m c ⟨0, hn⟩ rfl
  | succ n ih =>
    have hN : cfg0.N = 32 := N_0
    exact (next4 m c ⟨n + 1, hn⟩ (by show ¬ (n + 1) % 32 = 0; omega)).trans (ih (Nat.lt_of_succ_lt hn))

/-- The block's output, -/
theorem out_point (c : Dev nD) (t : Fin cfg0.N) (y : S512x1024.Idx) :
    (outsAt0 m c t.val t.isLt).1 y
      = mixed (brow (iblk m c 0 t) (y 0)) (bvec (iblk m c 2 t)) (mat1 (V m c main_v2)) (mat2 (V m c main_v3)) (y 1) + embed (prow (iblk m c 1 t) (y 0)) (mat4 (V m c main_v5)) (y 1) * gate (mixed (brow (iblk m c 0 t) (y 0)) (bvec (iblk m c 2 t)) (mat1 (V m c main_v2)) (mat2 (V m c main_v3))) (bvec (iblk m c 3 t)) (mat3 (V m c main_v4)) (y 1) := by
  by_cases h0 : t.val % 32 = 0
  · refine (congrFun (congrArg (fun o => o.1) (outsAt0_A m c t h0)) y).trans ?_
    frame_out
    simp only [load_copied, load_whole3, load_whole4]
    exact out_at (iblk m c 0 t) (iblk m c 1 t) (iblk m c 2 t) (iblk m c 3 t) (V m c main_v2) (V m c main_v3) (V m c main_v4) (V m c main_v5) y
  · refine (congrFun (congrArg (fun o => o.1) (outsAt0_B m c t h0)) y).trans ?_
    frame_out
    simp only [read_unread_whole, held1, held2, held3, held4]
    exact out_at (iblk m c 0 t) (iblk m c 1 t) (iblk m c 2 t) (iblk m c 3 t) (V m c main_v2) (V m c main_v3) (V m c main_v4) (V m c main_v5) y

/-- the hidden layer, -/
theorem hid_point (c : Dev nD) (t : Fin cfg0.N) (y : S512x4096.Idx) :
    (outsAt0 m c t.val t.isLt).2.1 y
      = hid (brow (iblk m c 0 t) (y 0)) (bvec (iblk m c 2 t)) (mat1 (V m c main_v2)) (y 1) := by
  by_cases h0 : t.val % 32 = 0
  · refine (congrFun (congrArg (fun o => o.2.1) (outsAt0_A m c t h0)) y).trans ?_
    frame_out
    simp only [load_copied, load_whole3, load_whole4]
    exact hid_tiles (iblk m c 0 t) (iblk m c 2 t) (V m c main_v2) y
  · refine (congrFun (congrArg (fun o => o.2.1) (outsAt0_B m c t h0)) y).trans ?_
    frame_out
    simp only [read_unread_whole, held1, held2, held3, held4]
    exact hid_tiles (iblk m c 0 t) (iblk m c 2 t) (V m c main_v2) y

/-- the gate, -/
theorem gate_point (c : Dev nD) (t : Fin cfg0.N) (y : S512x1024.Idx) :
    (outsAt0 m c t.val t.isLt).2.2.1 y
      = gate (mixed (brow (iblk m c 0 t) (y 0)) (bvec (iblk m c 2 t)) (mat1 (V m c main_v2)) (mat2 (V m c main_v3))) (bvec (iblk m c 3 t)) (mat3 (V m c main_v4)) (y 1) := by
  by_cases h0 : t.val % 32 = 0
  · refine (congrFun (congrArg (fun o => o.2.2.1) (outsAt0_A m c t h0)) y).trans ?_
    frame_out
    simp only [load_copied, load_whole3, load_whole4]
    exact gate_stored_at (iblk m c 0 t) (iblk m c 2 t) (iblk m c 3 t) (V m c main_v2) (V m c main_v3) (V m c main_v4) y
  · refine (congrFun (congrArg (fun o => o.2.2.1) (outsAt0_B m c t h0)) y).trans ?_
    frame_out
    simp only [read_unread_whole, held1, held2, held3, held4]
    exact gate_stored_at (iblk m c 0 t) (iblk m c 2 t) (iblk m c 3 t) (V m c main_v2) (V m c main_v3) (V m c main_v4) y

/-- the derivative by the gate's pre-activation, -/
theorem q_point (c : Dev nD) (t : Fin cfg0.N) (y : S512x1024.Idx) :
    (outsAt0 m c t.val t.isLt).2.2.2.1 y
      = embed (prow (iblk m c 1 t) (y 0)) (mat4 (V m c main_v5)) (y 1) * (gate (mixed (brow (iblk m c 0 t) (y 0)) (bvec (iblk m c 2 t)) (mat1 (V m c main_v2)) (mat2 (V m c main_v3))) (bvec (iblk m c 3 t)) (mat3 (V m c main_v4)) (y 1) * (1 - gate (mixed (brow (iblk m c 0 t) (y 0)) (bvec (iblk m c 2 t)) (mat1 (V m c main_v2)) (mat2 (V m c main_v3))) (bvec (iblk m c 3 t)) (mat3 (V m c main_v4)) (y 1))) := by
  by_cases h0 : t.val % 32 = 0
  · refine (congrFun (congrArg (fun o => o.2.2.2.1) (outsAt0_A m c t h0)) y).trans ?_
    frame_out
    simp only [load_copied, load_whole3, load_whole4]
    exact q_at (iblk m c 0 t) (iblk m c 1 t) (iblk m c 2 t) (iblk m c 3 t) (V m c main_v2) (V m c main_v3) (V m c main_v4) (V m c main_v5) y
  · refine (congrFun (congrArg (fun o => o.2.2.2.1) (outsAt0_B m c t h0)) y).trans ?_
    frame_out
    simp only [read_unread_whole, held1, held2, held3, held4]
    exact q_at (iblk m c 0 t) (iblk m c 1 t) (iblk m c 2 t) (iblk m c 3 t) (V m c main_v2) (V m c main_v3) (V m c main_v4) (V m c main_v5) y

/-- the first normalised row -/
theorem norm1_point (c : Dev nD) (t : Fin cfg0.N) (y : S512x1024.Idx) :
    (outsAt0 m c t.val t.isLt).2.2.2.2.1 y
      = brow (iblk m c 0 t) (y 0) (y 1) * scale (brow (iblk m c 0 t) (y 0)) := by
  by_cases h0 : t.val % 32 = 0
  · refine (congrFun (congrArg (fun o => o.2.2.2.2.1) (outsAt0_A m c t h0)) y).trans ?_
    frame_out
    exact norm1_at (iblk m c 0 t) y
  · refine (congrFun (congrArg (fun o => o.2.2.2.2.1) (outsAt0_B m c t h0)) y).trans ?_
    frame_out
    exact norm1_at (iblk m c 0 t) y

/-- and its scale, -/
theorem scale1_point (c : Dev nD) (t : Fin cfg0.N) (y : S512x128.Idx) :
    (outsAt0 m c t.val t.isLt).2.2.2.2.2.1 y
      = scale (brow (iblk m c 0 t) (y 0)) := by
  by_cases h0 : t.val % 32 = 0
  · refine (congrFun (congrArg (fun o => o.2.2.2.2.2.1) (outsAt0_A m c t h0)) y).trans ?_
    frame_out
    exact scale1_at (iblk m c 0 t) y
  · refine (congrFun (congrArg (fun o => o.2.2.2.2.2.1) (outsAt0_B m c t h0)) y).trans ?_
    frame_out
    exact scale1_at (iblk m c 0 t) y

/-- the second normalised row -/
theorem norm2_point (c : Dev nD) (t : Fin cfg0.N) (y : S512x1024.Idx) :
    (outsAt0 m c t.val t.isLt).2.2.2.2.2.2.1 y
      = mixed (brow (iblk m c 0 t) (y 0)) (bvec (iblk m c 2 t)) (mat1 (V m c main_v2)) (mat2 (V m c main_v3)) (y 1) * scale (mixed (brow (iblk m c 0 t) (y 0)) (bvec (iblk m c 2 t)) (mat1 (V m c main_v2)) (mat2 (V m c main_v3))) := by
  by_cases h0 : t.val % 32 = 0
  · refine (congrFun (congrArg (fun o => o.2.2.2.2.2.2.1) (outsAt0_A m c t h0)) y).trans ?_
    frame_out
    simp only [load_copied, load_whole3, load_whole4]
    exact norm2_at (iblk m c 0 t) (iblk m c 2 t) (V m c main_v2) (V m c main_v3) y
  · refine (congrFun (congrArg (fun o => o.2.2.2.2.2.2.1) (outsAt0_B m c t h0)) y).trans ?_
    frame_out
    simp only [read_unread_whole, held1, held2, held3, held4]
    exact norm2_at (iblk m c 0 t) (iblk m c 2 t) (V m c main_v2) (V m c main_v3) y

/-- and its scale. -/
theorem scale2_point (c : Dev nD) (t : Fin cfg0.N) (y : S512x128.Idx) :
    (outsAt0 m c t.val t.isLt).2.2.2.2.2.2.2.1 y
      = scale (mixed (brow (iblk m c 0 t) (y 0)) (bvec (iblk m c 2 t)) (mat1 (V m c main_v2)) (mat2 (V m c main_v3))) := by
  by_cases h0 : t.val % 32 = 0
  · refine (congrFun (congrArg (fun o => o.2.2.2.2.2.2.2.1) (outsAt0_A m c t h0)) y).trans ?_
    frame_out
    simp only [load_copied, load_whole3, load_whole4]
    exact scale2_at (iblk m c 0 t) (iblk m c 2 t) (V m c main_v2) (V m c main_v3) y
  · refine (congrFun (congrArg (fun o => o.2.2.2.2.2.2.2.1) (outsAt0_B m c t h0)) y).trans ?_
    frame_out
    simp only [read_unread_whole, held1, held2, held3, held4]
    exact scale2_at (iblk m c 0 t) (iblk m c 2 t) (V m c main_v2) (V m c main_v3) y

end Cert.ForwardKernelIdeal.Value
-- ==== Proof.ForwardRef.lean ====
module

public import proofs.«01_k».proof.Proof.Rows
public import proofs.«01_k».proof.Proof.Tiles
public import proofs.«01_k».proof.Proof.Gen.ForwardReferenceIdeal.Read

@[expose] public section

set_option maxRecDepth 16384

/-! # The feed-forward block's forward call: the reference at an entry -/

noncomputable section

open Idealize.ShloMosaic Idealize.ShloMosaic.TcCoe Idealize.SL.Sem
open Idealize.ShloMosaic.Pipeline (Dat)

namespace Cert.ForwardReferenceIdeal

open Cert.ForwardReferenceIdeal.Read Cert.Rows Cert.Tiles

/-- The rows of the input and the entries of the weights. -/
abbrev row (x : FVec Ideal S16384x1024 .f32) (r : Fin 16384) (k : Fin 1024) : EReal := x (ix2 r k)
@[inherit_doc row] abbrev vec (g : FVec Ideal S1024 .f32) (k : Fin 1024) : EReal := g (ix1 k)

theorem ref_hidden (x : FVec Ideal S16384x1024 .f32) (g : FVec Ideal S1024 .f32) (w : FVec Ideal S1024x4096 .f32) :
    val_main_v14 (F := Ideal) x g w = fun i => hid (row x (i 0)) (vec g) (fun k j => w (ix2 k j)) (i 1) := by
  funext i
  unfold hid scale
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_cst, val_main_call0_v0, val_main_v14]

theorem ref_mixed (x : FVec Ideal S16384x1024 .f32) (g : FVec Ideal S1024 .f32) (w : FVec Ideal S1024x4096 .f32) (v : FVec Ideal S4096x1024 .f32) :
    val_main_v17 (F := Ideal) x g w v = fun i => mixed (row x (i 0)) (vec g) (fun k j => w (ix2 k j)) (fun j n => v (ix2 j n)) (i 1) := by
  funext i
  unfold mixed
  pointwise [val_main_v15, val_main_v16, val_main_v17]
  rw [ref_hidden]
  obtain ⟨a, b, rfl⟩ : ∃ a b, i = ix2 a b := ⟨i 0, i 1, idx2_of (i 1).isLt rfl rfl⟩
  rfl

theorem ref_gate (x : FVec Ideal S16384x1024 .f32) (g : FVec Ideal S1024 .f32) (w : FVec Ideal S1024x4096 .f32) (v : FVec Ideal S4096x1024 .f32)
    (h : FVec Ideal S1024 .f32) (u : FVec Ideal S1024x1024 .f32) (i : S16384x1024.Idx) :
    val_main_v37 (F := Ideal) x g w v h u i = gate (fun k => val_main_v17 (F := Ideal) x g w v (ix2 (i 0) k)) (vec h) (fun k n => u (ix2 k n)) (i 1) := by
  unfold gate scale
  pointwise [val_main_v18, val_main_cst_2, val_main_v19, val_main_v20, val_main_cst_3, val_main_v21, val_main_v22, val_main_cst_4, val_main_v23, val_main_v24, val_main_v25, val_main_v26, val_main_v27, val_main_v28, val_main_v29, val_main_v30, val_main_v31, val_main_v32, val_main_v33, val_main_cst_5, val_main_v34, val_main_v35, val_main_cst_6, val_main_v36, val_main_v37]
  rfl

variable (x : FVec Ideal S16384x1024 .f32) (p : FVec Ideal S4x16384x256 .f32) (g : FVec Ideal S1024 .f32) (w : FVec Ideal S1024x4096 .f32)
  (v : FVec Ideal S4096x1024 .f32) (h : FVec Ideal S1024 .f32) (u : FVec Ideal S1024x1024 .f32) (z : FVec Ideal S256x1024 .f32)

/-- The projected embedding, -/
theorem ref_embed (i : S16384x1024.Idx) :
    val_main_v40 (F := Ideal) p z i = embed (fun k => p (ix3 0 (i 0) k)) (fun k n => z (ix2 k n)) (i 1) := by
  unfold embed
  pointwise [val_main_v38, val_main_v39, val_main_v40]

/-- The row after the squared-relu block. -/
abbrev mix (r : Fin 16384) : Fin 1024 → EReal := mixed (row x r) (vec g) (fun k j => w (ix2 k j)) (fun j n => v (ix2 j n))

/-- The block's output, -/
theorem ref_out (i : S16384x1024.Idx) :
    val_main_v42 (F := Ideal) x p g w v h u z i
      = mix x g w v (i 0) (i 1) + embed (fun k => p (ix3 0 (i 0) k)) (fun k n => z (ix2 k n)) (i 1) * gate (mix x g w v (i 0)) (vec h) (fun k n => u (ix2 k n)) (i 1) := by
  pointwise [val_main_v42, val_main_v41]
  rw [ref_embed, ref_gate, ref_mixed]
  rfl

/-- the hidden layer, -/
theorem ref_r (i : S16384x4096.Idx) : val_main_v43 (F := Ideal) x g w i = hid (row x (i 0)) (vec g) (fun k j => w (ix2 k j)) (i 1) := by
  pointwise [val_main_v43]
  rw [ref_hidden]

/-- the gate, -/
theorem ref_gated (i : S16384x1024.Idx) :
    val_main_v44 (F := Ideal) x g w v h u i = gate (mix x g w v (i 0)) (vec h) (fun k n => u (ix2 k n)) (i 1) := by
  pointwise [val_main_v44]
  rw [ref_gate, ref_mixed]
  rfl

/-- the output's derivative by the gate's pre-activation, -/
theorem ref_q (i : S16384x1024.Idx) :
    val_main_v49 (F := Ideal) x p g w v h u z i
      = embed (fun k => p (ix3 0 (i 0) k)) (fun k n => z (ix2 k n)) (i 1)
        * (gate (mix x g w v (i 0)) (vec h) (fun k n => u (ix2 k n)) (i 1) * (1 - gate (mix x g w v (i 0)) (vec h) (fun k n => u (ix2 k n)) (i 1))) := by
  pointwise [val_main_v49, val_main_v48, val_main_v47, val_main_v46, val_main_v45, val_main_cst_7]
  rw [ref_embed, ref_gate, ref_mixed]
  rfl

/-- and the two normalised rows with their scales. -/
theorem ref_n1 (i : S16384x1024.Idx) : val_main_v60 (F := Ideal) x i = row x (i 0) (i 1) * scale (row x (i 0)) := by
  unfold scale
  obtain ⟨a, b, rfl⟩ : ∃ a b, i = ix2 a b := ⟨i 0, i 1, idx2_of (i 1).isLt rfl rfl⟩
  pointwise [val_main_v50, val_main_cst_8, val_main_v51, val_main_v52, val_main_cst_9, val_main_v53, val_main_v54, val_main_cst_10, val_main_v55, val_main_v56, val_main_v57, val_main_v58, val_main_v59, val_main_v60]

@[inherit_doc ref_n1] theorem ref_s1 (i : S16384x128.Idx) : val_main_v61 (F := Ideal) x i = scale (row x (i 0)) := by
  unfold scale
  pointwise [val_main_v50, val_main_cst_8, val_main_v51, val_main_v52, val_main_cst_9, val_main_v53, val_main_v54, val_main_cst_10, val_main_v55, val_main_v56, val_main_v57, val_main_v61]

@[inherit_doc ref_n1] theorem ref_n2 (i : S16384x1024.Idx) : val_main_v72 (F := Ideal) x g w v i = mix x g w v (i 0) (i 1) * scale (mix x g w v (i 0)) := by
  unfold scale
  pointwise [val_main_v62, val_main_cst_11, val_main_v63, val_main_v64, val_main_cst_12, val_main_v65, val_main_v66, val_main_cst_13, val_main_v67, val_main_v68, val_main_v69, val_main_v70, val_main_v71, val_main_v72]
  rw [ref_mixed]
  rfl

@[inherit_doc ref_n1] theorem ref_s2 (i : S16384x128.Idx) : val_main_v73 (F := Ideal) x g w v i = scale (mix x g w v (i 0)) := by
  unfold scale
  pointwise [val_main_v62, val_main_cst_11, val_main_v63, val_main_v64, val_main_cst_12, val_main_v65, val_main_v66, val_main_cst_13, val_main_v67, val_main_v68, val_main_v69, val_main_v73]
  rw [ref_mixed]
  rfl

end Cert.ForwardReferenceIdeal
-- ==== Proof.ForwardFinal.lean ====
module

public import proofs.«01_k».proof.Proof.ForwardValue
public import proofs.«01_k».proof.Proof.ForwardRef
public import Idealize.ShloMosaic.Lib.Pipeline.Value

@[expose] public section

set_option maxRecDepth 16384

/-! # The feed-forward block's forward call: its eight result arrays are the reference's -/

noncomputable section

open Idealize.ShloMosaic Idealize.ShloMosaic.TcCoe Idealize.SL.Sem
open Idealize.ShloMosaic.Pipeline (Dat)

namespace Cert.ForwardKernelIdeal.Value

open Cert.ForwardKernelIdeal Cert.ForwardKernelIdeal.Gen Cert.Rows
variable (m : (ℓ : Loc nD τ sig) → Buf (Elt Ideal) ℓ)

/-- The block a window reads or writes at a point: rows `512 t` on, every column; the gains whole. -/
theorem block_at : ∀ t : Fin cfg0.N, win0_0.index t = ![t.val, 0] ∧ win0_1.index t = ![0, t.val, 0] ∧ win0_2.index t = ![0, 0] ∧ win0_3.index t = ![0, 0]
      ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, win0_0.index t = ![t.val, 0] ∧ win0_1.index t = ![0, t.val, 0] ∧ win0_2.index t = ![0, 0] ∧ win0_3.index t = ![0, 0]
      ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0])

/-- The arguments of the call. -/
abbrev Arg0 (c : Dev nD) : FVec Ideal S16384x1024 .f32 := m ((c : Thread nD τ).loc main_arg0)
@[inherit_doc Arg0] abbrev Arg1 (c : Dev nD) : FVec Ideal S4x16384x256 .f32 := m ((c : Thread nD τ).loc main_arg1)
@[inherit_doc Arg0] abbrev Arg2 (c : Dev nD) : FVec Ideal S1024 .f32 := m ((c : Thread nD τ).loc main_arg2)
@[inherit_doc Arg0] abbrev Arg3 (c : Dev nD) : FVec Ideal S1024x4096 .f32 := m ((c : Thread nD τ).loc main_arg3)
@[inherit_doc Arg0] abbrev Arg4 (c : Dev nD) : FVec Ideal S4096x1024 .f32 := m ((c : Thread nD τ).loc main_arg4)
@[inherit_doc Arg0] abbrev Arg5 (c : Dev nD) : FVec Ideal S1024 .f32 := m ((c : Thread nD τ).loc main_arg5)
@[inherit_doc Arg0] abbrev Arg6 (c : Dev nD) : FVec Ideal S1024x1024 .f32 := m ((c : Thread nD τ).loc main_arg6)
@[inherit_doc Arg0] abbrev Arg7 (c : Dev nD) : FVec Ideal S256x1024 .f32 := m ((c : Thread nD τ).loc main_arg7)

theorem x_row (c : Dev nD) (t : Fin cfg0.N) (a : Fin 512) (r : Fin 16384) (h : r.val = t.val * 512 + a.val) :
    brow (iblk m c 0 t) a = Cert.ForwardReferenceIdeal.row (Arg0 m c) r := by
  funext k
  show (iblk m c 0 t : FVec Ideal S512x1024 .f32) (ix2 a k) = Arg0 m c (ix2 r k)
  have h0 : ((ix2 r k : S16384x1024.Idx) 0).val = t.val * 512 + ((ix2 a k : S512x1024.Idx) 0).val := h
  have h1 : ((ix2 r k : S16384x1024.Idx) 1).val = ((ix2 a k : S512x1024.Idx) 1).val := rfl
  generalize (ix2 a k : S512x1024.Idx) = y at *
  generalize (ix2 r k : S16384x1024.Idx) = i at *
  blk_point [iblk, V, block_at t]

theorem p_row (c : Dev nD) (t : Fin cfg0.N) (a : Fin 512) (r : Fin 16384) (h : r.val = t.val * 512 + a.val) :
    prow (iblk m c 1 t) a = fun k => Arg1 m c (ix3 0 r k) := by
  funext k
  show (iblk m c 1 t : FVec Ideal S1x512x256 .f32) (ix3 0 a k) = Arg1 m c (ix3 0 r k)
  have h0 : ((ix3 0 r k : S4x16384x256.Idx) 0).val = ((ix3 0 a k : S1x512x256.Idx) 0).val := rfl
  have h1 : ((ix3 0 r k : S4x16384x256.Idx) 1).val = t.val * 512 + ((ix3 0 a k : S1x512x256.Idx) 1).val := h
  have h2 : ((ix3 0 r k : S4x16384x256.Idx) 2).val = ((ix3 0 a k : S1x512x256.Idx) 2).val := rfl
  generalize (ix3 0 a k : S1x512x256.Idx) = y at *
  generalize (ix3 0 r k : S4x16384x256.Idx) = i at *
  blk_point [iblk, V, block_at t]

theorem g_vec (c : Dev nD) (t : Fin cfg0.N) : bvec (iblk m c 2 t) = Cert.ForwardReferenceIdeal.vec (Arg2 m c) := by
  funext k
  show (iblk m c 2 t : FVec Ideal S1x1024 .f32) (ix2 0 k) = Arg2 m c (ix1 k)
  blk_point [iblk, V, block_at t]

theorem h_vec (c : Dev nD) (t : Fin cfg0.N) : bvec (iblk m c 3 t) = Cert.ForwardReferenceIdeal.vec (Arg5 m c) := by
  funext k
  show (iblk m c 3 t : FVec Ideal S1x1024 .f32) (ix2 0 k) = Arg5 m c (ix1 k)
  blk_point [iblk, V, block_at t]

theorem w1_at (c : Dev nD) (y : S1024x4096.Idx) : (V m c main_v2 : FVec Ideal S1024x4096 .bf16) y = Arg3 m c y := by
  blk_point [V]
theorem w1_mat (c : Dev nD) : mat1 (V m c main_v2) = fun k j => Arg3 m c (ix2 k j) := by
  funext k j
  exact w1_at m c _

theorem w2_at (c : Dev nD) (y : S4096x1024.Idx) : (V m c main_v3 : FVec Ideal S4096x1024 .bf16) y = Arg4 m c y := by
  blk_point [V]
theorem w2_mat (c : Dev nD) : mat2 (V m c main_v3) = fun k j => Arg4 m c (ix2 k j) := by
  funext k j
  exact w2_at m c _

theorem w3_at (c : Dev nD) (y : S1024x1024.Idx) : (V m c main_v4 : FVec Ideal S1024x1024 .bf16) y = Arg6 m c y := by
  blk_point [V]
theorem w3_mat (c : Dev nD) : mat3 (V m c main_v4) = fun k j => Arg6 m c (ix2 k j) := by
  funext k j
  exact w3_at m c _

theorem w4_at (c : Dev nD) (y : S256x1024.Idx) : (V m c main_v5 : FVec Ideal S256x1024 .bf16) y = Arg7 m c y := by
  blk_point [V]
theorem w4_mat (c : Dev nD) : mat4 (V m c main_v5) = fun k j => Arg7 m c (ix2 k j) := by
  funext k j
  exact w4_at m c _

/-- The block's output, -/
theorem out_entry (c : Dev nD) (t : Fin cfg0.N) (y : S512x1024.Idx) (i : S16384x1024.Idx) (h0 : (i 0).val = t.val * 512 + (y 0).val) (h1 : (i 1).val = (y 1).val) :
    (outsAt0 m c t.val t.isLt).1 y
      = Cert.ForwardReferenceIdeal.Read.val_main_v42 (F := Ideal) (Arg0 m c) (Arg1 m c) (Arg2 m c) (Arg3 m c) (Arg4 m c) (Arg5 m c) (Arg6 m c) (Arg7 m c) i := by
  rw [out_point, Cert.ForwardReferenceIdeal.ref_out, x_row m c t (y 0) (i 0) h0, p_row m c t (y 0) (i 0) h0, g_vec, h_vec, w1_mat, w2_mat, w3_mat, w4_mat, show y 1 = i 1 from Fin.ext h1.symm]
@[inherit_doc out_entry] theorem final_out (c : Dev nD) :
    (dats m 0 c).arrAt 4 cfg0.N = Cert.ForwardReferenceIdeal.Read.val_main_v42 (F := Ideal) (Arg0 m c) (Arg1 m c) (Arg2 m c) (Arg3 m c) (Arg4 m c) (Arg5 m c) (Arg6 m c) (Arg7 m c) := by
  refine (dats m 0 c).arrAt_eq_of_covers 4 _ (by decide +kernel) fun t hf y => ?_
  blk_simp
  rw [after0_4]
  refine out_entry m c t y _ ?_ ?_ <;> blk_simp [block_at t]

/-- the hidden layer, -/
theorem hid_entry (c : Dev nD) (t : Fin cfg0.N) (y : S512x4096.Idx) (i : S16384x4096.Idx) (h0 : (i 0).val = t.val * 512 + (y 0).val) (h1 : (i 1).val = (y 1).val) :
    (outsAt0 m c t.val t.isLt).2.1 y
      = Cert.ForwardReferenceIdeal.Read.val_main_v43 (F := Ideal) (Arg0 m c) (Arg2 m c) (Arg3 m c) i := by
  rw [hid_point, Cert.ForwardReferenceIdeal.ref_r, x_row m c t (y 0) (i 0) h0, g_vec, w1_mat, show y 1 = i 1 from Fin.ext h1.symm]
@[inherit_doc hid_entry] theorem final_hid (c : Dev nD) :
    (dats m 0 c).arrAt 5 cfg0.N = Cert.ForwardReferenceIdeal.Read.val_main_v43 (F := Ideal) (Arg0 m c) (Arg2 m c) (Arg3 m c) := by
  refine (dats m 0 c).arrAt_eq_of_covers 5 _ (by decide +kernel) fun t hf y => ?_
  blk_simp
  rw [after0_5]
  refine hid_entry m c t y _ ?_ ?_ <;> blk_simp [block_at t]

/-- the gate, -/
theorem gate_entry (c : Dev nD) (t : Fin cfg0.N) (y : S512x1024.Idx) (i : S16384x1024.Idx) (h0 : (i 0).val = t.val * 512 + (y 0).val) (h1 : (i 1).val = (y 1).val) :
    (outsAt0 m c t.val t.isLt).2.2.1 y
      = Cert.ForwardReferenceIdeal.Read.val_main_v44 (F := Ideal) (Arg0 m c) (Arg2 m c) (Arg3 m c) (Arg4 m c) (Arg5 m c) (Arg6 m c) i := by
  rw [gate_point, Cert.ForwardReferenceIdeal.ref_gated, x_row m c t (y 0) (i 0) h0, g_vec, h_vec, w1_mat, w2_mat, w3_mat, show y 1 = i 1 from Fin.ext h1.symm]
@[inherit_doc gate_entry] theorem final_gate (c : Dev nD) :
    (dats m 0 c).arrAt 6 cfg0.N = Cert.ForwardReferenceIdeal.Read.val_main_v44 (F := Ideal) (Arg0 m c) (Arg2 m c) (Arg3 m c) (Arg4 m c) (Arg5 m c) (Arg6 m c) := by
  refine (dats m 0 c).arrAt_eq_of_covers 6 _ (by decide +kernel) fun t hf y => ?_
  blk_simp
  rw [after0_6]
  refine gate_entry m c t y _ ?_ ?_ <;> blk_simp [block_at t]

/-- the output's derivative by the gate's pre-activation, -/
theorem q_entry (c : Dev nD) (t : Fin cfg0.N) (y : S512x1024.Idx) (i : S16384x1024.Idx) (h0 : (i 0).val = t.val * 512 + (y 0).val) (h1 : (i 1).val = (y 1).val) :
    (outsAt0 m c t.val t.isLt).2.2.2.1 y
      = Cert.ForwardReferenceIdeal.Read.val_main_v49 (F := Ideal) (Arg0 m c) (Arg1 m c) (Arg2 m c) (Arg3 m c) (Arg4 m c) (Arg5 m c) (Arg6 m c) (Arg7 m c) i := by
  rw [q_point, Cert.ForwardReferenceIdeal.ref_q, x_row m c t (y 0) (i 0) h0, p_row m c t (y 0) (i 0) h0, g_vec, h_vec, w1_mat, w2_mat, w3_mat, w4_mat, show y 1 = i 1 from Fin.ext h1.symm]
@[inherit_doc q_entry] theorem final_q (c : Dev nD) :
    (dats m 0 c).arrAt 7 cfg0.N = Cert.ForwardReferenceIdeal.Read.val_main_v49 (F := Ideal) (Arg0 m c) (Arg1 m c) (Arg2 m c) (Arg3 m c) (Arg4 m c) (Arg5 m c) (Arg6 m c) (Arg7 m c) := by
  refine (dats m 0 c).arrAt_eq_of_covers 7 _ (by decide +kernel) fun t hf y => ?_
  blk_simp
  rw [after0_7]
  refine q_entry m c t y _ ?_ ?_ <;> blk_simp [block_at t]

/-- the first normalised row -/
theorem norm1_entry (c : Dev nD) (t : Fin cfg0.N) (y : S512x1024.Idx) (i : S16384x1024.Idx) (h0 : (i 0).val = t.val * 512 + (y 0).val) (h1 : (i 1).val = (y 1).val) :
    (outsAt0 m c t.val t.isLt).2.2.2.2.1 y
      = Cert.ForwardReferenceIdeal.Read.val_main_v60 (F := Ideal) (Arg0 m c) i := by
  rw [norm1_point, Cert.ForwardReferenceIdeal.ref_n1, x_row m c t (y 0) (i 0) h0, show y 1 = i 1 from Fin.ext h1.symm]
@[inherit_doc norm1_entry] theorem final_norm1 (c : Dev nD) :
    (dats m 0 c).arrAt 8 cfg0.N = Cert.ForwardReferenceIdeal.Read.val_main_v60 (F := Ideal) (Arg0 m c) := by
  refine (dats m 0 c).arrAt_eq_of_covers 8 _ (by decide +kernel) fun t hf y => ?_
  blk_simp
  rw [after0_8]
  refine norm1_entry m c t y _ ?_ ?_ <;> blk_simp [block_at t]

/-- and its scale, -/
theorem scale1_entry (c : Dev nD) (t : Fin cfg0.N) (y : S512x128.Idx) (i : S16384x128.Idx) (h0 : (i 0).val = t.val * 512 + (y 0).val) (h1 : (i 1).val = (y 1).val) :
    (outsAt0 m c t.val t.isLt).2.2.2.2.2.1 y
      = Cert.ForwardReferenceIdeal.Read.val_main_v61 (F := Ideal) (Arg0 m c) i := by
  rw [scale1_point, Cert.ForwardReferenceIdeal.ref_s1, x_row m c t (y 0) (i 0) h0]
@[inherit_doc scale1_entry] theorem final_scale1 (c : Dev nD) :
    (dats m 0 c).arrAt 9 cfg0.N = Cert.ForwardReferenceIdeal.Read.val_main_v61 (F := Ideal) (Arg0 m c) := by
  refine (dats m 0 c).arrAt_eq_of_covers 9 _ (by decide +kernel) fun t hf y => ?_
  blk_simp
  rw [after0_9]
  refine scale1_entry m c t y _ ?_ ?_ <;> blk_simp [block_at t]

/-- the second normalised row -/
theorem norm2_entry (c : Dev nD) (t : Fin cfg0.N) (y : S512x1024.Idx) (i : S16384x1024.Idx) (h0 : (i 0).val = t.val * 512 + (y 0).val) (h1 : (i 1).val = (y 1).val) :
    (outsAt0 m c t.val t.isLt).2.2.2.2.2.2.1 y
      = Cert.ForwardReferenceIdeal.Read.val_main_v72 (F := Ideal) (Arg0 m c) (Arg2 m c) (Arg3 m c) (Arg4 m c) i := by
  rw [norm2_point, Cert.ForwardReferenceIdeal.ref_n2, x_row m c t (y 0) (i 0) h0, g_vec, w1_mat, w2_mat, show y 1 = i 1 from Fin.ext h1.symm]
@[inherit_doc norm2_entry] theorem final_norm2 (c : Dev nD) :
    (dats m 0 c).arrAt 10 cfg0.N = Cert.ForwardReferenceIdeal.Read.val_main_v72 (F := Ideal) (Arg0 m c) (Arg2 m c) (Arg3 m c) (Arg4 m c) := by
  refine (dats m 0 c).arrAt_eq_of_covers 10 _ (by decide +kernel) fun t hf y => ?_
  blk_simp
  rw [after0_10]
  refine norm2_entry m c t y _ ?_ ?_ <;> blk_simp [block_at t]

/-- and its scale. -/
theorem scale2_entry (c : Dev nD) (t : Fin cfg0.N) (y : S512x128.Idx) (i : S16384x128.Idx) (h0 : (i 0).val = t.val * 512 + (y 0).val) (h1 : (i 1).val = (y 1).val) :
    (outsAt0 m c t.val t.isLt).2.2.2.2.2.2.2.1 y
      = Cert.ForwardReferenceIdeal.Read.val_main_v73 (F := Ideal) (Arg0 m c) (Arg2 m c) (Arg3 m c) (Arg4 m c) i := by
  rw [scale2_point, Cert.ForwardReferenceIdeal.ref_s2, x_row m c t (y 0) (i 0) h0, g_vec, w1_mat, w2_mat]
@[inherit_doc scale2_entry] theorem final_scale2 (c : Dev nD) :
    (dats m 0 c).arrAt 11 cfg0.N = Cert.ForwardReferenceIdeal.Read.val_main_v73 (F := Ideal) (Arg0 m c) (Arg2 m c) (Arg3 m c) (Arg4 m c) := by
  refine (dats m 0 c).arrAt_eq_of_covers 11 _ (by decide +kernel) fun t hf y => ?_
  blk_simp
  rw [after0_11]
  refine scale2_entry m c t y _ ?_ ?_ <;> blk_simp [block_at t]

/-- The run: the eight results are the reference's. -/
theorem run (ρ : Dev nD → PrngReg) :
    θ_run defs (onTc (τ := τ) (main (F := Ideal))) ⟨m, fun _ => 0, ρ⟩ fun r => ∀ c : Dev nD,
      r.2.mem ((c : Thread nD τ).loc main_v6_0) = Cert.ForwardReferenceIdeal.Read.val_main_v42 (F := Ideal) (Arg0 m c) (Arg1 m c) (Arg2 m c) (Arg3 m c) (Arg4 m c) (Arg5 m c) (Arg6 m c) (Arg7 m c)
      ∧ r.2.mem ((c : Thread nD τ).loc main_v6_1) = Cert.ForwardReferenceIdeal.Read.val_main_v43 (F := Ideal) (Arg0 m c) (Arg2 m c) (Arg3 m c)
      ∧ r.2.mem ((c : Thread nD τ).loc main_v6_2) = Cert.ForwardReferenceIdeal.Read.val_main_v44 (F := Ideal) (Arg0 m c) (Arg2 m c) (Arg3 m c) (Arg4 m c) (Arg5 m c) (Arg6 m c)
      ∧ r.2.mem ((c : Thread nD τ).loc main_v6_3) = Cert.ForwardReferenceIdeal.Read.val_main_v49 (F := Ideal) (Arg0 m c) (Arg1 m c) (Arg2 m c) (Arg3 m c) (Arg4 m c) (Arg5 m c) (Arg6 m c) (Arg7 m c)
      ∧ r.2.mem ((c : Thread nD τ).loc main_v6_4) = Cert.ForwardReferenceIdeal.Read.val_main_v60 (F := Ideal) (Arg0 m c)
      ∧ r.2.mem ((c : Thread nD τ).loc main_v6_5) = Cert.ForwardReferenceIdeal.Read.val_main_v61 (F := Ideal) (Arg0 m c)
      ∧ r.2.mem ((c : Thread nD τ).loc main_v6_6) = Cert.ForwardReferenceIdeal.Read.val_main_v72 (F := Ideal) (Arg0 m c) (Arg2 m c) (Arg3 m c) (Arg4 m c)
      ∧ r.2.mem ((c : Thread nD τ).loc main_v6_7) = Cert.ForwardReferenceIdeal.Read.val_main_v73 (F := Ideal) (Arg0 m c) (Arg2 m c) (Arg3 m c) (Arg4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨((h.2 c).1 4).trans (final_out m c), ((h.2 c).1 5).trans (final_hid m c), ((h.2 c).1 6).trans (final_gate m c), ((h.2 c).1 7).trans (final_q m c), ((h.2 c).1 8).trans (final_norm1 m c), ((h.2 c).1 9).trans (final_scale1 m c), ((h.2 c).1 10).trans (final_norm2 m c), ((h.2 c).1 11).trans (final_scale2 m c), h.1 c⟩) (θ_run_and (unchanged m ρ) (run_main m ρ))

end Cert.ForwardKernelIdeal.Value
-- ==== Proof.ForwardClaims.lean ====
module

public import proofs.«01_k».proof.Proof.ForwardFinal
public import proofs.«01_k».proof.Proof.Gen.ForwardKernel.Frame
public import proofs.«01_k».proof.Proof.Gen.ForwardReferenceIdeal.Run
public import proofs.«01_k».proof.Defs

@[expose] public section

/-! # The feed-forward block's forward call: its claims

The kernel runs without a fault and leaves its arguments; so do its value form and the reference; and the value form's eight
results, the block's output and what its gradients need, are the reference's. -/

noncomputable section

open Idealize.ShloMosaic Idealize.ShloMosaic.TcCoe Idealize.SL.Sem

namespace Cert.ForwardClaims

theorem frame_ideal : Cert.quiescent_ForwardKernelIdeal := fun m ρ _ => Cert.ForwardKernelIdeal.Gen.frame m ρ

theorem frame_kernel : Cert.quiescent_ForwardKernel := fun m ρ _ => Cert.ForwardKernel.Gen.frame m ρ

theorem frame_reference : Cert.quiescent_ForwardReferenceIdeal := fun m ρ _ =>
  (θ_run Cert.ForwardReferenceIdeal.defs _ _).mono (fun r h => ⟨fun c => (h c).2.2.2.2.2.2.2.2, sem_eq_zero_of_no_sems (by decide) r.2⟩)
    (Cert.ForwardReferenceIdeal.Value.run (F := Ideal) m ρ)

theorem values : Cert.algebraic_ForwardKernelIdeal_ForwardReferenceIdeal := by
  pair_intro
  · run_from Cert.ForwardKernelIdeal.Value.run m g
  · hlo_run
    all_goals rfl

end Cert.ForwardClaims
-- ==== Proof.EmbedRef.lean ====
module

public import proofs.«01_k».proof.Proof.Rows
public import proofs.«01_k».proof.Proof.Tiles
public import proofs.«01_k».proof.Proof.InputRef
public import proofs.«01_k».proof.Proof.Gen.EmbedReferenceIdeal.Read

@[expose] public section

set_option maxRecDepth 16384

/-! # The embedding layer's backward call: the reference at an entry

The gradients of the gain and of both weights are the kernel's sums, product by product. The input's gradient is the
derivative of the normalisation written out, and equals the kernel's formula where the arguments are real numbers. -/

noncomputable section

open Idealize.ShloMosaic Idealize.ShloMosaic.TcCoe Idealize.SL.Sem
open Idealize.ShloMosaic.Pipeline (Dat)

namespace Cert.EmbedReferenceIdeal

open Cert.EmbedReferenceIdeal.Read Cert.Tiles

/-- The reciprocal of a row's root mean square. -/
def sc (x : FVec Ideal S16384x1024 .f32) (r : Fin 16384) : EReal := Cert.Rows.scale (fun k => x (ix2 r k))

/-- The gate at an entry. -/
def gt (x : FVec Ideal S16384x1024 .f32) (g : FVec Ideal S1024 .f32) (u : FVec Ideal S1024x1024 .f32) (i : S16384x1024.Idx) : EReal :=
  Cert.Rows.gate (fun k => x (ix2 (i 0) k)) (fun k => g (ix1 k)) (fun k n => u (ix2 k n)) (i 1)

/-- The projected embedding at an entry. -/
def em (p : FVec Ideal S4x16384x256 .f32) (z : FVec Ideal S256x1024 .f32) (i : S16384x1024.Idx) : EReal :=
  Cert.Rows.embed (fun k => p (ix3 0 (i 0) k)) (fun k n => z (ix2 k n)) (i 1)

/-- The gradient of what the gate's sigmoid is taken of. -/
def dpre (x : FVec Ideal S16384x1024 .f32) (p : FVec Ideal S4x16384x256 .f32) (g : FVec Ideal S1024 .f32) (u : FVec Ideal S1024x1024 .f32)
    (z : FVec Ideal S256x1024 .f32) (d : FVec Ideal S16384x1024 .f32) (i : S16384x1024.Idx) : EReal :=
  d i * (em p z i * gt x g u i * (1 - gt x g u i))

/-- The gradient of the normalised, scaled rows. -/
def dn (x : FVec Ideal S16384x1024 .f32) (p : FVec Ideal S4x16384x256 .f32) (g : FVec Ideal S1024 .f32) (u : FVec Ideal S1024x1024 .f32)
    (z : FVec Ideal S256x1024 .f32) (d : FVec Ideal S16384x1024 .f32) (i : S16384x1024.Idx) : EReal :=
  ∑ j : Fin 1024, dpre x p g u z d (ix2 (i 0) j) * u (ix2 (i 1) j)

variable (x : FVec Ideal S16384x1024 .f32) (p : FVec Ideal S4x16384x256 .f32) (g : FVec Ideal S1024 .f32) (u : FVec Ideal S1024x1024 .f32)
  (z : FVec Ideal S256x1024 .f32) (d : FVec Ideal S16384x1024 .f32)

theorem ref_gate : val_main_v25 (F := Ideal) x g u = gt x g u := by
  funext i
  unfold gt Cert.Rows.gate Cert.Rows.scale
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, val_main_cst_3, val_main_cst_4, val_main_cst_5, val_main_cst_6, val_main_cst_7, val_main_cst_8, val_main_cst_9, val_main_cst_10]
  rfl

theorem ref_embed : val_main_v2 (F := Ideal) p z = em p z := by
  funext i
  unfold em Cert.Rows.embed
  pointwise [val_main_v0, val_main_v1, val_main_v2]

theorem ref_dpre : val_main_v34 (F := Ideal) x p g u z d = dpre x p g u z d := by
  funext i
  obtain ⟨a, b, rfl⟩ : ∃ a b, i = ix2 a b := ⟨i 0, i 1, idx2_of (i 1).isLt rfl rfl⟩
  unfold dpre
  pointwise [val_main_v26, val_main_v27, val_main_v28, val_main_v31, val_main_v32, val_main_v34, val_main_cst_5]
  simp only [ref_gate, ref_embed]
  ac_rfl

theorem ref_dn : val_main_v37 (F := Ideal) x p g u z d = dn x p g u z d := by
  funext i
  unfold dn
  pointwise [val_main_v37]
  simp only [ref_dpre]

/-- The gate weight's gradient. -/
theorem ref_dwg (i : S1024x1024.Idx) :
    val_main_v62 (F := Ideal) x p g u z d i = ∑ k : Fin 16384, x (ix2 k (i 0)) * sc x k * g (ix1 (i 0)) * dpre x p g u z d (ix2 k (i 1)) := by
  obtain ⟨a, b, rfl⟩ : ∃ a b, i = ix2 a b := ⟨i 0, i 1, idx2_of (i 1).isLt rfl rfl⟩
  pointwise [val_main_v0, val_main_v1, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v26, val_main_v27, val_main_v28, val_main_v29, val_main_v30, val_main_v31, val_main_v32, val_main_v33, val_main_v35, val_main_v36, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_cst, val_main_cst_0, val_main_cst_1, val_main_cst_2, val_main_cst_3, val_main_cst_4, val_main_cst_5, val_main_cst_6, val_main_cst_7, val_main_cst_8, val_main_cst_9, val_main_cst_10]
  simp only [ref_dpre]
  exact Finset.sum_congr rfl fun k _ => mul_comm _ _

/-- The projection's gradient. -/
theorem ref_dwp (i : S256x1024.Idx) :
    val_main_v63 (F := Ideal) x p g u d i = ∑ k : Fin 16384, p (ix3 0 k (i 0)) * (d (ix2 k (i 1)) * gt x g u (ix2 k (i 1))) := by
  obtain ⟨a, b, rfl⟩ : ∃ a b, i = ix2 a b := ⟨i 0, i 1, idx2_of (i 1).isLt rfl rfl⟩
  pointwise [val_main_v0, val_main_v1, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v26, val_main_v27, val_main_v28, val_main_v29, val_main_v30, val_main_v31, val_main_v32, val_main_v33, val_main_v35, val_main_v36, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_cst, val_main_cst_0, val_main_cst_1, val_main_cst_2, val_main_cst_3, val_main_cst_4, val_main_cst_5, val_main_cst_6, val_main_cst_7, val_main_cst_8, val_main_cst_9, val_main_cst_10]
  simp only [ref_gate]
  exact Finset.sum_congr rfl fun k _ => mul_comm _ _

/-- The gain's gradient. -/
theorem ref_dg (i : S1x1024.Idx) :
    val_main_v61 (F := Ideal) x p g u z d i = ∑ k : Fin 16384, dn x p g u z d (ix2 k (i 1)) * (x (ix2 k (i 1)) * sc x k) := by
  pointwise [val_main_v0, val_main_v1, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v26, val_main_v27, val_main_v28, val_main_v29, val_main_v30, val_main_v31, val_main_v32, val_main_v33, val_main_v35, val_main_v36, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_cst, val_main_cst_0, val_main_cst_1, val_main_cst_2, val_main_cst_3, val_main_cst_4, val_main_cst_5, val_main_cst_6, val_main_cst_7, val_main_cst_8, val_main_cst_9, val_main_cst_10]
  simp only [Fin.sum_univ_one, ref_dn]
  exact Finset.sum_congr rfl fun k _ => mul_comm _ _

/-! ## Real numbers stay real -/

theorem real_sum {n : ℕ} {f : Fin n → EReal} (h : ∀ k, ∃ r : ℝ, f k = r) : ∃ r : ℝ, ∑ k, f k = r := by
  choose r h using h
  simp only [h]
  exact ⟨_, (map_sum (⟨⟨Real.toEReal, rfl⟩, EReal.coe_add⟩ : ℝ →+ EReal) r _).symm⟩

theorem real_mul {a b : EReal} (ha : ∃ r : ℝ, a = r) (hb : ∃ r : ℝ, b = r) : ∃ r : ℝ, a * b = r := by
  obtain ⟨a, rfl⟩ := ha
  obtain ⟨b, rfl⟩ := hb
  exact ⟨_, (EReal.coe_mul a b).symm⟩

theorem real_one_sub {a : EReal} (ha : ∃ r : ℝ, a = r) : ∃ r : ℝ, 1 - a = r := by
  obtain ⟨a, rfl⟩ := ha
  exact ⟨1 - a, by rw [EReal.coe_sub]; rfl⟩

theorem real_logistic {a : EReal} (ha : ∃ r : ℝ, a = r) : ∃ r : ℝ, Ideal.logistic a = r := by
  obtain ⟨a, rfl⟩ := ha
  refine ⟨1 / (1 + Real.exp (-a)), ?_⟩
  have h : (1 : ℝ) + Real.exp (-a) ≠ 0 := (add_pos one_pos (Real.exp_pos _)).ne'
  exact Cert.InputReferenceIdeal.div_real 1 h

open Cert.Constants in
theorem real_scale {y : Fin 1024 → EReal} (h : ∀ k, ∃ r : ℝ, y k = r) : ∃ r : ℝ, Cert.Rows.scale y = r := by
  choose r h using h
  unfold Cert.Rows.scale
  simp only [h, ← EReal.coe_mul]
  have hs : ∑ k, ((r k * r k : ℝ) : EReal) = ((∑ k, r k * r k : ℝ) : EReal) := (map_sum (⟨⟨Real.toEReal, rfl⟩, EReal.coe_add⟩ : ℝ →+ EReal) _ _).symm
  have hpos : (0 : ℝ) < (∑ k, r k * r k) / 1024 + 8796093 / 8796093022208 :=
    add_pos_of_nonneg_of_pos (div_nonneg (Finset.sum_nonneg fun k _ => mul_self_nonneg _) (by norm_num)) (by norm_num)
  rw [hs, c_1024, c_rms_eps, Cert.InputReferenceIdeal.div_real _ (by norm_num), ← EReal.coe_add, Ideal.rsqrt_coe, if_neg hpos.le.not_gt, if_neg hpos.ne']
  exact ⟨_, rfl⟩

variable {x p g u z d}

/-- The gradient of the normalised rows is real where the arguments are. -/
theorem real_dn (hx : ∀ i, ∃ r : ℝ, x i = r) (hp : ∀ i, ∃ r : ℝ, p i = r) (hg : ∀ i, ∃ r : ℝ, g i = r) (hu : ∀ i, ∃ r : ℝ, u i = r)
    (hz : ∀ i, ∃ r : ℝ, z i = r) (hd : ∀ i, ∃ r : ℝ, d i = r) (i : S16384x1024.Idx) : ∃ r : ℝ, dn x p g u z d i = r := by
  have hgt : ∀ i, ∃ r : ℝ, gt x g u i = r := fun i =>
    real_logistic (real_sum fun k => real_mul (real_mul (real_mul (hx _) (real_scale fun _ => hx _)) (hg _)) (hu _))
  have hem : ∀ i, ∃ r : ℝ, em p z i = r := fun i => real_sum fun k => real_mul (hp _) (hz _)
  exact real_sum fun j => real_mul (real_mul (hd _) (real_mul (real_mul (hem _) (hgt _)) (real_one_sub (hgt _)))) (hu _)

/-- The input's gradient, where every argument is real. -/
theorem ref_dx (hx : ∀ i, ∃ r : ℝ, x i = r) (hp : ∀ i, ∃ r : ℝ, p i = r) (hg : ∀ i, ∃ r : ℝ, g i = r) (hu : ∀ i, ∃ r : ℝ, u i = r)
    (hz : ∀ i, ∃ r : ℝ, z i = r) (hd : ∀ i, ∃ r : ℝ, d i = r) (i : S16384x1024.Idx) :
    val_main_v58 (F := Ideal) x p g u z d i = d i + sc x (i 0) * (dn x p g u z d i * g (ix1 (i 1)) - x i * sc x (i 0)
      * Ideal.div (∑ k : Fin 1024, dn x p g u z d (ix2 (i 0) k) * g (ix1 k) * (x (ix2 (i 0) k) * sc x (i 0))) (Ideal.ofBits FTy.f32 0x44800000#32)) := by
  obtain ⟨a, b, rfl⟩ : ∃ a b, i = ix2 a b := ⟨i 0, i 1, idx2_of (i 1).isLt rfl rfl⟩
  pointwise [val_main_v0, val_main_v1, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v26, val_main_v27, val_main_v28, val_main_v29, val_main_v30, val_main_v31, val_main_v32, val_main_v33, val_main_v35, val_main_v36, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_cst, val_main_cst_0, val_main_cst_1, val_main_cst_2, val_main_cst_3, val_main_cst_4, val_main_cst_5, val_main_cst_6, val_main_cst_7, val_main_cst_8, val_main_cst_9, val_main_cst_10]
  simp only [Fin.sum_univ_one, ref_dn]
  have hh := real_dn hx hp hg hu hz hd
  generalize dn x p g u z d = D at hh ⊢
  choose xr hx using hx
  choose gr hg using hg
  choose H hh using hh
  have key := Cert.InputReferenceIdeal.norm_grad (d (ix2 a b)) (fun k => xr (ix2 a k)) (fun k => H (ix2 a k) * gr (ix1 k)) b _ rfl
  simp only [EReal.coe_mul, ← hx, ← hh, ← hg] at key
  exact key

end Cert.EmbedReferenceIdeal
-- ==== Proof.EmbedTiles.lean ====
module

public import proofs.«01_k».proof.Proof.Gen.EmbedKernelIdeal.Frame
public import proofs.«01_k».proof.Proof.Tiles

@[expose] public section

set_option maxRecDepth 16384

/-! # The embedding layer's backward call: what one grid point stores

Every stored block read at one entry, of the point's blocks: `D` the output's gradient, `X` the normalised rows, `S` the reciprocal
deviations, `A` the gate, `Q` the derivative by the gate's pre-activation, `P` the embedding, `G` the gain, and of the gate weight `W`. -/

noncomputable section

open Idealize.ShloMosaic Idealize.ShloMosaic.TcCoe Idealize.SL.Sem
open Idealize.ShloMosaic.Pipeline (Dat)

namespace Cert.EmbedKernelIdeal.Value

open Cert.EmbedKernelIdeal Cert.EmbedKernelIdeal.Gen Cert.Tiles

/-- The gradient of the normalised, scaled rows, at one entry: the row of `D * Q` against the row of the weight. -/
def dnOf (D : FVec Ideal S1024x1024 .f32) (Q : FVec Ideal S1024x1024 .bf16) (W : FVec Ideal S1024x1024 .bf16) (y : S1024x1024.Idx) : EReal :=
  ∑ j : Fin 1024, D (ix2 (y 0) j) * Q (ix2 (y 0) j) * W (ix2 (y 1) j)

theorem dn_at (D : FVec Ideal S1024x1024 .f32) (Q : FVec Ideal S1024x1024 .bf16) (W : FVec Ideal S1024x1024 .bf16) (y : S1024x1024.Idx) :
    k0_pay2 (F := Ideal) (k0_pay12 D Q) W y = dnOf D Q W y := by
  unfold dnOf
  pointwise [k0_pay2, k0_pay12]

/-- The block of the input's gradient, read at one entry. -/
theorem dx_at (D : FVec Ideal S1024x1024 .f32) (X : FVec Ideal S1024x1024 .bf16) (S : FVec Ideal S1024x128 .f32) (Q : FVec Ideal S1024x1024 .bf16)
    (G : FVec Ideal S1x1024 .f32) (W : FVec Ideal S1024x1024 .bf16) (y : S1024x1024.Idx) :
    k0_pay3 (F := Ideal) (k0_pay10 G) D (k0_pay12 D Q) (k0_pay13 X)
        (k0_pay15 (View.ld (Val := Elt Ideal) (e' := .f32) S (Rect.unit (s := S1024x128) ![0, 0] ![1024, 1] inb_S1024x128_S1024x1_0_0))) W y
      = D y + S (ix2 (y 0) 0) * (dnOf D Q W y * G (ix2 0 (y 1))
          - X y * Ideal.div (∑ k : Fin 1024, dnOf D Q W (ix2 (y 0) k) * G (ix2 0 k) * X (ix2 (y 0) k)) (Ideal.ofBits FTy.f32 0x44800000#32)) := by
  pointwise [k0_pay3, k0_pay10, k0_pay13, k0_pay15]
  simp only [dn_at]

/-- The gain's gradient, read at one entry: what it held, plus the point's rows. -/
theorem dg_at (D : FVec Ideal S1024x1024 .f32) (X : FVec Ideal S1024x1024 .bf16) (Q : FVec Ideal S1024x1024 .bf16) (W : FVec Ideal S1024x1024 .bf16)
    (B : FVec Ideal S1x1024 .f32) (y : S1x1024.Idx) :
    k0_pay4 (F := Ideal) (k0_pay12 D Q) (k0_pay13 X) W B y = B y + ∑ k : Fin 1024, dnOf D Q W (ix2 k (y 1)) * X (ix2 k (y 1)) := by
  pointwise [k0_pay4, k0_pay13]
  simp only [dn_at]

/-- The gate weight's gradient, read at one entry: what the accumulator held, plus the point's rows. -/
theorem dwg_at (D : FVec Ideal S1024x1024 .f32) (X : FVec Ideal S1024x1024 .bf16) (Q : FVec Ideal S1024x1024 .bf16) (G : FVec Ideal S1x1024 .f32)
    (B : FVec Ideal S1024x1024 .f32) (y : S1024x1024.Idx) :
    k0_pay1 (F := Ideal) (k0_pay12 D Q) (k0_pay14 G X) B y
      = B y + ∑ k : Fin 1024, X (ix2 k (y 0)) * G (ix2 0 (y 0)) * (D (ix2 k (y 1)) * Q (ix2 k (y 1))) := by
  pointwise [k0_pay1, k0_pay12, k0_pay14, k0_pay13, k0_pay10]

/-- The projection's gradient, read at one entry: what the accumulator held, plus the point's rows. -/
theorem dwp_at (D : FVec Ideal S1024x1024 .f32) (A : FVec Ideal S1024x1024 .bf16) (P : FVec Ideal S1x1024x256 .f32) (B : FVec Ideal S256x1024 .f32)
    (y : S256x1024.Idx) :
    k0_pay11 (F := Ideal) D B P A y = B y + ∑ k : Fin 1024, P (ix3 0 k (y 0)) * (D (ix2 k (y 1)) * A (ix2 k (y 1))) := by
  pointwise [k0_pay11]

end Cert.EmbedKernelIdeal.Value
-- ==== Proof.EmbedHost.lean ====
module

public import proofs.«01_k».proof.Proof.EmbedRef
public import proofs.«01_k».proof.Proof.EmbedTiles

@[expose] public section

set_option maxRecDepth 16384

/-! # The embedding layer's backward call: what the host hands it

The normalised rows, the reciprocal deviations, the gate and the output's derivative by the gate's pre-activation, each
computed from the arguments before the call. -/

noncomputable section

open Idealize.ShloMosaic Idealize.ShloMosaic.TcCoe Idealize.SL.Sem
open Idealize.ShloMosaic.Pipeline (Dat)

namespace Cert.EmbedKernelIdeal.Value

open Cert.EmbedKernelIdeal Cert.EmbedKernelIdeal.Gen
open Cert.EmbedReferenceIdeal (sc gt)
variable (m : (ℓ : Loc nD τ sig) → Buf (Elt Ideal) ℓ)

/-- The arguments of the call. -/
abbrev Arg0 (c : Dev nD) : FVec Ideal S16384x1024 .f32 := m ((c : Thread nD τ).loc main_arg0)
@[inherit_doc Arg0] abbrev Arg1 (c : Dev nD) : FVec Ideal S4x16384x256 .f32 := m ((c : Thread nD τ).loc main_arg1)
@[inherit_doc Arg0] abbrev Arg2 (c : Dev nD) : FVec Ideal S1024 .f32 := m ((c : Thread nD τ).loc main_arg2)
@[inherit_doc Arg0] abbrev Arg3 (c : Dev nD) : FVec Ideal S1024x1024 .f32 := m ((c : Thread nD τ).loc main_arg3)
@[inherit_doc Arg0] abbrev Arg4 (c : Dev nD) : FVec Ideal S256x1024 .f32 := m ((c : Thread nD τ).loc main_arg4)
@[inherit_doc Arg0] abbrev Arg5 (c : Dev nD) : FVec Ideal S16384x1024 .f32 := m ((c : Thread nD τ).loc main_arg5)

/-- The reciprocal root mean squares, as the host computes them, -/
def hostScale (x : FVec Ideal S16384x1024 .f32) : FVec Ideal S16384x1 .f32 :=
  Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))
/-- the normalised rows, -/
def hostNorm (x : FVec Ideal S16384x1024 .f32) : FVec Ideal S16384x1024 .f32 :=
  mulf x (broadcastInDim S16384x1024 ![0, 1] bcast_S16384x1_S16384x1024_0_1 (hostScale x))
/-- the gate, -/
def hostGate (x : FVec Ideal S16384x1024 .f32) (g : FVec Ideal S1024 .f32) (u : FVec Ideal S1024x1024 .f32) : FVec Ideal S16384x1024 .f32 :=
  Host.divf (broadcastInDim S16384x1024 ![] bcast_S_S16384x1024 (constant S_ .f32 0x3F800000#32))
    (addf (broadcastInDim S16384x1024 ![] bcast_S_S16384x1024 (constant S_ .f32 0x3F800000#32))
      (Host.exp (Host.negf (Host.dotGeneral dot_S16384x1024_S1024x1024_S16384x1024_1_0_0_1_n_n none
        (mulf (hostNorm x) (broadcastInDim S16384x1024 ![0, 1] bcast_S1x1024_S16384x1024_0_1 (broadcastInDim S1x1024 ![1] bcast_S1024_S1x1024_1 g))) u))))
/-- the projected embedding, -/
def hostEmbed (p : FVec Ideal S4x16384x256 .f32) (z : FVec Ideal S256x1024 .f32) : FVec Ideal S16384x1024 .f32 :=
  Host.dotGeneral dot_S16384x256_S256x1024_S16384x1024_1_0_0_1_n_n none
    (shapeCast S16384x256 (extractStridedSlice S1x16384x256 ![0, 0, 0] p slices_S4x16384x256_S1x16384x256_0_0_0) shapeCasts_S1x16384x256_S16384x256) z
/-- and the output's derivative by the gate's pre-activation. -/
def hostQ (e s : FVec Ideal S16384x1024 .f32) : FVec Ideal S16384x1024 .f32 :=
  mulf (mulf e s) (subf (broadcastInDim S16384x1024 ![] bcast_S_S16384x1024 (constant S_ .f32 0x3F800000#32)) s)

theorem hostScale_at (x : FVec Ideal S16384x1024 .f32) (i : S16384x1.Idx) : hostScale x i = sc x (i 0) := by
  unfold hostScale sc Cert.Rows.scale
  pointwise []

theorem hostNorm_at (x : FVec Ideal S16384x1024 .f32) (i : S16384x1024.Idx) : hostNorm x i = x i * sc x (i 0) := by
  unfold hostNorm
  pointwise []
  simp only [hostScale_at]
  rfl

theorem hostGate_at (x : FVec Ideal S16384x1024 .f32) (g : FVec Ideal S1024 .f32) (u : FVec Ideal S1024x1024 .f32) (i : S16384x1024.Idx) :
    hostGate x g u i = gt x g u i := by
  unfold hostGate gt Cert.Rows.gate
  pointwise []
  simp only [hostNorm_at]
  rfl

theorem hostEmbed_at (p : FVec Ideal S4x16384x256 .f32) (z : FVec Ideal S256x1024 .f32) (i : S16384x1024.Idx) : hostEmbed p z i = Cert.EmbedReferenceIdeal.em p z i := by
  unfold hostEmbed Cert.EmbedReferenceIdeal.em Cert.Rows.embed
  pointwise []

theorem hostQ_at (e s : FVec Ideal S16384x1024 .f32) (i : S16384x1024.Idx) : hostQ e s i = e i * s i * (1 - s i) := by
  unfold hostQ
  pointwise []

/-- The normalised rows the host hands the call. -/
theorem x_at (c : Dev nD) (i : S16384x1024.Idx) : (V m c main_v27 : FVec Ideal S16384x1024 .bf16) i = Arg0 m c i * sc (Arg0 m c) (i 0) := by
  show StableHlo.after hostOps0 (fun b => m (c, b)) (Proc.tc.devRef main_v27) i = _
  have e : StableHlo.after hostOps0 (fun b => m (c, b)) (Proc.tc.devRef main_v27) = (show FVec Ideal S16384x1024 .bf16 from truncf .bf16 (hostNorm (Arg0 m c)) bitsLt_bf16_f32) := by
    unfold hostNorm hostScale
    unfold hostOps0
    after_results
  rw [e]
  exact hostNorm_at _ _

/-- The reciprocal deviations the host hands the call, one copy to each lane. -/
theorem s_at (c : Dev nD) (i : S16384x128.Idx) : (V m c main_v28 : FVec Ideal S16384x128 .f32) i = sc (Arg0 m c) (i 0) := by
  show StableHlo.after hostOps0 (fun b => m (c, b)) (Proc.tc.devRef main_v28) i = _
  have e : StableHlo.after hostOps0 (fun b => m (c, b)) (Proc.tc.devRef main_v28) = (show FVec Ideal S16384x128 .f32 from broadcastInDim S16384x128 ![0, 1] bcast_S16384x1_S16384x128_0_1 (hostScale (Arg0 m c))) := by
    unfold hostScale
    unfold hostOps0
    after_results
  rw [e]
  pointwise []
  simp only [hostScale_at]
  rfl

/-- The gate the host hands the call. -/
theorem gate_at (c : Dev nD) (i : S16384x1024.Idx) : (V m c main_v29 : FVec Ideal S16384x1024 .bf16) i = gt (Arg0 m c) (Arg2 m c) (Arg3 m c) i := by
  show StableHlo.after hostOps0 (fun b => m (c, b)) (Proc.tc.devRef main_v29) i = _
  have e : StableHlo.after hostOps0 (fun b => m (c, b)) (Proc.tc.devRef main_v29) = (show FVec Ideal S16384x1024 .bf16 from truncf .bf16 (hostGate (Arg0 m c) (Arg2 m c) (Arg3 m c)) bitsLt_bf16_f32) := by
    unfold hostGate hostNorm hostScale
    unfold hostOps0
    after_results
  rw [e]
  exact hostGate_at _ _ _ _

/-- The output's derivative by the gate's pre-activation, as the host hands it to the call. -/
theorem q_at (c : Dev nD) (i : S16384x1024.Idx) : (V m c main_v30 : FVec Ideal S16384x1024 .bf16) i
    = Cert.EmbedReferenceIdeal.em (Arg1 m c) (Arg4 m c) i * gt (Arg0 m c) (Arg2 m c) (Arg3 m c) i * (1 - gt (Arg0 m c) (Arg2 m c) (Arg3 m c) i) := by
  show StableHlo.after hostOps0 (fun b => m (c, b)) (Proc.tc.devRef main_v30) i = _
  have e : StableHlo.after hostOps0 (fun b => m (c, b)) (Proc.tc.devRef main_v30)
      = (show FVec Ideal S16384x1024 .bf16 from truncf .bf16 (hostQ (hostEmbed (Arg1 m c) (Arg4 m c)) (hostGate (Arg0 m c) (Arg2 m c) (Arg3 m c))) bitsLt_bf16_f32) := by
    unfold hostQ hostEmbed hostGate hostNorm hostScale
    unfold hostOps0
    after_results
    rfl
  rw [e]
  refine (hostQ_at _ _ _).trans ?_
  rw [hostEmbed_at, hostGate_at]

end Cert.EmbedKernelIdeal.Value
-- ==== Proof.EmbedValue.lean ====
module

public import proofs.«01_k».proof.Proof.EmbedTiles
public import Idealize.ShloMosaic.Lib.Pipeline.Value

@[expose] public section

set_option maxRecDepth 16384

/-! # The embedding layer's backward call: what the grid points hold

The gate weight is copied in at the first point and stays until the last point's body has read it. Every point stores its rows of the
input's gradient and adds its rows to the three other gradients. -/

noncomputable section

open Idealize.ShloMosaic Idealize.ShloMosaic.TcCoe Idealize.SL.Sem
open Idealize.ShloMosaic.Pipeline (Dat)

namespace Cert.EmbedKernelIdeal.Value

open Cert.EmbedKernelIdeal Cert.EmbedKernelIdeal.Gen Cert.Tiles

variable (m : (ℓ : Loc nD τ sig) → Buf (Elt Ideal) ℓ)

/-- A load of a whole copied array gives the array. -/
theorem load_whole (w : FVec Ideal S1024x1024 .bf16) :
    View.ld (Val := Elt Ideal) (e' := .bf16) w (Rect.unit (s := S1024x1024) ![0, 0] ![1024, 1024] inb_S1024x1024_S1024x1024_0_0) = w := by
  simp (disch := decide) only [View.ld_unit_lit]

/-- Before the last point every point holds the gate weight: the first point copies it in, a later point leaves it. -/
theorem first_wg (c : Dev nD) (t : Fin cfg0.N) (h0 : t.val % 16 = 0) (h1 : ¬t.val % 16 = 15) :
    (outsAt0 m c t.val t.isLt).2.2.1 = V m c main_v32 := by
  rw [outsAt0_A m c t h0 h1]
  funext y
  frame_out
  rw [canon_whole]
  rfl
@[inherit_doc first_wg] theorem next_wg (c : Dev nD) (t : Fin cfg0.N) (h0 : ¬t.val % 16 = 0) (h1 : ¬t.val % 16 = 15) :
    (outsAt0 m c t.val t.isLt).2.2.1 = (outsAt0 m c (t.val - 1) (Nat.lt_of_le_of_lt (Nat.sub_le _ _) t.isLt)).2.2.1 := by
  rw [outsAt0_B m c t h0 h1]
  dsimp only
  unfold sout0_B_0
  rfl
@[inherit_doc first_wg] theorem held_wg (c : Dev nD) (n : ℕ) (hn : n < cfg0.N) (hl : n < 15) : (outsAt0 m c n hn).2.2.1 = V m c main_v32 := by
  induction n with
  | zero => exact first_wg m c ⟨0, hn⟩ rfl (by show ¬ 0 % 16 = 15; decide)
  | succ n ih =>
    exact (next_wg m c ⟨n + 1, hn⟩ (by show ¬ (n + 1) % 16 = 0; omega) (by show ¬ (n + 1) % 16 = 15; omega)).trans (ih (Nat.lt_of_succ_lt hn) (by omega))

/-- The held weight, at the point before a later one. -/
theorem before_wg (c : Dev nD) (t : Fin cfg0.N) (h0 : ¬t.val % 16 = 0) :
    (outsAt0 m c (t.val - 1) (Nat.lt_of_le_of_lt (Nat.sub_le _ _) t.isLt)).2.2.1 = V m c main_v32 :=
  held_wg m c _ _ (by have hN : cfg0.N = 16 := N_0; have := t.isLt; omega)

/-- The input's gradient: a point's rows, at one entry. -/
def dxOf (D : FVec Ideal S1024x1024 .f32) (X : FVec Ideal S1024x1024 .bf16) (S : FVec Ideal S1024x128 .f32) (Q : FVec Ideal S1024x1024 .bf16)
    (G : FVec Ideal S1x1024 .f32) (W : FVec Ideal S1024x1024 .bf16) (y : S1024x1024.Idx) : EReal :=
  D y + S (ix2 (y 0) 0) * (dnOf D Q W y * G (ix2 0 (y 1))
    - X y * Ideal.div (∑ k : Fin 1024, dnOf D Q W (ix2 (y 0) k) * G (ix2 0 k) * X (ix2 (y 0) k)) (Ideal.ofBits FTy.f32 0x44800000#32))

theorem dx_point (c : Dev nD) (t : Fin cfg0.N) (y : S1024x1024.Idx) :
    (outsAt0 m c t.val t.isLt).1 y = dxOf (iblk m c 0 t) (iblk m c 1 t) (iblk m c 2 t) (iblk m c 4 t) (iblk m c 6 t) (V m c main_v32) y := by
  by_cases h0 : t.val % 16 = 0
  · refine (congrFun (congrArg (fun o => o.1) (outsAt0_A m c t h0 (by omega))) y).trans ?_
    frame_out
    simp only [load_copied, load_whole]
    exact dx_at (iblk m c 0 t) (iblk m c 1 t) (iblk m c 2 t) (iblk m c 4 t) (iblk m c 6 t) (V m c main_v32) y
  by_cases h1 : t.val % 16 = 15
  · refine (congrFun (congrArg (fun o => o.1) (outsAt0_C m c t h0 h1)) y).trans ?_
    frame_out
    simp only [read_unread_whole, before_wg m c t h0]
    exact dx_at (iblk m c 0 t) (iblk m c 1 t) (iblk m c 2 t) (iblk m c 4 t) (iblk m c 6 t) (V m c main_v32) y
  · refine (congrFun (congrArg (fun o => o.1) (outsAt0_B m c t h0 h1)) y).trans ?_
    frame_out
    simp only [read_unread_whole, before_wg m c t h0]
    exact dx_at (iblk m c 0 t) (iblk m c 1 t) (iblk m c 2 t) (iblk m c 4 t) (iblk m c 6 t) (V m c main_v32) y

/-- The gain's gradient: a point's rows. -/
def dgOf (D : FVec Ideal S1024x1024 .f32) (X Q A : FVec Ideal S1024x1024 .bf16) (P : FVec Ideal S1x1024x256 .f32) (G : FVec Ideal S1x1024 .f32) (W : FVec Ideal S1024x1024 .bf16) (y : S1x1024.Idx) : EReal :=
  ∑ k : Fin 1024, dnOf D Q W (ix2 k (y 1)) * X (ix2 k (y 1))

/-- What point `t` adds to it. -/
def dgAdd (c : Dev nD) (t : Fin cfg0.N) (y : S1x1024.Idx) : EReal :=
  dgOf (iblk m c 0 t) (iblk m c 1 t) (iblk m c 4 t) (iblk m c 3 t) (iblk m c 5 t) (iblk m c 6 t) (V m c main_v32) y

theorem dg_first (c : Dev nD) (t : Fin cfg0.N) (h0 : t.val % 16 = 0) (y : S1x1024.Idx) :
    (outsAt0 m c t.val t.isLt).2.1 y = dgAdd m c t y := by
  refine (congrFun (congrArg (fun o => o.2.1) (outsAt0_A m c t h0 (by omega))) y).trans ?_
  frame_out
  simp only [load_copied, load_whole]
  refine (dg_at (iblk m c 0 t) (iblk m c 1 t) (iblk m c 4 t) (V m c main_v32) (k0_pay9 (F := Ideal)) y).trans ?_
  have z : k0_pay9 (F := Ideal) y = (0 : EReal) := by pointwise [k0_pay9]
  rw [z, zero_add]
  rfl

theorem dg_next (c : Dev nD) (t : Fin cfg0.N) (h0 : ¬t.val % 16 = 0) (y : S1x1024.Idx) :
    (outsAt0 m c t.val t.isLt).2.1 y = (outsAt0 m c (t.val - 1) (Nat.lt_of_le_of_lt (Nat.sub_le _ _) t.isLt)).2.1 y + dgAdd m c t y := by
  by_cases h1 : t.val % 16 = 15
  · refine (congrFun (congrArg (fun o => o.2.1) (outsAt0_C m c t h0 h1)) y).trans ?_
    frame_out
    simp only [read_unread_whole, before_wg m c t h0]
    exact dg_at (iblk m c 0 t) (iblk m c 1 t) (iblk m c 4 t) (V m c main_v32) (outsAt0 m c (t.val - 1) (Nat.lt_of_le_of_lt (Nat.sub_le _ _) t.isLt)).2.1 y
  · refine (congrFun (congrArg (fun o => o.2.1) (outsAt0_B m c t h0 h1)) y).trans ?_
    frame_out
    simp only [read_unread_whole, before_wg m c t h0]
    exact dg_at (iblk m c 0 t) (iblk m c 1 t) (iblk m c 4 t) (V m c main_v32) (outsAt0 m c (t.val - 1) (Nat.lt_of_le_of_lt (Nat.sub_le _ _) t.isLt)).2.1 y

/-- The gate weight's gradient: a point's rows. -/
def dwgOf (D : FVec Ideal S1024x1024 .f32) (X Q A : FVec Ideal S1024x1024 .bf16) (P : FVec Ideal S1x1024x256 .f32) (G : FVec Ideal S1x1024 .f32) (W : FVec Ideal S1024x1024 .bf16) (y : S1024x1024.Idx) : EReal :=
  ∑ k : Fin 1024, X (ix2 k (y 0)) * G (ix2 0 (y 0)) * (D (ix2 k (y 1)) * Q (ix2 k (y 1)))

/-- What point `t` adds to it. -/
def dwgAdd (c : Dev nD) (t : Fin cfg0.N) (y : S1024x1024.Idx) : EReal :=
  dwgOf (iblk m c 0 t) (iblk m c 1 t) (iblk m c 4 t) (iblk m c 3 t) (iblk m c 5 t) (iblk m c 6 t) (V m c main_v32) y

theorem dwg_first (c : Dev nD) (t : Fin cfg0.N) (h0 : t.val % 16 = 0) (y : S1024x1024.Idx) :
    (outsAt0 m c t.val t.isLt).2.2.2.1 y = dwgAdd m c t y := by
  refine (congrFun (congrArg (fun o => o.2.2.2.1) (outsAt0_A m c t h0 (by omega))) y).trans ?_
  frame_out
  refine (dwg_at (iblk m c 0 t) (iblk m c 1 t) (iblk m c 4 t) (iblk m c 6 t) (k0_pay7 (F := Ideal)) y).trans ?_
  have z : k0_pay7 (F := Ideal) y = (0 : EReal) := by pointwise [k0_pay7]
  rw [z, zero_add]
  rfl

theorem dwg_next (c : Dev nD) (t : Fin cfg0.N) (h0 : ¬t.val % 16 = 0) (y : S1024x1024.Idx) :
    (outsAt0 m c t.val t.isLt).2.2.2.1 y = (outsAt0 m c (t.val - 1) (Nat.lt_of_le_of_lt (Nat.sub_le _ _) t.isLt)).2.2.2.1 y + dwgAdd m c t y := by
  by_cases h1 : t.val % 16 = 15
  · refine (congrFun (congrArg (fun o => o.2.2.2.1) (outsAt0_C m c t h0 h1)) y).trans ?_
    frame_out
    simp only [read_unread_whole]
    exact dwg_at (iblk m c 0 t) (iblk m c 1 t) (iblk m c 4 t) (iblk m c 6 t) (outsAt0 m c (t.val - 1) (Nat.lt_of_le_of_lt (Nat.sub_le _ _) t.isLt)).2.2.2.1 y
  · refine (congrFun (congrArg (fun o => o.2.2.2.1) (outsAt0_B m c t h0 h1)) y).trans ?_
    frame_out
    simp only [read_unread_whole]
    exact dwg_at (iblk m c 0 t) (iblk m c 1 t) (iblk m c 4 t) (iblk m c 6 t) (outsAt0 m c (t.val - 1) (Nat.lt_of_le_of_lt (Nat.sub_le _ _) t.isLt)).2.2.2.1 y

/-- The projection's gradient: a point's rows. -/
def dwpOf (D : FVec Ideal S1024x1024 .f32) (X Q A : FVec Ideal S1024x1024 .bf16) (P : FVec Ideal S1x1024x256 .f32) (G : FVec Ideal S1x1024 .f32) (W : FVec Ideal S1024x1024 .bf16) (y : S256x1024.Idx) : EReal :=
  ∑ k : Fin 1024, P (ix3 0 k (y 0)) * (D (ix2 k (y 1)) * A (ix2 k (y 1)))

/-- What point `t` adds to it. -/
def dwpAdd (c : Dev nD) (t : Fin cfg0.N) (y : S256x1024.Idx) : EReal :=
  dwpOf (iblk m c 0 t) (iblk m c 1 t) (iblk m c 4 t) (iblk m c 3 t) (iblk m c 5 t) (iblk m c 6 t) (V m c main_v32) y

theorem dwp_first (c : Dev nD) (t : Fin cfg0.N) (h0 : t.val % 16 = 0) (y : S256x1024.Idx) :
    (outsAt0 m c t.val t.isLt).2.2.2.2 y = dwpAdd m c t y := by
  refine (congrFun (congrArg (fun o => o.2.2.2.2) (outsAt0_A m c t h0 (by omega))) y).trans ?_
  frame_out
  refine (dwp_at (iblk m c 0 t) (iblk m c 3 t) (iblk m c 5 t) (k0_pay8 (F := Ideal)) y).trans ?_
  have z : k0_pay8 (F := Ideal) y = (0 : EReal) := by pointwise [k0_pay8]
  rw [z, zero_add]
  rfl

theorem dwp_next (c : Dev nD) (t : Fin cfg0.N) (h0 : ¬t.val % 16 = 0) (y : S256x1024.Idx) :
    (outsAt0 m c t.val t.isLt).2.2.2.2 y = (outsAt0 m c (t.val - 1) (Nat.lt_of_le_of_lt (Nat.sub_le _ _) t.isLt)).2.2.2.2 y + dwpAdd m c t y := by
  by_cases h1 : t.val % 16 = 15
  · refine (congrFun (congrArg (fun o => o.2.2.2.2) (outsAt0_C m c t h0 h1)) y).trans ?_
    frame_out
    simp only [read_unread_whole]
    exact dwp_at (iblk m c 0 t) (iblk m c 3 t) (iblk m c 5 t) (outsAt0 m c (t.val - 1) (Nat.lt_of_le_of_lt (Nat.sub_le _ _) t.isLt)).2.2.2.2 y
  · refine (congrFun (congrArg (fun o => o.2.2.2.2) (outsAt0_B m c t h0 h1)) y).trans ?_
    frame_out
    simp only [read_unread_whole]
    exact dwp_at (iblk m c 0 t) (iblk m c 3 t) (iblk m c 5 t) (outsAt0 m c (t.val - 1) (Nat.lt_of_le_of_lt (Nat.sub_le _ _) t.isLt)).2.2.2.2 y

end Cert.EmbedKernelIdeal.Value
-- ==== Proof.EmbedRun.lean ====
module

public import proofs.«01_k».proof.Proof.Gen.EmbedKernelIdeal.Frame

@[expose] public section

set_option maxRecDepth 16384

/-! # The embedding layer's backward call: the last grid point, run with the copied-out arrays named

The last point stages both weights' gradients and copies them out. Here its run is stated with what the two arrays hold
afterwards, of what the staging buffers held before. -/

noncomputable section

namespace Cert.EmbedKernelIdeal.Last

open Cert.EmbedKernelIdeal Cert.EmbedKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- The last point's run: the pieces it stores (`L`, `LS`) and what the two copied-out arrays hold after it (`gw2`, `gw3`). -/
noncomputable def lastRun (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x256 .f32) (harg6 : arg6.IsWhole) (arg7 : Memref sig .tc .vmem S1x1024 .f32) (harg7 : arg7.IsWhole) (arg10 : Memref sig .tc .vmem S1024x1024 .f32) (harg10 : arg10.IsWhole) (arg11 : Memref sig .tc .vmem S1x1024 .f32) (harg11 : arg11.IsWhole) (arg14 : Memref sig .tc .vmem S1024x1024 .bf16) (harg14 : arg14.IsWhole) (arg15 : Memref sig .tc .vmem S256x1024 .bf16) (harg15 : arg15.IsWhole) (arg16 : Memref sig .tc .vmem S1024x1024 .f32) (harg16 : arg16.IsWhole) (arg17 : Memref sig .tc .vmem S256x1024 .f32) (harg17 : arg17.IsWhole) (hc0 : ¬cond0_0 i) (hc1 : cond0_1 i)
    (x0 : Vec F S1024x1024 .f32) (x1 : Vec F S1024x1024 .bf16) (x2 : Vec F S1024x128 .f32) (x3 : Vec F S1024x1024 .bf16) (x4 : Vec F S1024x1024 .bf16) (x5 : Vec F S1x1024x256 .f32) (x6 : Vec F S1x1024 .f32) (xo8 : Vec F S1x1024 .f32) (xs0 : Vec F S1024x1024 .bf16) (xs2 : Vec F S1024x1024 .f32) (xs3 : Vec F S256x1024 .f32) (fh0 : HbBuf0 (F := F) c hbM0_0) (fh1 : HbBuf0 (F := F) c hbM0_1) (xs1 : Vec F S256x1024 .bf16) (fw2 : HbBuf0 (F := F) c hbM0_2) (fw3 : HbBuf0 (F := F) c hbM0_3) :
    Σ' (L7 : List (View.Piece (Elt F) S1024x1024 .f32)), Σ' (L8 : List (View.Piece (Elt F) S1x1024 .f32)), Σ' (LS0 : List (View.Piece (Elt F) S1024x1024 .bf16)), Σ' (LS2 : List (View.Piece (Elt F) S1024x1024 .f32)), Σ' (LS3 : List (View.Piece (Elt F) S256x1024 .f32)), Σ' (gw2 : HbBuf0 (F := F) c hbM0_2), { gw3 : HbBuf0 (F := F) c hbM0_3 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ owns (c : Thread nD τ) arg11 fullShare xo8 ∗ owns (c : Thread nD τ) arg14 fullShare xs0 ∗ owns (c : Thread nD τ) arg15 fullShare xs1 ∗ owns (c : Thread nD τ) arg16 fullShare xs2 ∗ owns (c : Thread nD τ) arg17 fullShare xs3 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fw2 ∗ hbPt0 c hbM0_3 fw3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg14.view.loc (c : Thread nD τ) ↦[arg14.view.set]{fullShare} arg14.view.writes (Elt F) f LS0) ∗ (∃ d, owns (c : Thread nD τ) arg15 fullShare d) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 gw2 ∗ hbPt0 c hbM0_3 gw3 ∗ (∃ W', owes (c : Thread nD τ) 0 W')) -∗ K ⟨⟩))
          ⊢ wp frame (wpE (defs₀ (F := F)) Variants.none c none) Set.univ (cc0_ple_bwd_0 i arg1 harg1 arg2 harg2 arg3 harg3 arg4 harg4 arg5 harg5 arg6 harg6 arg7 harg7 (Memref.whole main_v32) (Memref.isWhole_whole _) (Memref.whole main_v33) (Memref.isWhole_whole _) arg10 harg10 arg11 harg11 (Memref.whole main_v34_2) (Memref.isWhole_whole _) (Memref.whole main_v34_3) (Memref.isWhole_whole _) arg14 harg14 arg15 harg15 arg16 harg16 arg17 harg17 cc0_scratch4) K } := by
  refine ⟨?_, ?_, ?_, ?_, ?_, ?_, ?_, fun W K => ?run⟩
  case run =>
    simp only [cc0_ple_bwd_0_eq_skeleton]; unfold cc0_ple_bwd_0_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%fs1, %hfs1, HS1⟩, ⟨%fs2, %hfs2, HS2⟩, ⟨%fs3, %hfs3, HS3⟩, Hq0, Hq1, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf8; obtain rfl := harg14.eq_unread hfs0; obtain rfl := harg15.eq_unread hfs1; obtain rfl := harg16.eq_unread hfs2; obtain rfl := harg17.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]; · iexists _; iexact HS0
    isplitl [HS1]
    · iexists _, _; isplitr; swap; · iexact HS1
      ipureintro; rfl
    isplitl [HS2]; · iexists _; iexact HS2
    isplitl [HS3]; · iexists _; iexact HS3
    isplitl [Hq0]; · iexact Hq0
    isplitl [Hq1]; · iexact Hq1
    isplitl [Hh0]; · iexact Hh0
    isplitl [Hh1]; · iexact Hh1
    isplitl [Hh2]; · iexact Hh2
    isplitl [Hh3]; · iexact Hh3
    iexists _; iexact HW

end Cert.EmbedKernelIdeal.Last
-- ==== Proof.EmbedStage.lean ====
module

public import proofs.«01_k».proof.Proof.EmbedRun
public import proofs.«01_k».proof.Proof.EmbedTiles
public import Idealize.ShloMosaic.Lib.Pipeline.CanonAppend

@[expose] public section

set_option maxRecDepth 16384

/-! # The embedding layer's backward call: the weight gradients' way out

The last grid point rounds both accumulated weight gradients into the staging buffers, strip by strip, and copies the buffers out.
Read at the ideal floats, each copied array is the accumulator that point leaves. -/

noncomputable section

open Idealize.ShloMosaic Idealize.ShloMosaic.TcCoe Idealize.SL.Sem
open Idealize.ShloMosaic.Pipeline (Dat)

namespace Cert.EmbedKernelIdeal.Last

open Cert.EmbedKernelIdeal Cert.EmbedKernelIdeal.Gen
open Idealize.ShloMosaic.Rounds

section Loops

variable (𝒱 : Variants) (c : Dev nD) (bd : Option 𝒱.V) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x256 .f32) (harg6 : arg6.IsWhole) (arg7 : Memref sig .tc .vmem S1x1024 .f32) (harg7 : arg7.IsWhole) (arg8 : Memref sig .tc .hbm S1024x1024 .bf16) (harg8 : arg8.IsWhole) (arg9 : Memref sig .tc .hbm S8x128 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .hbm S1024x1024 .bf16) (harg12 : arg12.IsWhole) (arg13 : Memref sig .tc .hbm S256x1024 .bf16) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S1024x1024 .f32) (harg16 : arg16.IsWhole) (arg17 : Memref sig .tc .vmem S256x1024 .f32) (harg17 : arg17.IsWhole) (arg18 : DmaSems sig S2) (h : k0_cond2 i = 1#1)

/-- The staged strip is the accumulator's strip: the narrower format has the same values. -/
theorem strip1 (v : FVec Ideal S128x1024 .f32) (i : S128x1024.Idx) : k0_pay5 (F := Ideal) v i = v i := by pointwise [k0_pay5]

/-- Every piece one trip of the staging loop stores is a strip of the accumulator. -/
theorem trip1 (X : BufTy.Contents (Elt Ideal) arg16.view.ty) (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k, ∀ x : p.1.shape.Idx, p.2 x = arg16.view.read (Elt Ideal) X (p.1.emb x) := by
  unfold tripL_k0_t1 trip_k0_t1
  intro p hp x
  simp only [List.mem_singleton, List.mem_cons, List.not_mem_nil, or_false] at hp
  subst hp
  exact (strip1 _ x).trans (by rw [View.readAt_apply]; rfl)

/-- So is every piece of the trips before `n`. -/
theorem strips1 (X : BufTy.Contents (Elt Ideal) arg16.view.ty) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X n, ∀ x : p.1.shape.Idx, p.2 x = arg16.view.read (Elt Ideal) X (p.1.emb x)
  | 0, _ => by intro p hp; exact absurd hp (by unfold pb_k0_t1; exact List.not_mem_nil)
  | n + 1, hn => by
    intro p hp x
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X ⟨n, hn⟩] at hp
    rcases List.mem_append.mp hp with hp | hp
    · exact trip1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X ⟨n, hn⟩ p hp x
    · exact strips1 X n (Nat.le_of_lt hn) p hp x

/-- The staging buffer, after all strips are staged, reads as the accumulator. -/
theorem staged1 (X : BufTy.Contents (Elt Ideal) arg16.view.ty) (f : arg14.view.ty.Contents (Elt Ideal))
    (hc : ∀ y, ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k0_t1_loop.trips, y ∈ p.1.set) (y : S1024x1024.Idx) :
    View.read (Elt Ideal) arg14.view (arg14.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k0_t1_loop.trips)) y
      = arg16.view.read (Elt Ideal) X y := by
  refine (View.read_writes_apply_eq_canon arg14.view f y _ (hc _)).trans ?_
  have e := View.canon_append_of_pieces (e := .bf16) (arg16.view.read (Elt Ideal) X) [] (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k0_t1_loop.trips)
    (strips1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k0_t1_loop.trips le_rfl) y (hc _)
  exact (congrFun (congrArg View.canon (List.append_nil _)) _).symm.trans e

/-- The same of the second staging buffer. -/
theorem strip2 (v : FVec Ideal S128x1024 .f32) (i : S128x1024.Idx) : k0_pay6 (F := Ideal) v i = v i := by pointwise [k0_pay6]

/-- Every piece one trip of the staging loop stores is a strip of the accumulator. -/
theorem trip2 (X : BufTy.Contents (Elt Ideal) arg17.view.ty) (k : Fin k0_t2_loop.trips) :
    ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k, ∀ x : p.1.shape.Idx, p.2 x = arg17.view.read (Elt Ideal) X (p.1.emb x) := by
  unfold tripL_k0_t2 trip_k0_t2
  intro p hp x
  simp only [List.mem_singleton, List.mem_cons, List.not_mem_nil, or_false] at hp
  subst hp
  exact (strip2 _ x).trans (by rw [View.readAt_apply]; rfl)

/-- So is every piece of the trips before `n`. -/
theorem strips2 (X : BufTy.Contents (Elt Ideal) arg17.view.ty) :
    ∀ n, n ≤ k0_t2_loop.trips → ∀ p ∈ pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X n, ∀ x : p.1.shape.Idx, p.2 x = arg17.view.read (Elt Ideal) X (p.1.emb x)
  | 0, _ => by intro p hp; exact absurd hp (by unfold pb_k0_t2; exact List.not_mem_nil)
  | n + 1, hn => by
    intro p hp x
    rw [pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X ⟨n, hn⟩] at hp
    rcases List.mem_append.mp hp with hp | hp
    · exact trip2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X ⟨n, hn⟩ p hp x
    · exact strips2 X n (Nat.le_of_lt hn) p hp x

/-- The staging buffer, after all strips are staged, reads as the accumulator. -/
theorem staged2 (X : BufTy.Contents (Elt Ideal) arg17.view.ty) (f : arg15.view.ty.Contents (Elt Ideal))
    (hc : ∀ y, ∃ p ∈ pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k0_t2_loop.trips, y ∈ p.1.set) (y : S256x1024.Idx) :
    View.read (Elt Ideal) arg15.view (arg15.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k0_t2_loop.trips)) y
      = arg17.view.read (Elt Ideal) X y := by
  refine (View.read_writes_apply_eq_canon arg15.view f y _ (hc _)).trans ?_
  have e := View.canon_append_of_pieces (e := .bf16) (arg17.view.read (Elt Ideal) X) [] (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k0_t2_loop.trips)
    (strips2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h X k0_t2_loop.trips le_rfl) y (hc _)
  exact (congrFun (congrArg View.canon (List.append_nil _)) _).symm.trans e

end Loops

variable (m : (ℓ : Loc nD τ sig) → Buf (Elt Ideal) ℓ)

/-- The last point's run, at what the grid point before left. -/
abbrev lastAt (c : Dev nD) (t : Fin cfg0.N) (h0 : ¬t.val % 16 = 0) (h1 : t.val % 16 = 15) (xs1 : Vec Ideal S256x1024 .bf16)
    (fw2 : HbBuf0 (F := Ideal) c hbM0_2) (fw3 : HbBuf0 (F := Ideal) c hbM0_3) :=
  lastRun (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v32) (V m c main_v33) xs1 fw2 fw3

variable (c : Dev nD) (t : Fin cfg0.N) (h0 : ¬t.val % 16 = 0) (h1 : t.val % 16 = 15) (xs1 : Vec Ideal S256x1024 .bf16)
  (fw2 : HbBuf0 (F := Ideal) c hbM0_2) (fw3 : HbBuf0 (F := Ideal) c hbM0_3)

/-- It stores the pieces the point is known to store. -/
theorem same7 : (lastAt m c t h0 h1 xs1 fw2 fw3).1 = (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v32) (V m c main_v33)).1 := by unfold lastAt lastRun kernelRun0_C; rfl
@[inherit_doc same7] theorem same8 : (lastAt m c t h0 h1 xs1 fw2 fw3).2.1 = (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v32) (V m c main_v33)).2.1 := by unfold lastAt lastRun kernelRun0_C; rfl
@[inherit_doc same7] theorem same16 : (lastAt m c t h0 h1 xs1 fw2 fw3).2.2.2.1 = (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v32) (V m c main_v33)).2.2.2.1 := by unfold lastAt lastRun kernelRun0_C; rfl
@[inherit_doc same7] theorem same17 : (lastAt m c t h0 h1 xs1 fw2 fw3).2.2.2.2.1 = (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v32) (V m c main_v33)).2.2.2.2.1 := by unfold lastAt lastRun kernelRun0_C; rfl

/-- The first copied-out array is the gate weight's accumulator. -/
theorem out2_eq : (lastAt m c t h0 h1 xs1 fw2 fw3).2.2.2.2.2.1 = (outsAt0 m c t.val t.isLt).2.2.2.1 := by
  refine Eq.trans ?_ (congrArg (fun o => o.2.2.2.1) (outsAt0_C m c t h0 h1)).symm
  dsimp only; unfold lastAt lastRun sout0_C_2 kernelRun0_C; dsimp only
  unfold lastRun.sl.dma0
  refine (View.write_whole_univ _ _ _).trans ?_
  funext y
  exact staged1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole main_v32) (Memref.isWhole_whole _) (Memref.whole main_v33) (Memref.isWhole_whole _) (ms0_7 t) (hs0_7 t) (ms0_8 t) (hs0_8 t) (Memref.whole main_v34_2) (Memref.isWhole_whole _) (Memref.whole main_v34_3) (Memref.isWhole_whole _) scM0_0 (Memref.isWhole_whole _) scM0_1 (Memref.isWhole_whole _) scM0_2 (Memref.isWhole_whole _) scM0_3 (Memref.isWhole_whole _) cc0_scratch4 ((hcond0_1 t).mpr h1) _ _ (View.cover_of_tiledL (s := S1024x1024) _ ![128, 1024] (by sl_kernel_rfl)) y

/-- The second is the projection's accumulator. -/
theorem out3_eq : (lastAt m c t h0 h1 xs1 fw2 fw3).2.2.2.2.2.2.1 = (outsAt0 m c t.val t.isLt).2.2.2.2 := by
  refine Eq.trans ?_ (congrArg (fun o => o.2.2.2.2) (outsAt0_C m c t h0 h1)).symm
  dsimp only; unfold lastAt lastRun sout0_C_3 kernelRun0_C; dsimp only
  unfold lastRun.sl.dma0_1
  refine (View.write_whole_univ _ _ _).trans ?_
  funext y
  exact staged2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole main_v32) (Memref.isWhole_whole _) (Memref.whole main_v33) (Memref.isWhole_whole _) (ms0_7 t) (hs0_7 t) (ms0_8 t) (hs0_8 t) (Memref.whole main_v34_2) (Memref.isWhole_whole _) (Memref.whole main_v34_3) (Memref.isWhole_whole _) scM0_0 (Memref.isWhole_whole _) scM0_1 (Memref.isWhole_whole _) scM0_2 (Memref.isWhole_whole _) scM0_3 (Memref.isWhole_whole _) cc0_scratch4 ((hcond0_1 t).mpr h1) _ _ (View.cover_of_tiledL (s := S256x1024) _ ![128, 1024] (by sl_kernel_rfl)) y

end Cert.EmbedKernelIdeal.Last
-- ==== Proof.EmbedLaunch.lean ====
module

public import proofs.«01_k».proof.Proof.EmbedStage
public import Idealize.ShloMosaic.Lib.Pipeline.FrameValue

@[expose] public section

set_option maxRecDepth 16384

/-! # The embedding layer's backward call: the launch, with the two copied-out weight gradients named

The grid points before the last are as the frame certificate has them. After the last point the two arrays its copies write hold the two
accumulators, so the launch is stated with these contents. -/

noncomputable section

namespace Cert.EmbedKernelIdeal.Last

open Cert.EmbedKernelIdeal Cert.EmbedKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

theorem last_lt : 15 < cfg0.N := by rw [show cfg0.N = 16 from N_0]; decide

/-- The written arrays after the last point: the two accumulators. -/
def hbG (c : Dev nD) : (b : Ref sig .tc) → Buf (Elt Ideal) ((c : Thread nD τ).loc b) :=
  Function.update (Function.update ((V m) c) main_v34_2 (outsAt0 m c 15 last_lt).2.2.2.1) main_v34_3 (outsAt0 m c 15 last_lt).2.2.2.2
theorem hbG_2 (c : Dev nD) : hbG m c main_v34_2 = (outsAt0 m c 15 last_lt).2.2.2.1 := by
  unfold hbG
  rw [Function.update_of_ne (by decide), Function.update_self]
theorem hbG_3 (c : Dev nD) : hbG m c main_v34_3 = (outsAt0 m c 15 last_lt).2.2.2.2 := by
  unfold hbG
  rw [Function.update_self]

/-- Their ownership, listed. -/
theorem heldG_eq (c : Dev nD) :
    (Pipeline.routed R0 c (hbG m c) : sProp 𝕄) = iprop(hbPt0 c hbM0_2 (outsAt0 m c 15 last_lt).2.2.2.1 ∗ hbPt0 c hbM0_3 (outsAt0 m c 15 last_lt).2.2.2.2) := by
  unfold Pipeline.routed; rw [BI.bigSep_eq_bigSepL_of_eq [main_v34_2, main_v34_3] (by decide) (by decide)]
  simp only [BI.bigSepL_cons_cons, BI.bigSepL_singleton, hbG_2, hbG_3]; try rfl

/-- The invariant after the last point, conjunct by conjunct. -/
theorem after_last_eq (c : Dev nD) :
    (Pipeline.ΦDRG osem0 spec0 H0 R0 (V m) (hbG m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 16) 0 ∗ semVal ((c : Thread nD τ), SemLoc.dma 17) 0) ∗ iprop(hbPt0 c hbM0_0 (V m c main_v32) ∗ hbPt0 c hbM0_1 (V m c main_v33)) ∗ iprop(hbPt0 c hbM0_2 (outsAt0 m c 15 last_lt).2.2.2.1 ∗ hbPt0 c hbM0_3 (outsAt0 m c 15 last_lt).2.2.2.2)) := by
  rw [Pipeline.ΦDRG_eq, scopedRest0_eq, ownSems00_eq, hbmPts0_eq, heldG_eq]; simp only [scM0_0, scM0_1, scM0_2, scM0_3, owns_whole]; try rfl

/-- What the last point's body returns. -/
def lastPost (c : Dev nD) (t : Fin cfg0.N) : sProp 𝕄 :=
  iprop(Pipeline.ΦDRG osem0 spec0 H0 R0 (V m) (hbG m) c ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- The two accumulators, at the last point. -/
theorem acc_at (c : Dev nD) (t : Fin cfg0.N) (h : t.val = 15) : outsAt0 m c 15 last_lt = outsAt0 m c t.val t.isLt := by
  obtain ⟨n, hn⟩ := t
  subst h
  rfl

set_option maxHeartbeats 4000000 in
/-- The last point's body. -/
theorem last_body (c : Dev nD) (t : Fin cfg0.N) (h : t.val = 15) :
    bodyPre m c t ⊢ wp frame (wpE (defs₀ (F := Ideal)) Variants.none c none) Set.univ (bodyAt0 t) (fun _ => lastPost m c t) := by
  have h0 : ¬t.val % 16 = 0 := by omega
  have h1 : t.val % 16 = 15 := by omega
  have hz : t.val ≠ 0 := by omega
  unfold bodyPre lastPost bodyAt0
  simp only [before0_0, before0_1, before0_2, before0_3, before0_4, before0_5, before0_6]
  rw [after0_0, after0_1, after0_2, after0_3, after0_4, after0_5, after0_6, after0_7, after0_8]
  rw [show (outsAt0 m c t.val t.isLt).1 = _ from congrArg (fun o => o.1) (outsAt0_C m c t h0 h1),
    show (outsAt0 m c t.val t.isLt).2.1 = _ from congrArg (fun o => o.2.1) (outsAt0_C m c t h0 h1)]
  unfold Dat.owesAt Pipeline.owesWithin
  rw [show (dats m 0 c).owed t.castSucc = 0 from rfl, show (dats m 0 c).owed t.succ = 0 from rfl]
  rw [PhiS_castSucc m c t, PhiS_pos m c _ _ hz, after_last_eq, acc_at m c t h]
  simp only [before0_8_C m c t h0 h1]
  unfold out0_C_7 out0_C_8; (try dsimp only)
  iintro ⟨⟨⟨HS0, ⟨%xs1, HS1⟩, HS2, HS3⟩, Hg, ⟨Hq0, Hq1⟩, ⟨Hh0, Hh1⟩, ⟨⟨%fw2, Hh2⟩, ⟨%fw3, Hh3⟩⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((lastAt m c t h0 h1 xs1 fw2 fw3).2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, ⟨%e7, H7⟩, ⟨%e8, H8⟩, ⟨%es0, HS0⟩, HS1, ⟨%es2, HS2⟩, ⟨%es3, HS3⟩, Hq0, Hq1, Hh0, Hh1, Hh2, Hh3, ⟨%W', HW'⟩⟩
  isplitl [HS0 HS1 HS2 HS3 Hg Hq0 Hq1 Hh0 Hh1 Hh2 Hh3]
  · isplitl [HS0 HS1 HS2 HS3]
    · isplitl [HS0]
      · unfold owns; iexists _, _; isplitr
        swap; · iexact HS0
        ipureintro; rfl
      isplitl [HS1]; · iexact HS1
      isplitl [HS2]
      · unfold owns; iexists _, _; isplitr
        swap; · iexact HS2
        ipureintro; rfl
      unfold owns; iexists _, _; isplitr
      swap; · iexact HS3
      ipureintro; rfl
    isplitl [Hg]
    · iexact Hg
    isplitl [Hq0 Hq1]
    · isplitl [Hq0]; · iexact Hq0
      iexact Hq1
    isplitl [Hh0 Hh1]
    · isplitl [Hh0]; · iexact Hh0
      iexact Hh1
    isplitl [Hh2]
    · iapply (show hbPt0 c hbM0_2 (lastAt m c t h0 h1 xs1 fw2 fw3).2.2.2.2.2.1 ⊢ hbPt0 c hbM0_2 (outsAt0 m c t.val t.isLt).2.2.2.1 from
        Entails.of_eq (congrArg (hbPt0 c hbM0_2) (out2_eq m c t h0 h1 xs1 fw2 fw3)))
      iexact Hh2
    iapply (show hbPt0 c hbM0_3 (lastAt m c t h0 h1 xs1 fw2 fw3).2.2.2.2.2.2.1 ⊢ hbPt0 c hbM0_3 (outsAt0 m c t.val t.isLt).2.2.2.2 from
      Entails.of_eq (congrArg (hbPt0 c hbM0_3) (out3_eq m c t h0 h1 xs1 fw2 fw3)))
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rw [same7 m c t h0 h1 xs1 fw2 fw3]; exact View.read_writes_of_cover _ _ _ _ _ (cover0_C_7 c _ _ _ _ _ _ _ _ _ _ _ _ _ _ _ _ _ _ _ _ _ _ _ _ _ _ _ _ _ _ _ _ _ _ _ _ _ _ _ _ _ _)
  unfold owns; iexists _; isplitr
  swap; · iexact H8
  ipureintro; rw [same8 m c t h0 h1 xs1 fw2 fw3]; exact View.read_writes_of_cover _ _ _ _ _ (cover0_C_8 c _ _ _ _ _ _ _ _ _ _ _ _ _ _ _ _ _ _ _ _ _ _ _ _ _ _ _ _ _ _ _ _ _ _ _ _ _ _ _ _ _ _)

/-- The proof data: the certificate's, with the invariant after the last point at the accumulators. -/
def dats' (p : Fin 1) (c : Dev nD) : Dat τ (Elt Ideal) Unit ℕ (Pipeline.UD sig nD τ) ℕ cfg0 c :=
  { dats m p c with Φ := fun t => if t.val = 16 then Pipeline.ΦDRG osem0 spec0 H0 R0 (V m) (hbG m) c else (dats m p c).Φ t }

theorem Phi_early (c : Dev nD) (t : Fin (cfg0.N + 1)) (h : t.val ≠ 16) : (dats' m 0 c).Φ t = (dats m 0 c).Φ t := if_neg h
theorem Phi_last (c : Dev nD) (t : Fin (cfg0.N + 1)) (h : t.val = 16) : (dats' m 0 c).Φ t = Pipeline.ΦDRG osem0 spec0 H0 R0 (V m) (hbG m) c := if_pos h

set_option maxHeartbeats 4000000 in
/-- The body obligation, at every point. -/
theorem body_obligation' (c : Dev nD) : BodyObligation (dats' m 0 c) (defs₀ (F := Ideal)) Variants.none () Set.univ := fun t => by
  rw [bigSep_W0, bigSep_W0, defs₀_row]
  have hN : t.val < 16 := lt_of_lt_of_eq t.isLt (show cfg0.N = 16 from N_0)
  rw [Phi_early m c t.castSucc (show t.val ≠ 16 by omega)]
  by_cases h : t.val = 15
  · rw [Phi_last m c t.succ (show t.val + 1 = 16 by omega)]
    exact triple_restated (last_body m c t h) rfl .rfl fun _ => .rfl
  · rw [Phi_early m c t.succ (show t.val + 1 ≠ 16 by omega)]
    exact triple_restated (sound_body m c t) rfl .rfl fun _ => .rfl

theorem A_eq' (c : Dev nD) (w : Fin cfg0.W) : (dats' m 0 c).A w = V m c (Pipeline.arrRef spec0 w) := by
  dsimp only [dats', dats]

theorem hin' (c : Dev nD) : Pipeline.ΦDRG osem0 spec0 H0 R0 (V m) (V m) c ⊢ (dats' m 0 c).Φ 0 := by
  rw [Phi_early m c 0 (by decide)]
  exact (Pipeline.ΦDRG_ΦDR osem0 spec0 H0 R0 (V m) (V m) c).trans (hin m c)

theorem hout' (c : Dev nD) : (dats' m 0 c).Φ (Fin.last cfg0.N) ⊢ Pipeline.ΦDRG osem0 spec0 H0 R0 (V m) (hbG m) c := by
  rw [Phi_last m c (Fin.last cfg0.N) (by rw [Fin.val_last]; exact N_0)]

set_option backward.isDefEq.respectTransparency.types false in
/-- The launch: every window's array at what the points leave, the two copied-out arrays at the accumulators. -/
theorem run_main' : θ_run defs (onTc (τ := τ) (main (F := Ideal))) (s₀ m ρ) (Pipeline.FramePostRG cfgs (dats' m) 0 R0 (V m) (hbG m)) :=
  (θ_run defs _ _).mono (fun _ h => h.1) (Pipeline.θ_run_frame_dmaRG (Q' := fun r => (Pipeline.FramePostRG cfgs (dats' m) 0 R0 (V m) (hbG m)) r ∧ r.2.sem = fun _ => 0) cfgs (dats' m) (0 : Fin 1) launch0 osem0 defs₀ Variants.none ownSemFacts0 H0 R0 H0_sub R0_sub m ρ main
    (hbody := fun c => (body_obligation' m c).loose) (hshare := fun c => (dats' m 0 c).share_full fun _ => rfl)
    (howed := fun _ _ => rfl) (V := V m) (hmain := hmain m Variants.none) (hA := A_eq' m) (G := hbG m)
    (hin := hin' m) (hout := hout' m))

end Cert.EmbedKernelIdeal.Last
-- ==== Proof.EmbedFinal.lean ====
module

public import proofs.«01_k».proof.Proof.EmbedHost
public import proofs.«01_k».proof.Proof.EmbedValue
public import proofs.«01_k».proof.Proof.EmbedLaunch

@[expose] public section

set_option maxRecDepth 16384

/-! # The embedding layer's backward call: its four result arrays are the reference's -/

noncomputable section

open Idealize.ShloMosaic Idealize.ShloMosaic.TcCoe Idealize.SL.Sem
open Idealize.ShloMosaic.Pipeline (Dat)

namespace Cert.EmbedKernelIdeal.Value

open Cert.EmbedKernelIdeal Cert.EmbedKernelIdeal.Gen
open Cert.EmbedReferenceIdeal (sc gt dpre dn)
variable (m : (ℓ : Loc nD τ sig) → Buf (Elt Ideal) ℓ)

/-- The block a window reads or writes at a point: rows `1024 t` on, every column; the gain and its gradient whole. -/
theorem block_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, t.val, 0] ∧ win0_6.index t = ![0, 0] ∧ win0_7.index t = ![t.val, 0] ∧ win0_8.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, t.val, 0] ∧ win0_6.index t = ![0, 0] ∧ win0_7.index t = ![t.val, 0] ∧ win0_8.index t = ![0, 0])

theorem d_block (c : Dev nD) (t : Fin cfg0.N) (y : S1024x1024.Idx) (i : S16384x1024.Idx) (h0 : (i 0).val = t.val * 1024 + (y 0).val) (h1 : (i 1).val = (y 1).val) :
    (iblk m c 0 t : FVec Ideal S1024x1024 .f32) y = Arg5 m c i := by
  blk_point [iblk, V, block_at t]

theorem x_block (c : Dev nD) (t : Fin cfg0.N) (y : S1024x1024.Idx) (i : S16384x1024.Idx) (h0 : (i 0).val = t.val * 1024 + (y 0).val) (h1 : (i 1).val = (y 1).val) :
    (iblk m c 1 t : FVec Ideal S1024x1024 .bf16) y = Arg0 m c i * sc (Arg0 m c) (i 0) := by
  rw [← x_at]
  blk_point [iblk, block_at t]

theorem s_block (c : Dev nD) (t : Fin cfg0.N) (y : S1024x128.Idx) (r : Fin 16384) (h0 : r.val = t.val * 1024 + (y 0).val) :
    (iblk m c 2 t : FVec Ideal S1024x128 .f32) y = sc (Arg0 m c) r := by
  rw [show sc (Arg0 m c) r = sc (Arg0 m c) ((ix2 r (y 1) : S16384x128.Idx) 0) from rfl, ← s_at]
  blk_point [iblk, block_at t]

theorem a_block (c : Dev nD) (t : Fin cfg0.N) (y : S1024x1024.Idx) (i : S16384x1024.Idx) (h0 : (i 0).val = t.val * 1024 + (y 0).val) (h1 : (i 1).val = (y 1).val) :
    (iblk m c 3 t : FVec Ideal S1024x1024 .bf16) y = gt (Arg0 m c) (Arg2 m c) (Arg3 m c) i := by
  rw [← gate_at]
  blk_point [iblk, block_at t]

theorem q_block (c : Dev nD) (t : Fin cfg0.N) (y : S1024x1024.Idx) (i : S16384x1024.Idx) (h0 : (i 0).val = t.val * 1024 + (y 0).val) (h1 : (i 1).val = (y 1).val) :
    (iblk m c 4 t : FVec Ideal S1024x1024 .bf16) y = Cert.EmbedReferenceIdeal.em (Arg1 m c) (Arg4 m c) i * gt (Arg0 m c) (Arg2 m c) (Arg3 m c) i * (1 - gt (Arg0 m c) (Arg2 m c) (Arg3 m c) i) := by
  rw [← q_at]
  blk_point [iblk, block_at t]

theorem p_block (c : Dev nD) (t : Fin cfg0.N) (a : Fin 1024) (k : Fin 256) (r : Fin 16384) (h : r.val = t.val * 1024 + a.val) :
    (iblk m c 5 t : FVec Ideal S1x1024x256 .f32) (ix3 0 a k) = Arg1 m c (ix3 0 r k) := by
  have h0 : ((ix3 0 r k : S4x16384x256.Idx) 0).val = ((ix3 0 a k : S1x1024x256.Idx) 0).val := rfl
  have h1 : ((ix3 0 r k : S4x16384x256.Idx) 1).val = t.val * 1024 + ((ix3 0 a k : S1x1024x256.Idx) 1).val := h
  have h2 : ((ix3 0 r k : S4x16384x256.Idx) 2).val = ((ix3 0 a k : S1x1024x256.Idx) 2).val := rfl
  generalize (ix3 0 a k : S1x1024x256.Idx) = y at *
  generalize (ix3 0 r k : S4x16384x256.Idx) = i at *
  blk_point [iblk, V, block_at t]

theorem g_block (c : Dev nD) (t : Fin cfg0.N) (k : Fin 1024) :
    (iblk m c 6 t : FVec Ideal S1x1024 .f32) (ix2 0 k) = Arg2 m c (ix1 k) := by
  blk_point [iblk, V, block_at t]

theorem w_at (c : Dev nD) (y : S1024x1024.Idx) : (V m c main_v32 : FVec Ideal S1024x1024 .bf16) y = Arg3 m c y := by
  blk_point [V]

/-- A point's gradient of the normalised, scaled rows is the reference's rows. -/
theorem dn_entry (c : Dev nD) (t : Fin cfg0.N) (y : S1024x1024.Idx) (i : S16384x1024.Idx) (h0 : (i 0).val = t.val * 1024 + (y 0).val) (h1 : (i 1).val = (y 1).val) :
    dnOf (iblk m c 0 t) (iblk m c 4 t) (V m c main_v32) y = dn (Arg0 m c) (Arg1 m c) (Arg2 m c) (Arg3 m c) (Arg4 m c) (Arg5 m c) i := by
  unfold dnOf dn dpre
  refine Finset.sum_congr rfl fun j _ => ?_
  rw [d_block m c t (ix2 (y 0) j) (ix2 (i 0) j) h0 rfl, q_block m c t (ix2 (y 0) j) (ix2 (i 0) j) h0 rfl, w_at, show y 1 = i 1 from Fin.ext h1.symm]

/-- A point's block of the input's gradient is the reference's rows. -/
theorem dx_entry (c : Dev nD) (hx : ∀ i, ∃ r : ℝ, Arg0 m c i = r) (hp : ∀ i, ∃ r : ℝ, Arg1 m c i = r) (hg : ∀ i, ∃ r : ℝ, Arg2 m c i = r)
    (hu : ∀ i, ∃ r : ℝ, Arg3 m c i = r) (hz : ∀ i, ∃ r : ℝ, Arg4 m c i = r) (hd : ∀ i, ∃ r : ℝ, Arg5 m c i = r)
    (t : Fin cfg0.N) (y : S1024x1024.Idx) (i : S16384x1024.Idx) (h0 : (i 0).val = t.val * 1024 + (y 0).val) (h1 : (i 1).val = (y 1).val) :
    dxOf (iblk m c 0 t) (iblk m c 1 t) (iblk m c 2 t) (iblk m c 4 t) (iblk m c 6 t) (V m c main_v32) y
      = Cert.EmbedReferenceIdeal.Read.val_main_v58 (F := Ideal) (Arg0 m c) (Arg1 m c) (Arg2 m c) (Arg3 m c) (Arg4 m c) (Arg5 m c) i := by
  rw [Cert.EmbedReferenceIdeal.ref_dx (hx := hx) (hp := hp) (hg := hg) (hu := hu) (hz := hz) (hd := hd)]
  unfold dxOf
  rw [d_block m c t y i h0 h1, s_block m c t (ix2 (y 0) 0) (i 0) h0, dn_entry m c t y i h0 h1, g_block m c t (y 1), x_block m c t y i h0 h1,
    show y 1 = i 1 from Fin.ext h1.symm]
  refine congrArg (fun z => Arg5 m c i + sc (Arg0 m c) (i 0) * (dn (Arg0 m c) (Arg1 m c) (Arg2 m c) (Arg3 m c) (Arg4 m c) (Arg5 m c) i * Arg2 m c (ix1 (i 1)) - Arg0 m c i * sc (Arg0 m c) (i 0) * Ideal.div z (Ideal.ofBits FTy.f32 0x44800000#32)))
    (Finset.sum_congr rfl fun k _ => ?_)
  rw [dn_entry m c t (ix2 (y 0) k) (ix2 (i 0) k) h0 rfl, g_block m c t k, x_block m c t (ix2 (y 0) k) (ix2 (i 0) k) h0 rfl]
  rfl

/-- The input's gradient. -/
theorem final_dx (c : Dev nD) (hx : ∀ i, ∃ r : ℝ, Arg0 m c i = r) (hp : ∀ i, ∃ r : ℝ, Arg1 m c i = r) (hg : ∀ i, ∃ r : ℝ, Arg2 m c i = r)
    (hu : ∀ i, ∃ r : ℝ, Arg3 m c i = r) (hz : ∀ i, ∃ r : ℝ, Arg4 m c i = r) (hd : ∀ i, ∃ r : ℝ, Arg5 m c i = r) :
    (dats m 0 c).arrAt 7 cfg0.N = Cert.EmbedReferenceIdeal.Read.val_main_v58 (F := Ideal) (Arg0 m c) (Arg1 m c) (Arg2 m c) (Arg3 m c) (Arg4 m c) (Arg5 m c) := by
  refine (dats m 0 c).arrAt_eq_of_covers 7 _ (by decide +kernel) fun t hf y => ?_
  blk_simp
  rw [after0_7, dx_point]
  refine dx_entry m c hx hp hg hu hz hd t y _ ?_ ?_ <;> blk_simp [block_at t]

/-- The gain's gradient after the last point. -/
theorem dg_sum (c : Dev nD) (t : Fin cfg0.N) (ht : t.val = 15) (i : S1x1024.Idx) :
    (outsAt0 m c t.val t.isLt).2.1 i = Cert.EmbedReferenceIdeal.Read.val_main_v61 (F := Ideal) (Arg0 m c) (Arg1 m c) (Arg2 m c) (Arg3 m c) (Arg4 m c) (Arg5 m c) i := by
  have hN : cfg0.N = 16 := N_0
  rw [Cert.EmbedReferenceIdeal.ref_dg]
  have s := Pipeline.eq_sum_fin_of_reset_step_apply_last (fun n h => (outsAt0 m c n h).2.1) 16 (fun _ => (0 : EReal)) (fun t y => dgAdd m c t y)
    (fun t h y => by rw [zero_add]; exact dg_first m c t h y) (fun t h y => dg_next m c t h y) (le_of_eq hN) t (by omega) i
  rw [zero_add] at s
  refine s.trans ?_
  show (_ : EReal) = _
  unfold dgAdd dgOf
  refine Fin.sum_mul_add_congr (S := cfg0.N) (n := 1024) (L := 16384) (fun t k hl => ?_) (by rw [hN])
  rw [dn_entry m c t _ (ix2 ⟨t.val * 1024 + k.val, hl⟩ (i 1)) rfl rfl, x_block m c t _ (ix2 ⟨t.val * 1024 + k.val, hl⟩ (i 1)) rfl rfl]
  rfl

/-- The gain's gradient. -/
theorem final_dg (c : Dev nD) :
    (dats m 0 c).arrAt 8 cfg0.N = Cert.EmbedReferenceIdeal.Read.val_main_v61 (F := Ideal) (Arg0 m c) (Arg1 m c) (Arg2 m c) (Arg3 m c) (Arg4 m c) (Arg5 m c) := by
  refine (dats m 0 c).arrAt_eq_of_covers 8 _ (by decide +kernel) fun t hf y => ?_
  have ht : t.val = 15 := by
    have h := (flush0_8 t).mp hf
    have := t.isLt
    have hN : cfg0.N = 16 := N_0
    omega
  blk_simp
  rw [after0_8, dg_sum m c t ht]
  congr 1
  blk_ext [block_at t]

/-- The gate weight's gradient after the last point. -/
theorem dwg_sum (c : Dev nD) (t : Fin cfg0.N) (ht : t.val = 15) (i : S1024x1024.Idx) :
    (outsAt0 m c t.val t.isLt).2.2.2.1 i = Cert.EmbedReferenceIdeal.Read.val_main_v62 (F := Ideal) (Arg0 m c) (Arg1 m c) (Arg2 m c) (Arg3 m c) (Arg4 m c) (Arg5 m c) i := by
  have hN : cfg0.N = 16 := N_0
  rw [Cert.EmbedReferenceIdeal.ref_dwg]
  have s := Pipeline.eq_sum_fin_of_reset_step_apply_last (fun n h => (outsAt0 m c n h).2.2.2.1) 16 (fun _ => (0 : EReal)) (fun t y => dwgAdd m c t y)
    (fun t h y => by rw [zero_add]; exact dwg_first m c t h y) (fun t h y => dwg_next m c t h y) (le_of_eq hN) t (by omega) i
  rw [zero_add] at s
  refine s.trans ?_
  show (_ : EReal) = _
  unfold dwgAdd dwgOf
  refine Fin.sum_mul_add_congr (S := cfg0.N) (n := 1024) (L := 16384) (fun t k hl => ?_) (by rw [hN])
  rw [x_block m c t _ (ix2 ⟨t.val * 1024 + k.val, hl⟩ (i 0)) rfl rfl, g_block m c t (i 0), d_block m c t (ix2 k (i 1)) (ix2 ⟨t.val * 1024 + k.val, hl⟩ (i 1)) rfl rfl, q_block m c t (ix2 k (i 1)) (ix2 ⟨t.val * 1024 + k.val, hl⟩ (i 1)) rfl rfl]
  rfl

/-- The projection's gradient after the last point. -/
theorem dwp_sum (c : Dev nD) (t : Fin cfg0.N) (ht : t.val = 15) (i : S256x1024.Idx) :
    (outsAt0 m c t.val t.isLt).2.2.2.2 i = Cert.EmbedReferenceIdeal.Read.val_main_v63 (F := Ideal) (Arg0 m c) (Arg1 m c) (Arg2 m c) (Arg3 m c) (Arg5 m c) i := by
  have hN : cfg0.N = 16 := N_0
  rw [Cert.EmbedReferenceIdeal.ref_dwp]
  have s := Pipeline.eq_sum_fin_of_reset_step_apply_last (fun n h => (outsAt0 m c n h).2.2.2.2) 16 (fun _ => (0 : EReal)) (fun t y => dwpAdd m c t y)
    (fun t h y => by rw [zero_add]; exact dwp_first m c t h y) (fun t h y => dwp_next m c t h y) (le_of_eq hN) t (by omega) i
  rw [zero_add] at s
  refine s.trans ?_
  show (_ : EReal) = _
  unfold dwpAdd dwpOf
  refine Fin.sum_mul_add_congr (S := cfg0.N) (n := 1024) (L := 16384) (fun t k hl => ?_) (by rw [hN])
  rw [p_block m c t k (i 0) ⟨t.val * 1024 + k.val, hl⟩ rfl, d_block m c t _ (ix2 ⟨t.val * 1024 + k.val, hl⟩ (i 1)) rfl rfl, a_block m c t _ (ix2 ⟨t.val * 1024 + k.val, hl⟩ (i 1)) rfl rfl]

/-- A window's array does not depend on the invariant. -/
theorem arr_with {c : Dev nD} (d : Dat τ (Elt Ideal) Unit ℕ (Pipeline.UD sig nD τ) ℕ cfg0 c) (P : Fin (cfg0.N + 1) → _) (w : Fin cfg0.W) (n : ℕ) :
    ({ d with Φ := P } : Dat τ (Elt Ideal) Unit ℕ (Pipeline.UD sig nD τ) ℕ cfg0 c).arrAt w n = d.arrAt w n := by
  induction n with
  | zero => rfl
  | succ n ih =>
    simp only [Dat.arrAt]
    rw [ih]

/-- After the run the input's gradient is its window's array, -/
theorem post_dx (r : PUnit × MemSt nD τ sig (Elt Ideal)) (h : Pipeline.FramePostRG cfgs (Cert.EmbedKernelIdeal.Last.dats' m) 0 R0 (V m) (Cert.EmbedKernelIdeal.Last.hbG m) r) (c : Dev nD) : r.2.mem ((c : Thread nD τ).loc main_v34_0) = (dats m 0 c).arrAt 7 cfg0.N := by
  have e := (h.toR c).1 7
  exact Eq.trans e (arr_with (dats m 0 c) _ 7 cfg0.N)
/-- the gain's gradient its window's, -/
theorem post_dg (r : PUnit × MemSt nD τ sig (Elt Ideal)) (h : Pipeline.FramePostRG cfgs (Cert.EmbedKernelIdeal.Last.dats' m) 0 R0 (V m) (Cert.EmbedKernelIdeal.Last.hbG m) r) (c : Dev nD) : r.2.mem ((c : Thread nD τ).loc main_v34_1) = (dats m 0 c).arrAt 8 cfg0.N := by
  have e := (h.toR c).1 8
  exact Eq.trans e (arr_with (dats m 0 c) _ 8 cfg0.N)
/-- and each weight's gradient what the last point accumulated. -/
theorem post_dwg (r : PUnit × MemSt nD τ sig (Elt Ideal)) (h : Pipeline.FramePostRG cfgs (Cert.EmbedKernelIdeal.Last.dats' m) 0 R0 (V m) (Cert.EmbedKernelIdeal.Last.hbG m) r) (c : Dev nD) : r.2.mem ((c : Thread nD τ).loc main_v34_2) = Cert.EmbedReferenceIdeal.Read.val_main_v62 (F := Ideal) (Arg0 m c) (Arg1 m c) (Arg2 m c) (Arg3 m c) (Arg4 m c) (Arg5 m c) := by
  have e := (h.written c (by decide : main_v34_2 ∈ R0)).trans (Cert.EmbedKernelIdeal.Last.hbG_2 m c)
  refine Eq.trans e ?_
  funext i
  exact dwg_sum m c ⟨15, Cert.EmbedKernelIdeal.Last.last_lt⟩ rfl i
@[inherit_doc post_dwg] theorem post_dwp (r : PUnit × MemSt nD τ sig (Elt Ideal)) (h : Pipeline.FramePostRG cfgs (Cert.EmbedKernelIdeal.Last.dats' m) 0 R0 (V m) (Cert.EmbedKernelIdeal.Last.hbG m) r) (c : Dev nD) : r.2.mem ((c : Thread nD τ).loc main_v34_3) = Cert.EmbedReferenceIdeal.Read.val_main_v63 (F := Ideal) (Arg0 m c) (Arg1 m c) (Arg2 m c) (Arg3 m c) (Arg5 m c) := by
  have e := (h.written c (by decide : main_v34_3 ∈ R0)).trans (Cert.EmbedKernelIdeal.Last.hbG_3 m c)
  refine Eq.trans e ?_
  funext i
  exact dwp_sum m c ⟨15, Cert.EmbedKernelIdeal.Last.last_lt⟩ rfl i

/-- The run: the four results are the reference's, where the arguments are real. -/
theorem run (ρ : Dev nD → PrngReg) (hx : ∀ c i, ∃ r : ℝ, Arg0 m c i = r) (hp : ∀ c i, ∃ r : ℝ, Arg1 m c i = r) (hg : ∀ c i, ∃ r : ℝ, Arg2 m c i = r)
    (hu : ∀ c i, ∃ r : ℝ, Arg3 m c i = r) (hz : ∀ c i, ∃ r : ℝ, Arg4 m c i = r) (hd : ∀ c i, ∃ r : ℝ, Arg5 m c i = r) :
    θ_run defs (onTc (τ := τ) (main (F := Ideal))) ⟨m, fun _ => 0, ρ⟩ fun r => ∀ c : Dev nD,
      r.2.mem ((c : Thread nD τ).loc main_v34_0) = Cert.EmbedReferenceIdeal.Read.val_main_v58 (F := Ideal) (Arg0 m c) (Arg1 m c) (Arg2 m c) (Arg3 m c) (Arg4 m c) (Arg5 m c)
      ∧ r.2.mem ((c : Thread nD τ).loc main_v34_1) = Cert.EmbedReferenceIdeal.Read.val_main_v61 (F := Ideal) (Arg0 m c) (Arg1 m c) (Arg2 m c) (Arg3 m c) (Arg4 m c) (Arg5 m c)
      ∧ r.2.mem ((c : Thread nD τ).loc main_v34_2) = Cert.EmbedReferenceIdeal.Read.val_main_v62 (F := Ideal) (Arg0 m c) (Arg1 m c) (Arg2 m c) (Arg3 m c) (Arg4 m c) (Arg5 m c)
      ∧ r.2.mem ((c : Thread nD τ).loc main_v34_3) = Cert.EmbedReferenceIdeal.Read.val_main_v63 (F := Ideal) (Arg0 m c) (Arg1 m c) (Arg2 m c) (Arg3 m c) (Arg5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post_dx m r h.2 c).trans (final_dx m c (hx c) (hp c) (hg c) (hu c) (hz c) (hd c)), (post_dg m r h.2 c).trans (final_dg m c),
      post_dwg m r h.2 c, post_dwp m r h.2 c, h.1 c⟩)
    (θ_run_and (unchanged m ρ) (Cert.EmbedKernelIdeal.Last.run_main' m ρ))

end Cert.EmbedKernelIdeal.Value
-- ==== Proof.EmbedPre.lean ====
module

public import proofs.«01_k».proof.Pre_embed_finite
public import proofs.«01_k».proof.Proof.InputPre

@[expose] public section

set_option maxRecDepth 16384

/-! # The precondition of the embedding call's value claim: every argument is a real number -/

noncomputable section

open Idealize.ShloMosaic

namespace Cert.Pre_embed_finite

instance facts : Facts where
  bcast_S_S16384x1024 := by decide
  reducesTo_S16384x1024_S_d0_1 := by decide
  h_S_ := by decide
  bcast_S_S4x16384x256 := by decide
  reducesTo_S4x16384x256_S_d0_1_2 := by decide
  bcast_S_S1024 := by decide
  reducesTo_S1024_S_d0 := by decide
  bcast_S_S1024x1024 := by decide
  reducesTo_S1024x1024_S_d0_1 := by decide
  bcast_S_S256x1024 := by decide
  reducesTo_S256x1024_S_d0_1 := by decide

open Facts
open Cert.Pre_inputs_finite (real_of_abs_lt)

instance : Subsingleton S_.Idx := ⟨fun a b => funext fun k => k.elim0⟩

/-- The predicate read back. -/
theorem reals {x : FVec Ideal S16384x1024 .f32} {p : FVec Ideal S4x16384x256 .f32} {g : FVec Ideal S1024 .f32} {u : FVec Ideal S1024x1024 .f32}
    {z : FVec Ideal S256x1024 .f32} {d : FVec Ideal S16384x1024 .f32} (h : fn (F := Ideal) x p g u z d = fun _ => 1#1) :
    (∀ i, ∃ r : ℝ, x i = r) ∧ (∀ i, ∃ r : ℝ, p i = r) ∧ (∀ i, ∃ r : ℝ, g i = r) ∧ (∀ i, ∃ r : ℝ, u i = r) ∧ (∀ i, ∃ r : ℝ, z i = r)
      ∧ (∀ i, ∃ r : ℝ, d i = r) := by
  have h0 := congrFun h (Shape.Idx.first h_S_)
  simp only [fn, fn_part1, andi, IntOp.andi_eq_one] at h0
  obtain ⟨⟨⟨⟨⟨hx, hp⟩, hg⟩, hu⟩, hz⟩, hd⟩ := h0
  exact ⟨fun i => real_of_abs_lt (Host.reduce_andi_all _ _ _ _ _ hx i), fun i => real_of_abs_lt (Host.reduce_andi_all _ _ _ _ _ hp i),
    fun i => real_of_abs_lt (Host.reduce_andi_all _ _ _ _ _ hg i), fun i => real_of_abs_lt (Host.reduce_andi_all _ _ _ _ _ hu i),
    fun i => real_of_abs_lt (Host.reduce_andi_all _ _ _ _ _ hz i), fun i => real_of_abs_lt (Host.reduce_andi_all _ _ _ _ _ hd i)⟩

end Cert.Pre_embed_finite
-- ==== Proof.EmbedClaims.lean ====
module

public import proofs.«01_k».proof.Proof.EmbedFinal
public import proofs.«01_k».proof.Proof.EmbedPre
public import proofs.«01_k».proof.Proof.Gen.EmbedKernel.Frame
public import proofs.«01_k».proof.Proof.Gen.EmbedReferenceIdeal.Run
public import proofs.«01_k».proof.Defs

@[expose] public section

set_option maxRecDepth 16384

/-! # The embedding layer's backward call: its claims

The kernel runs without a fault and leaves its arguments; so do its value form and the reference; and, where the arguments
are finite, the value form's four results, the gradients of the input, of the gain, of the gate's weight and of the projection, are the
reference's. -/

noncomputable section

open Idealize.ShloMosaic Idealize.ShloMosaic.TcCoe Idealize.SL.Sem

namespace Cert.EmbedClaims

theorem frame_ideal : Cert.quiescent_EmbedKernelIdeal := fun m ρ _ => Cert.EmbedKernelIdeal.Gen.frame m ρ

theorem frame_ideal_finite : Cert.quiescent_EmbedKernelIdeal_pre_embed_finite := fun m ρ _ => Cert.EmbedKernelIdeal.Gen.frame m ρ

theorem frame_kernel : Cert.quiescent_EmbedKernel := fun m ρ _ => Cert.EmbedKernel.Gen.frame m ρ

theorem frame_reference : Cert.quiescent_EmbedReferenceIdeal := fun m ρ _ =>
  (θ_run Cert.EmbedReferenceIdeal.defs _ _).mono (fun r h => ⟨fun c => (h c).2.2.2.2, sem_eq_zero_of_no_sems (by decide) r.2⟩)
    (Cert.EmbedReferenceIdeal.Value.run (F := Ideal) m ρ)

theorem frame_reference_finite : Cert.quiescent_EmbedReferenceIdeal_pre_embed_finite := fun m ρ _ => frame_reference m ρ trivial

theorem values : Cert.algebraic_EmbedKernelIdeal_EmbedReferenceIdeal_pre_embed_finite := by
  pair_intro
  · run_from Cert.EmbedKernelIdeal.Value.run m g (fun c => (Cert.Pre_embed_finite.reals (hpre c)).1)
      (fun c => (Cert.Pre_embed_finite.reals (hpre c)).2.1)
      (fun c => (Cert.Pre_embed_finite.reals (hpre c)).2.2.1)
      (fun c => (Cert.Pre_embed_finite.reals (hpre c)).2.2.2.1)
      (fun c => (Cert.Pre_embed_finite.reals (hpre c)).2.2.2.2.1)
      (fun c => (Cert.Pre_embed_finite.reals (hpre c)).2.2.2.2.2)
  · hlo_run
    all_goals rfl

end Cert.EmbedClaims
-- ==== Proof.lean ====
module

public import proofs.«01_k».proof.Proof.HiddenClaims
public import proofs.«01_k».proof.Proof.InputClaims
public import proofs.«01_k».proof.Proof.ForwardClaims
public import proofs.«01_k».proof.Proof.EmbedClaims
public import proofs.«01_k».proof.Proof.Gen.HiddenKernel.Frame
public import proofs.«01_k».proof.Proof.Gen.HiddenKernelIdeal.Value
public import proofs.«01_k».proof.Proof.Gen.HiddenReferenceIdeal.Run
public import proofs.«01_k».proof.Proof.Gen.HiddenReferenceIdeal.Read
public import proofs.«01_k».proof.Proof.Gen.InputKernel.Frame
public import proofs.«01_k».proof.Proof.Gen.InputKernelIdeal.Value
public import proofs.«01_k».proof.Proof.Gen.InputReferenceIdeal.Run
public import proofs.«01_k».proof.Proof.Gen.InputReferenceIdeal.Read
public import proofs.«01_k».proof.Proof.Gen.ForwardKernel.Frame
public import proofs.«01_k».proof.Proof.Gen.ForwardKernelIdeal.Frame
public import proofs.«01_k».proof.Proof.Gen.ForwardReferenceIdeal.Run
public import proofs.«01_k».proof.Proof.Gen.ForwardReferenceIdeal.Read
public import proofs.«01_k».proof.Proof.Gen.EmbedKernel.Frame
public import proofs.«01_k».proof.Proof.Gen.EmbedKernelIdeal.Frame
public import proofs.«01_k».proof.Proof.Gen.EmbedReferenceIdeal.Run
public import proofs.«01_k».proof.Proof.Gen.EmbedReferenceIdeal.Read
public import proofs.«01_k».proof.Defs
public import Idealize.ShloMosaic.Adequacy
public import Idealize.ShloMosaic.Init

@[expose] public section

noncomputable section

/-- The claims: every program runs and keeps its arguments, the value form is the printed kernel, and its results are the reference's. -/
theorem Cert.Proof.claim : Cert.Claim :=
  ⟨inferInstance, inferInstance, inferInstance, inferInstance, inferInstance, inferInstance, inferInstance, inferInstance,
    inferInstance, inferInstance, inferInstance, inferInstance, inferInstance, inferInstance,
    Cert.HiddenClaims.frame_kernel, Cert.HiddenClaims.frame_ideal, Cert.HiddenClaims.frame_reference,
    Cert.InputClaims.frame_kernel, Cert.InputClaims.frame_ideal, Cert.InputClaims.frame_ideal_finite,
    Cert.InputClaims.frame_reference, Cert.InputClaims.frame_reference_finite,
    Cert.ForwardClaims.frame_kernel, Cert.ForwardClaims.frame_ideal, Cert.ForwardClaims.frame_reference,
    Cert.EmbedClaims.frame_kernel, Cert.EmbedClaims.frame_ideal, Cert.EmbedClaims.frame_ideal_finite,
    Cert.EmbedClaims.frame_reference, Cert.EmbedClaims.frame_reference_finite,
    trivial, Cert.HiddenClaims.values, trivial, Cert.InputClaims.values, trivial, Cert.ForwardClaims.values,
    trivial, Cert.EmbedClaims.values⟩
